-- ==== Defs.lean ====
def Pre_ExchangeX (m : (ℓ : Loc Cert.ExchangeX.nD Cert.ExchangeX.τ Cert.ExchangeX.sig) → Buf (Elt Bits) ℓ) : Prop :=
  True

def Pre_ExchangeXIdeal (m : (ℓ : Loc Cert.ExchangeXIdeal.nD Cert.ExchangeXIdeal.τ Cert.ExchangeXIdeal.sig) → Buf (Elt Ideal) ℓ) : Prop :=
  True

def Pre_SwapXIdeal (m : (ℓ : Loc Cert.SwapXIdeal.nD Cert.SwapXIdeal.τ Cert.SwapXIdeal.sig) → Buf (Elt Ideal) ℓ) : Prop :=
  True

def Pre_ExchangeY (m : (ℓ : Loc Cert.ExchangeY.nD Cert.ExchangeY.τ Cert.ExchangeY.sig) → Buf (Elt Bits) ℓ) : Prop :=
  True

def Pre_ExchangeYIdeal (m : (ℓ : Loc Cert.ExchangeYIdeal.nD Cert.ExchangeYIdeal.τ Cert.ExchangeYIdeal.sig) → Buf (Elt Ideal) ℓ) : Prop :=
  True

def Pre_SwapYIdeal (m : (ℓ : Loc Cert.SwapYIdeal.nD Cert.SwapYIdeal.τ Cert.SwapYIdeal.sig) → Buf (Elt Ideal) ℓ) : Prop :=
  True

def Pre_ExchangeBack (m : (ℓ : Loc Cert.ExchangeBack.nD Cert.ExchangeBack.τ Cert.ExchangeBack.sig) → Buf (Elt Bits) ℓ) : Prop :=
  True

def Pre_ExchangeBackIdeal (m : (ℓ : Loc Cert.ExchangeBackIdeal.nD Cert.ExchangeBackIdeal.τ Cert.ExchangeBackIdeal.sig) → Buf (Elt Ideal) ℓ) : Prop :=
  True

def Pre_SwapBackIdeal (m : (ℓ : Loc Cert.SwapBackIdeal.nD Cert.SwapBackIdeal.τ Cert.SwapBackIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_PerceptronsIdeal (m : (ℓ : Loc Cert.PerceptronsIdeal.nD Cert.PerceptronsIdeal.τ Cert.PerceptronsIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_SlotSumsIdeal (m : (ℓ : Loc Cert.SlotSumsIdeal.nD Cert.SlotSumsIdeal.τ Cert.SlotSumsIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_SlotReadsIdeal (m : (ℓ : Loc Cert.SlotReadsIdeal.nD Cert.SlotReadsIdeal.τ Cert.SlotReadsIdeal.sig) → Buf (Elt Ideal) ℓ) : Prop :=
  True

def Pre_LayerEnd (m : (ℓ : Loc Cert.LayerEnd.nD Cert.LayerEnd.τ Cert.LayerEnd.sig) → Buf (Elt Bits) ℓ) : Prop :=
  True

def Pre_LayerEndIdeal (m : (ℓ : Loc Cert.LayerEndIdeal.nD Cert.LayerEndIdeal.τ Cert.LayerEndIdeal.sig) → Buf (Elt Ideal) ℓ) : Prop :=
  True

def Pre_PairSumsIdeal (m : (ℓ : Loc Cert.PairSumsIdeal.nD Cert.PairSumsIdeal.τ Cert.PairSumsIdeal.sig) → Buf (Elt Ideal) ℓ) : Prop :=
  True

def quiescent_ExchangeX [hExchangeX : Cert.ExchangeX.Facts] : Prop :=
  ∀ (m : (ℓ : Loc Cert.ExchangeX.nD Cert.ExchangeX.τ Cert.ExchangeX.sig) → Buf (Elt Bits) ℓ) (g : Dev Cert.ExchangeX.nD → PrngReg), Pre_ExchangeX m →
    θ_run (Cert.ExchangeX.defs (F := Bits)) (onTc (τ := Cert.ExchangeX.τ) (Cert.ExchangeX.main (F := Bits))) ⟨m, fun _ => 0, g⟩ (fun r => (∀ c : Dev Cert.ExchangeX.nD,
      r.2.mem ((c.tc : Thread Cert.ExchangeX.nD Cert.ExchangeX.τ).loc Cert.ExchangeX.main_arg0) = m ((c.tc : Thread Cert.ExchangeX.nD Cert.ExchangeX.τ).loc Cert.ExchangeX.main_arg0)
      ∧ r.2.mem ((c.tc : Thread Cert.ExchangeX.nD Cert.ExchangeX.τ).loc Cert.ExchangeX.main_arg1) = m ((c.tc : Thread Cert.ExchangeX.nD Cert.ExchangeX.τ).loc Cert.ExchangeX.main_arg1))
      ∧ r.2.sem = fun _ => 0)

def quiescent_ExchangeXIdeal [hExchangeXIdeal : Cert.ExchangeXIdeal.Facts] : Prop :=
  ∀ (m : (ℓ : Loc Cert.ExchangeXIdeal.nD Cert.ExchangeXIdeal.τ Cert.ExchangeXIdeal.sig) → Buf (Elt Ideal) ℓ) (g : Dev Cert.ExchangeXIdeal.nD → PrngReg), Pre_ExchangeXIdeal m →
    θ_run (Cert.ExchangeXIdeal.defs (F := Ideal)) (onTc (τ := Cert.ExchangeXIdeal.τ) (Cert.ExchangeXIdeal.main (F := Ideal))) ⟨m, fun _ => 0, g⟩ (fun r => (∀ c : Dev Cert.ExchangeXIdeal.nD,
      r.2.mem ((c.tc : Thread Cert.ExchangeXIdeal.nD Cert.ExchangeXIdeal.τ).loc Cert.ExchangeXIdeal.main_arg0) = m ((c.tc : Thread Cert.ExchangeXIdeal.nD Cert.ExchangeXIdeal.τ).loc Cert.ExchangeXIdeal.main_arg0)
      ∧ r.2.mem ((c.tc : Thread Cert.ExchangeXIdeal.nD Cert.ExchangeXIdeal.τ).loc Cert.ExchangeXIdeal.main_arg1) = m ((c.tc : Thread Cert.ExchangeXIdeal.nD Cert.ExchangeXIdeal.τ).loc Cert.ExchangeXIdeal.main_arg1))
      ∧ r.2.sem = fun _ => 0)

def quiescent_SwapXIdeal [hSwapXIdeal : Cert.SwapXIdeal.Facts] : Prop :=
  ∀ (m : (ℓ : Loc Cert.SwapXIdeal.nD Cert.SwapXIdeal.τ Cert.SwapXIdeal.sig) → Buf (Elt Ideal) ℓ) (g : Dev Cert.SwapXIdeal.nD → PrngReg), Pre_SwapXIdeal m →
    θ_run (Cert.SwapXIdeal.defs (F := Ideal)) (onTc (τ := Cert.SwapXIdeal.τ) (Cert.SwapXIdeal.main (F := Ideal))) ⟨m, fun _ => 0, g⟩ (fun r => (∀ c : Dev Cert.SwapXIdeal.nD,
      r.2.mem ((c.tc : Thread Cert.SwapXIdeal.nD Cert.SwapXIdeal.τ).loc Cert.SwapXIdeal.main_arg0) = m ((c.tc : Thread Cert.SwapXIdeal.nD Cert.SwapXIdeal.τ).loc Cert.SwapXIdeal.main_arg0)
      ∧ r.2.mem ((c.tc : Thread Cert.SwapXIdeal.nD Cert.SwapXIdeal.τ).loc Cert.SwapXIdeal.main_arg1) = m ((c.tc : Thread Cert.SwapXIdeal.nD Cert.SwapXIdeal.τ).loc Cert.SwapXIdeal.main_arg1))
      ∧ r.2.sem = fun _ => 0)

def quiescent_ExchangeY [hExchangeY : Cert.ExchangeY.Facts] : Prop :=
  ∀ (m : (ℓ : Loc Cert.ExchangeY.nD Cert.ExchangeY.τ Cert.ExchangeY.sig) → Buf (Elt Bits) ℓ) (g : Dev Cert.ExchangeY.nD → PrngReg), Pre_ExchangeY m →
    θ_run (Cert.ExchangeY.defs (F := Bits)) (onTc (τ := Cert.ExchangeY.τ) (Cert.ExchangeY.main (F := Bits))) ⟨m, fun _ => 0, g⟩ (fun r => (∀ c : Dev Cert.ExchangeY.nD,
      r.2.mem ((c.tc : Thread Cert.ExchangeY.nD Cert.ExchangeY.τ).loc Cert.ExchangeY.main_arg0) = m ((c.tc : Thread Cert.ExchangeY.nD Cert.ExchangeY.τ).loc Cert.ExchangeY.main_arg0))
      ∧ r.2.sem = fun _ => 0)

def quiescent_ExchangeYIdeal [hExchangeYIdeal : Cert.ExchangeYIdeal.Facts] : Prop :=
  ∀ (m : (ℓ : Loc Cert.ExchangeYIdeal.nD Cert.ExchangeYIdeal.τ Cert.ExchangeYIdeal.sig) → Buf (Elt Ideal) ℓ) (g : Dev Cert.ExchangeYIdeal.nD → PrngReg), Pre_ExchangeYIdeal m →
    θ_run (Cert.ExchangeYIdeal.defs (F := Ideal)) (onTc (τ := Cert.ExchangeYIdeal.τ) (Cert.ExchangeYIdeal.main (F := Ideal))) ⟨m, fun _ => 0, g⟩ (fun r => (∀ c : Dev Cert.ExchangeYIdeal.nD,
      r.2.mem ((c.tc : Thread Cert.ExchangeYIdeal.nD Cert.ExchangeYIdeal.τ).loc Cert.ExchangeYIdeal.main_arg0) = m ((c.tc : Thread Cert.ExchangeYIdeal.nD Cert.ExchangeYIdeal.τ).loc Cert.ExchangeYIdeal.main_arg0))
      ∧ r.2.sem = fun _ => 0)

def quiescent_SwapYIdeal [hSwapYIdeal : Cert.SwapYIdeal.Facts] : Prop :=
  ∀ (m : (ℓ : Loc Cert.SwapYIdeal.nD Cert.SwapYIdeal.τ Cert.SwapYIdeal.sig) → Buf (Elt Ideal) ℓ) (g : Dev Cert.SwapYIdeal.nD → PrngReg), Pre_SwapYIdeal m →
    θ_run (Cert.SwapYIdeal.defs (F := Ideal)) (onTc (τ := Cert.SwapYIdeal.τ) (Cert.SwapYIdeal.main (F := Ideal))) ⟨m, fun _ => 0, g⟩ (fun r => (∀ c : Dev Cert.SwapYIdeal.nD,
      r.2.mem ((c.tc : Thread Cert.SwapYIdeal.nD Cert.SwapYIdeal.τ).loc Cert.SwapYIdeal.main_arg0) = m ((c.tc : Thread Cert.SwapYIdeal.nD Cert.SwapYIdeal.τ).loc Cert.SwapYIdeal.main_arg0))
      ∧ r.2.sem = fun _ => 0)

def quiescent_ExchangeBack [hExchangeBack : Cert.ExchangeBack.Facts] : Prop :=
  ∀ (m : (ℓ : Loc Cert.ExchangeBack.nD Cert.ExchangeBack.τ Cert.ExchangeBack.sig) → Buf (Elt Bits) ℓ) (g : Dev Cert.ExchangeBack.nD → PrngReg), Pre_ExchangeBack m →
    θ_run (Cert.ExchangeBack.defs (F := Bits)) (onTc (τ := Cert.ExchangeBack.τ) (Cert.ExchangeBack.main (F := Bits))) ⟨m, fun _ => 0, g⟩ (fun r => (∀ c : Dev Cert.ExchangeBack.nD,
      r.2.mem ((c.tc : Thread Cert.ExchangeBack.nD Cert.ExchangeBack.τ).loc Cert.ExchangeBack.main_arg0) = m ((c.tc : Thread Cert.ExchangeBack.nD Cert.ExchangeBack.τ).loc Cert.ExchangeBack.main_arg0))
      ∧ r.2.sem = fun _ => 0)

def quiescent_ExchangeBackIdeal [hExchangeBackIdeal : Cert.ExchangeBackIdeal.Facts] : Prop :=
  ∀ (m : (ℓ : Loc Cert.ExchangeBackIdeal.nD Cert.ExchangeBackIdeal.τ Cert.ExchangeBackIdeal.sig) → Buf (Elt Ideal) ℓ) (g : Dev Cert.ExchangeBackIdeal.nD → PrngReg), Pre_ExchangeBackIdeal m →
    θ_run (Cert.ExchangeBackIdeal.defs (F := Ideal)) (onTc (τ := Cert.ExchangeBackIdeal.τ) (Cert.ExchangeBackIdeal.main (F := Ideal))) ⟨m, fun _ => 0, g⟩ (fun r => (∀ c : Dev Cert.ExchangeBackIdeal.nD,
      r.2.mem ((c.tc : Thread Cert.ExchangeBackIdeal.nD Cert.ExchangeBackIdeal.τ).loc Cert.ExchangeBackIdeal.main_arg0) = m ((c.tc : Thread Cert.ExchangeBackIdeal.nD Cert.ExchangeBackIdeal.τ).loc Cert.ExchangeBackIdeal.main_arg0))
      ∧ r.2.sem = fun _ => 0)

def quiescent_SwapBackIdeal [hSwapBackIdeal : Cert.SwapBackIdeal.Facts] : Prop :=
  ∀ (m : (ℓ : Loc Cert.SwapBackIdeal.nD Cert.SwapBackIdeal.τ Cert.SwapBackIdeal.sig) → Buf (Elt Ideal) ℓ) (g : Dev Cert.SwapBackIdeal.nD → PrngReg), Pre_SwapBackIdeal m →
    θ_run (Cert.SwapBackIdeal.defs (F := Ideal)) (onTc (τ := Cert.SwapBackIdeal.τ) (Cert.SwapBackIdeal.main (F := Ideal))) ⟨m, fun _ => 0, g⟩ (fun r => (∀ c : Dev Cert.SwapBackIdeal.nD,
      r.2.mem ((c.tc : Thread Cert.SwapBackIdeal.nD Cert.SwapBackIdeal.τ).loc Cert.SwapBackIdeal.main_arg0) = m ((c.tc : Thread Cert.SwapBackIdeal.nD Cert.SwapBackIdeal.τ).loc Cert.SwapBackIdeal.main_arg0))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2))
      ∧ r.2.sem = fun _ => 0)

def quiescent_PerceptronsIdeal [hPerceptronsIdeal : Cert.PerceptronsIdeal.Facts] : Prop :=
  ∀ (m : (ℓ : Loc Cert.PerceptronsIdeal.nD Cert.PerceptronsIdeal.τ Cert.PerceptronsIdeal.sig) → Buf (Elt Ideal) ℓ) (g : Dev Cert.PerceptronsIdeal.nD → PrngReg), Pre_PerceptronsIdeal m →
    θ_run (Cert.PerceptronsIdeal.defs (F := Ideal)) (onTc (τ := Cert.PerceptronsIdeal.τ) (Cert.PerceptronsIdeal.main (F := Ideal))) ⟨m, fun _ => 0, g⟩ (fun r => (∀ c : Dev Cert.PerceptronsIdeal.nD,
      r.2.mem ((c.tc : Thread Cert.PerceptronsIdeal.nD Cert.PerceptronsIdeal.τ).loc Cert.PerceptronsIdeal.main_arg0) = m ((c.tc : Thread Cert.PerceptronsIdeal.nD Cert.PerceptronsIdeal.τ).loc Cert.PerceptronsIdeal.main_arg0)
      ∧ r.2.mem ((c.tc : Thread Cert.PerceptronsIdeal.nD Cert.PerceptronsIdeal.τ).loc Cert.PerceptronsIdeal.main_arg1) = m ((c.tc : Thread Cert.PerceptronsIdeal.nD Cert.PerceptronsIdeal.τ).loc Cert.PerceptronsIdeal.main_arg1)
      ∧ r.2.mem ((c.tc : Thread Cert.PerceptronsIdeal.nD Cert.PerceptronsIdeal.τ).loc Cert.PerceptronsIdeal.main_arg2) = m ((c.tc : Thread Cert.PerceptronsIdeal.nD Cert.PerceptronsIdeal.τ).loc Cert.PerceptronsIdeal.main_arg2))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_SlotSumsIdeal [hSlotSumsIdeal : Cert.SlotSumsIdeal.Facts] : Prop :=
  ∀ (m : (ℓ : Loc Cert.SlotSumsIdeal.nD Cert.SlotSumsIdeal.τ Cert.SlotSumsIdeal.sig) → Buf (Elt Ideal) ℓ) (g : Dev Cert.SlotSumsIdeal.nD → PrngReg), Pre_SlotSumsIdeal m →
    θ_run (Cert.SlotSumsIdeal.defs (F := Ideal)) (onTc (τ := Cert.SlotSumsIdeal.τ) (Cert.SlotSumsIdeal.main (F := Ideal))) ⟨m, fun _ => 0, g⟩ (fun r => (∀ c : Dev Cert.SlotSumsIdeal.nD,
      r.2.mem ((c.tc : Thread Cert.SlotSumsIdeal.nD Cert.SlotSumsIdeal.τ).loc Cert.SlotSumsIdeal.main_arg0) = m ((c.tc : Thread Cert.SlotSumsIdeal.nD Cert.SlotSumsIdeal.τ).loc Cert.SlotSumsIdeal.main_arg0)
      ∧ r.2.mem ((c.tc : Thread Cert.SlotSumsIdeal.nD Cert.SlotSumsIdeal.τ).loc Cert.SlotSumsIdeal.main_arg1) = m ((c.tc : Thread Cert.SlotSumsIdeal.nD Cert.SlotSumsIdeal.τ).loc Cert.SlotSumsIdeal.main_arg1)
      ∧ r.2.mem ((c.tc : Thread Cert.SlotSumsIdeal.nD Cert.SlotSumsIdeal.τ).loc Cert.SlotSumsIdeal.main_arg2) = m ((c.tc : Thread Cert.SlotSumsIdeal.nD Cert.SlotSumsIdeal.τ).loc Cert.SlotSumsIdeal.main_arg2)
      ∧ r.2.mem ((c.tc : Thread Cert.SlotSumsIdeal.nD Cert.SlotSumsIdeal.τ).loc Cert.SlotSumsIdeal.main_arg3) = m ((c.tc : Thread Cert.SlotSumsIdeal.nD Cert.SlotSumsIdeal.τ).loc Cert.SlotSumsIdeal.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ r.2.sem = fun _ => 0)

def quiescent_SlotReadsIdeal [hSlotReadsIdeal : Cert.SlotReadsIdeal.Facts] : Prop :=
  ∀ (m : (ℓ : Loc Cert.SlotReadsIdeal.nD Cert.SlotReadsIdeal.τ Cert.SlotReadsIdeal.sig) → Buf (Elt Ideal) ℓ) (g : Dev Cert.SlotReadsIdeal.nD → PrngReg), Pre_SlotReadsIdeal m →
    θ_run (Cert.SlotReadsIdeal.defs (F := Ideal)) (onTc (τ := Cert.SlotReadsIdeal.τ) (Cert.SlotReadsIdeal.main (F := Ideal))) ⟨m, fun _ => 0, g⟩ (fun r => (∀ c : Dev Cert.SlotReadsIdeal.nD,
      r.2.mem ((c.tc : Thread Cert.SlotReadsIdeal.nD Cert.SlotReadsIdeal.τ).loc Cert.SlotReadsIdeal.main_arg0) = m ((c.tc : Thread Cert.SlotReadsIdeal.nD Cert.SlotReadsIdeal.τ).loc Cert.SlotReadsIdeal.main_arg0)
      ∧ r.2.mem ((c.tc : Thread Cert.SlotReadsIdeal.nD Cert.SlotReadsIdeal.τ).loc Cert.SlotReadsIdeal.main_arg1) = m ((c.tc : Thread Cert.SlotReadsIdeal.nD Cert.SlotReadsIdeal.τ).loc Cert.SlotReadsIdeal.main_arg1)
      ∧ r.2.mem ((c.tc : Thread Cert.SlotReadsIdeal.nD Cert.SlotReadsIdeal.τ).loc Cert.SlotReadsIdeal.main_arg2) = m ((c.tc : Thread Cert.SlotReadsIdeal.nD Cert.SlotReadsIdeal.τ).loc Cert.SlotReadsIdeal.main_arg2))
      ∧ r.2.sem = fun _ => 0)

def quiescent_LayerEnd [hLayerEnd : Cert.LayerEnd.Facts] : Prop :=
  ∀ (m : (ℓ : Loc Cert.LayerEnd.nD Cert.LayerEnd.τ Cert.LayerEnd.sig) → Buf (Elt Bits) ℓ) (g : Dev Cert.LayerEnd.nD → PrngReg), Pre_LayerEnd m →
    θ_run (Cert.LayerEnd.defs (F := Bits)) (onTc (τ := Cert.LayerEnd.τ) (Cert.LayerEnd.main (F := Bits))) ⟨m, fun _ => 0, g⟩ (fun r => (∀ c : Dev Cert.LayerEnd.nD,
      r.2.mem ((c.tc : Thread Cert.LayerEnd.nD Cert.LayerEnd.τ).loc Cert.LayerEnd.main_arg0) = m ((c.tc : Thread Cert.LayerEnd.nD Cert.LayerEnd.τ).loc Cert.LayerEnd.main_arg0)
      ∧ r.2.mem ((c.tc : Thread Cert.LayerEnd.nD Cert.LayerEnd.τ).loc Cert.LayerEnd.main_arg1) = m ((c.tc : Thread Cert.LayerEnd.nD Cert.LayerEnd.τ).loc Cert.LayerEnd.main_arg1)
      ∧ r.2.mem ((c.tc : Thread Cert.LayerEnd.nD Cert.LayerEnd.τ).loc Cert.LayerEnd.main_arg2) = m ((c.tc : Thread Cert.LayerEnd.nD Cert.LayerEnd.τ).loc Cert.LayerEnd.main_arg2))
      ∧ r.2.sem = fun _ => 0)

def quiescent_LayerEndIdeal [hLayerEndIdeal : Cert.LayerEndIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg), Pre_LayerEndIdeal m →
    θ_run (Cert.LayerEndIdeal.defs (F := Ideal)) (onTc (τ := Cert.LayerEndIdeal.τ) (Cert.LayerEndIdeal.main (F := Ideal))) ⟨m, fun _ => 0, g⟩ (fun r => (∀ c : Dev Cert.LayerEndIdeal.nD,
      r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
      ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
      ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2))
      ∧ r.2.sem = fun _ => 0)

def quiescent_PairSumsIdeal [hPairSumsIdeal : Cert.PairSumsIdeal.Facts] : Prop :=
  ∀ (m : (ℓ : Loc Cert.PairSumsIdeal.nD Cert.PairSumsIdeal.τ Cert.PairSumsIdeal.sig) → Buf (Elt Ideal) ℓ) (g : Dev Cert.PairSumsIdeal.nD → PrngReg), Pre_PairSumsIdeal m →
    θ_run (Cert.PairSumsIdeal.defs (F := Ideal)) (onTc (τ := Cert.PairSumsIdeal.τ) (Cert.PairSumsIdeal.main (F := Ideal))) ⟨m, fun _ => 0, g⟩ (fun r => (∀ c : Dev Cert.PairSumsIdeal.nD,
      r.2.mem ((c.tc : Thread Cert.PairSumsIdeal.nD Cert.PairSumsIdeal.τ).loc Cert.PairSumsIdeal.main_arg0) = m ((c.tc : Thread Cert.PairSumsIdeal.nD Cert.PairSumsIdeal.τ).loc Cert.PairSumsIdeal.main_arg0)
      ∧ r.2.mem ((c.tc : Thread Cert.PairSumsIdeal.nD Cert.PairSumsIdeal.τ).loc Cert.PairSumsIdeal.main_arg1) = m ((c.tc : Thread Cert.PairSumsIdeal.nD Cert.PairSumsIdeal.τ).loc Cert.PairSumsIdeal.main_arg1)
      ∧ r.2.mem ((c.tc : Thread Cert.PairSumsIdeal.nD Cert.PairSumsIdeal.τ).loc Cert.PairSumsIdeal.main_arg2) = m ((c.tc : Thread Cert.PairSumsIdeal.nD Cert.PairSumsIdeal.τ).loc Cert.PairSumsIdeal.main_arg2))
      ∧ r.2.sem = fun _ => 0)

def preserves_ExchangeX_ExchangeXIdeal : Prop :=
  True

def algebraic_ExchangeXIdeal_SwapXIdeal [hExchangeXIdeal : Cert.ExchangeXIdeal.Facts] [hSwapXIdeal : Cert.SwapXIdeal.Facts] : Prop :=
  ∀ (m : (ℓ : Loc Cert.ExchangeXIdeal.nD Cert.ExchangeXIdeal.τ Cert.ExchangeXIdeal.sig) → Buf (Elt Ideal) ℓ) (g : Dev Cert.ExchangeXIdeal.nD → PrngReg)
    (m' : (ℓ : Loc Cert.SwapXIdeal.nD Cert.SwapXIdeal.τ Cert.SwapXIdeal.sig) → Buf (Elt Ideal) ℓ) (g' : Dev Cert.SwapXIdeal.nD → PrngReg), Pre_ExchangeXIdeal m →
    (∀ c : Dev Cert.ExchangeXIdeal.nD,
      m ((c.tc : Thread Cert.ExchangeXIdeal.nD Cert.ExchangeXIdeal.τ).loc Cert.ExchangeXIdeal.main_arg0) = Layout.blockN ⟨2, ![4096, 2048]⟩ ⟨2, ![8192, 2048]⟩ (Layout.meshBlock [2, 2] ![[0], []] c) (m' (((0 : Dev Cert.SwapXIdeal.nD).tc : Thread Cert.SwapXIdeal.nD Cert.SwapXIdeal.τ).loc Cert.SwapXIdeal.main_arg0))
      ∧ m ((c.tc : Thread Cert.ExchangeXIdeal.nD Cert.ExchangeXIdeal.τ).loc Cert.ExchangeXIdeal.main_arg1) = Layout.blockN ⟨2, ![32, 128]⟩ ⟨2, ![64, 128]⟩ (Layout.meshBlock [2, 2] ![[0], []] c) (m' (((0 : Dev Cert.SwapXIdeal.nD).tc : Thread Cert.SwapXIdeal.nD Cert.SwapXIdeal.τ).loc Cert.SwapXIdeal.main_arg1))) →
    ∃ (v0 : Buf (Elt Ideal) (((0 : Dev Cert.SwapXIdeal.nD).tc : Thread Cert.SwapXIdeal.nD Cert.SwapXIdeal.τ).loc Cert.SwapXIdeal.main_v2)) (v1 : Buf (Elt Ideal) (((0 : Dev Cert.SwapXIdeal.nD).tc : Thread Cert.SwapXIdeal.nD Cert.SwapXIdeal.τ).loc Cert.SwapXIdeal.main_v5)),
      θ_run (Cert.ExchangeXIdeal.defs (F := Ideal)) (onTc (τ := Cert.ExchangeXIdeal.τ) (Cert.ExchangeXIdeal.main (F := Ideal))) ⟨m, fun _ => 0, g⟩ (fun r => ∀ c : Dev Cert.ExchangeXIdeal.nD,
          r.2.mem ((c.tc : Thread Cert.ExchangeXIdeal.nD Cert.ExchangeXIdeal.τ).loc Cert.ExchangeXIdeal.main_v1_0) = Layout.blockN ⟨2, ![4096, 2048]⟩ ⟨2, ![8192, 2048]⟩ (Layout.meshBlock [2, 2] ![[0], []] c) v0
          ∧ r.2.mem ((c.tc : Thread Cert.ExchangeXIdeal.nD Cert.ExchangeXIdeal.τ).loc Cert.ExchangeXIdeal.main_v1_1) = Layout.blockN ⟨2, ![32, 128]⟩ ⟨2, ![64, 128]⟩ (Layout.meshBlock [2, 2] ![[0], []] c) v1
          ∧ r.2.mem ((c.tc : Thread Cert.ExchangeXIdeal.nD Cert.ExchangeXIdeal.τ).loc Cert.ExchangeXIdeal.main_arg0) = m ((c.tc : Thread Cert.ExchangeXIdeal.nD Cert.ExchangeXIdeal.τ).loc Cert.ExchangeXIdeal.main_arg0)
          ∧ r.2.mem ((c.tc : Thread Cert.ExchangeXIdeal.nD Cert.ExchangeXIdeal.τ).loc Cert.ExchangeXIdeal.main_arg1) = m ((c.tc : Thread Cert.ExchangeXIdeal.nD Cert.ExchangeXIdeal.τ).loc Cert.ExchangeXIdeal.main_arg1))
      ∧ θ_run (Cert.SwapXIdeal.defs (F := Ideal)) (onTc (τ := Cert.SwapXIdeal.τ) (Cert.SwapXIdeal.main (F := Ideal))) ⟨m', fun _ => 0, g'⟩ (fun r =>
          r.2.mem (((0 : Dev Cert.SwapXIdeal.nD).tc : Thread Cert.SwapXIdeal.nD Cert.SwapXIdeal.τ).loc Cert.SwapXIdeal.main_v2) = v0
          ∧ r.2.mem (((0 : Dev Cert.SwapXIdeal.nD).tc : Thread Cert.SwapXIdeal.nD Cert.SwapXIdeal.τ).loc Cert.SwapXIdeal.main_v5) = v1
          ∧ r.2.mem (((0 : Dev Cert.SwapXIdeal.nD).tc : Thread Cert.SwapXIdeal.nD Cert.SwapXIdeal.τ).loc Cert.SwapXIdeal.main_arg0) = m' (((0 : Dev Cert.SwapXIdeal.nD).tc : Thread Cert.SwapXIdeal.nD Cert.SwapXIdeal.τ).loc Cert.SwapXIdeal.main_arg0)
          ∧ r.2.mem (((0 : Dev Cert.SwapXIdeal.nD).tc : Thread Cert.SwapXIdeal.nD Cert.SwapXIdeal.τ).loc Cert.SwapXIdeal.main_arg1) = m' (((0 : Dev Cert.SwapXIdeal.nD).tc : Thread Cert.SwapXIdeal.nD Cert.SwapXIdeal.τ).loc Cert.SwapXIdeal.main_arg1))

def preserves_ExchangeY_ExchangeYIdeal : Prop :=
  True

def algebraic_ExchangeYIdeal_SwapYIdeal [hExchangeYIdeal : Cert.ExchangeYIdeal.Facts] [hSwapYIdeal : Cert.SwapYIdeal.Facts] : Prop :=
  ∀ (m : (ℓ : Loc Cert.ExchangeYIdeal.nD Cert.ExchangeYIdeal.τ Cert.ExchangeYIdeal.sig) → Buf (Elt Ideal) ℓ) (g : Dev Cert.ExchangeYIdeal.nD → PrngReg)
    (m' : (ℓ : Loc Cert.SwapYIdeal.nD Cert.SwapYIdeal.τ Cert.SwapYIdeal.sig) → Buf (Elt Ideal) ℓ) (g' : Dev Cert.SwapYIdeal.nD → PrngReg), Pre_ExchangeYIdeal m →
    (∀ c : Dev Cert.ExchangeYIdeal.nD,
      m ((c.tc : Thread Cert.ExchangeYIdeal.nD Cert.ExchangeYIdeal.τ).loc Cert.ExchangeYIdeal.main_arg0) = Layout.block ⟨3, ![4, 640, 2048]⟩ ⟨3, ![16, 640, 2048]⟩ 0 4 c (m' (((0 : Dev Cert.SwapYIdeal.nD).tc : Thread Cert.SwapYIdeal.nD Cert.SwapYIdeal.τ).loc Cert.SwapYIdeal.main_arg0))) →
    ∃ (v0 : Buf (Elt Ideal) (((0 : Dev Cert.SwapYIdeal.nD).tc : Thread Cert.SwapYIdeal.nD Cert.SwapYIdeal.τ).loc Cert.SwapYIdeal.main_v2)),
      θ_run (Cert.ExchangeYIdeal.defs (F := Ideal)) (onTc (τ := Cert.ExchangeYIdeal.τ) (Cert.ExchangeYIdeal.main (F := Ideal))) ⟨m, fun _ => 0, g⟩ (fun r => ∀ c : Dev Cert.ExchangeYIdeal.nD,
          r.2.mem ((c.tc : Thread Cert.ExchangeYIdeal.nD Cert.ExchangeYIdeal.τ).loc Cert.ExchangeYIdeal.main_v1) = Layout.block ⟨3, ![4, 640, 2048]⟩ ⟨3, ![16, 640, 2048]⟩ 0 4 c v0
          ∧ r.2.mem ((c.tc : Thread Cert.ExchangeYIdeal.nD Cert.ExchangeYIdeal.τ).loc Cert.ExchangeYIdeal.main_arg0) = m ((c.tc : Thread Cert.ExchangeYIdeal.nD Cert.ExchangeYIdeal.τ).loc Cert.ExchangeYIdeal.main_arg0))
      ∧ θ_run (Cert.SwapYIdeal.defs (F := Ideal)) (onTc (τ := Cert.SwapYIdeal.τ) (Cert.SwapYIdeal.main (F := Ideal))) ⟨m', fun _ => 0, g'⟩ (fun r =>
          r.2.mem (((0 : Dev Cert.SwapYIdeal.nD).tc : Thread Cert.SwapYIdeal.nD Cert.SwapYIdeal.τ).loc Cert.SwapYIdeal.main_v2) = v0
          ∧ r.2.mem (((0 : Dev Cert.SwapYIdeal.nD).tc : Thread Cert.SwapYIdeal.nD Cert.SwapYIdeal.τ).loc Cert.SwapYIdeal.main_arg0) = m' (((0 : Dev Cert.SwapYIdeal.nD).tc : Thread Cert.SwapYIdeal.nD Cert.SwapYIdeal.τ).loc Cert.SwapYIdeal.main_arg0))

def preserves_ExchangeBack_ExchangeBackIdeal : Prop :=
  True

def algebraic_ExchangeBackIdeal_SwapBackIdeal [hExchangeBackIdeal : Cert.ExchangeBackIdeal.Facts] [hSwapBackIdeal : Cert.SwapBackIdeal.Facts] : Prop :=
  ∀ (m : (ℓ : Loc Cert.ExchangeBackIdeal.nD Cert.ExchangeBackIdeal.τ Cert.ExchangeBackIdeal.sig) → Buf (Elt Ideal) ℓ) (g : Dev Cert.ExchangeBackIdeal.nD → PrngReg)
    (m' : (ℓ : Loc Cert.SwapBackIdeal.nD Cert.SwapBackIdeal.τ Cert.SwapBackIdeal.sig) → Buf (Elt Ideal) ℓ) (g' : Dev Cert.SwapBackIdeal.nD → PrngReg), Pre_ExchangeBackIdeal m →
    (∀ c : Dev Cert.ExchangeBackIdeal.nD,
      m ((c.tc : Thread Cert.ExchangeBackIdeal.nD Cert.ExchangeBackIdeal.τ).loc Cert.ExchangeBackIdeal.main_arg0) = Layout.block ⟨2, ![4096, 2048]⟩ ⟨2, ![16384, 2048]⟩ 0 4 c (m' (((0 : Dev Cert.SwapBackIdeal.nD).tc : Thread Cert.SwapBackIdeal.nD Cert.SwapBackIdeal.τ).loc Cert.SwapBackIdeal.main_arg0))) →
    ∃ (v0 : Buf (Elt Ideal) (((0 : Dev Cert.SwapBackIdeal.nD).tc : Thread Cert.SwapBackIdeal.nD Cert.SwapBackIdeal.τ).loc Cert.SwapBackIdeal.main_v2)),
      θ_run (Cert.ExchangeBackIdeal.defs (F := Ideal)) (onTc (τ := Cert.ExchangeBackIdeal.τ) (Cert.ExchangeBackIdeal.main (F := Ideal))) ⟨m, fun _ => 0, g⟩ (fun r => ∀ c : Dev Cert.ExchangeBackIdeal.nD,
          r.2.mem ((c.tc : Thread Cert.ExchangeBackIdeal.nD Cert.ExchangeBackIdeal.τ).loc Cert.ExchangeBackIdeal.main_v1) = Layout.block ⟨2, ![4096, 2048]⟩ ⟨2, ![16384, 2048]⟩ 0 4 c v0
          ∧ r.2.mem ((c.tc : Thread Cert.ExchangeBackIdeal.nD Cert.ExchangeBackIdeal.τ).loc Cert.ExchangeBackIdeal.main_arg0) = m ((c.tc : Thread Cert.ExchangeBackIdeal.nD Cert.ExchangeBackIdeal.τ).loc Cert.ExchangeBackIdeal.main_arg0))
      ∧ θ_run (Cert.SwapBackIdeal.defs (F := Ideal)) (onTc (τ := Cert.SwapBackIdeal.τ) (Cert.SwapBackIdeal.main (F := Ideal))) ⟨m', fun _ => 0, g'⟩ (fun r =>
          r.2.mem (((0 : Dev Cert.SwapBackIdeal.nD).tc : Thread Cert.SwapBackIdeal.nD Cert.SwapBackIdeal.τ).loc Cert.SwapBackIdeal.main_v2) = v0
          ∧ r.2.mem (((0 : Dev Cert.SwapBackIdeal.nD).tc : Thread Cert.SwapBackIdeal.nD Cert.SwapBackIdeal.τ).loc Cert.SwapBackIdeal.main_arg0) = m' (((0 : Dev Cert.SwapBackIdeal.nD).tc : Thread Cert.SwapBackIdeal.nD Cert.SwapBackIdeal.τ).loc Cert.SwapBackIdeal.main_arg0))

def preserves_Experts_ExpertsIdeal : Prop :=
  True

def algebraic_ExpertsIdeal_PerceptronsIdeal [hExpertsIdeal : Cert.ExpertsIdeal.Facts] [hPerceptronsIdeal : Cert.PerceptronsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.PerceptronsIdeal.nD Cert.PerceptronsIdeal.τ Cert.PerceptronsIdeal.sig) → Buf (Elt Ideal) ℓ) (g' : Dev Cert.PerceptronsIdeal.nD → PrngReg), Pre_ExpertsIdeal m →
    (∀ c : Dev Cert.ExpertsIdeal.nD,
      m' ((c.tc : Thread Cert.PerceptronsIdeal.nD Cert.PerceptronsIdeal.τ).loc Cert.PerceptronsIdeal.main_arg0) = m ((c.tc : Thread Cert.ExpertsIdeal.nD Cert.ExpertsIdeal.τ).loc Cert.ExpertsIdeal.main_arg0)
      ∧ m' ((c.tc : Thread Cert.PerceptronsIdeal.nD Cert.PerceptronsIdeal.τ).loc Cert.PerceptronsIdeal.main_arg1) = m ((c.tc : Thread Cert.ExpertsIdeal.nD Cert.ExpertsIdeal.τ).loc Cert.ExpertsIdeal.main_arg1)
      ∧ m' ((c.tc : Thread Cert.PerceptronsIdeal.nD Cert.PerceptronsIdeal.τ).loc Cert.PerceptronsIdeal.main_arg2) = m ((c.tc : Thread Cert.ExpertsIdeal.nD Cert.ExpertsIdeal.τ).loc Cert.ExpertsIdeal.main_arg2)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2))
      ∧ θ_run (Cert.PerceptronsIdeal.defs (F := Ideal)) (onTc (τ := Cert.PerceptronsIdeal.τ) (Cert.PerceptronsIdeal.main (F := Ideal))) ⟨m', fun _ => 0, g'⟩ (fun r => ∀ c : Dev Cert.PerceptronsIdeal.nD,
          r.2.mem ((c.tc : Thread Cert.PerceptronsIdeal.nD Cert.PerceptronsIdeal.τ).loc Cert.PerceptronsIdeal.main_v5) = v0 c
          ∧ r.2.mem ((c.tc : Thread Cert.PerceptronsIdeal.nD Cert.PerceptronsIdeal.τ).loc Cert.PerceptronsIdeal.main_arg0) = m' ((c.tc : Thread Cert.PerceptronsIdeal.nD Cert.PerceptronsIdeal.τ).loc Cert.PerceptronsIdeal.main_arg0)
          ∧ r.2.mem ((c.tc : Thread Cert.PerceptronsIdeal.nD Cert.PerceptronsIdeal.τ).loc Cert.PerceptronsIdeal.main_arg1) = m' ((c.tc : Thread Cert.PerceptronsIdeal.nD Cert.PerceptronsIdeal.τ).loc Cert.PerceptronsIdeal.main_arg1)
          ∧ r.2.mem ((c.tc : Thread Cert.PerceptronsIdeal.nD Cert.PerceptronsIdeal.τ).loc Cert.PerceptronsIdeal.main_arg2) = m' ((c.tc : Thread Cert.PerceptronsIdeal.nD Cert.PerceptronsIdeal.τ).loc Cert.PerceptronsIdeal.main_arg2))

def preserves_Gather_GatherIdeal : Prop :=
  True

def algebraic_GatherIdeal_SlotSumsIdeal [hGatherIdeal : Cert.GatherIdeal.Facts] [hSlotSumsIdeal : Cert.SlotSumsIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.SlotSumsIdeal.nD Cert.SlotSumsIdeal.τ Cert.SlotSumsIdeal.sig) → Buf (Elt Ideal) ℓ) (g' : Dev Cert.SlotSumsIdeal.nD → PrngReg), Pre_GatherIdeal m →
    (∀ c : Dev Cert.GatherIdeal.nD,
      m ((c.tc : Thread Cert.GatherIdeal.nD Cert.GatherIdeal.τ).loc Cert.GatherIdeal.main_arg0) = m' (((0 : Dev Cert.SlotSumsIdeal.nD).tc : Thread Cert.SlotSumsIdeal.nD Cert.SlotSumsIdeal.τ).loc Cert.SlotSumsIdeal.main_arg0)
      ∧ m ((c.tc : Thread Cert.GatherIdeal.nD Cert.GatherIdeal.τ).loc Cert.GatherIdeal.main_arg1) = m' (((0 : Dev Cert.SlotSumsIdeal.nD).tc : Thread Cert.SlotSumsIdeal.nD Cert.SlotSumsIdeal.τ).loc Cert.SlotSumsIdeal.main_arg1)
      ∧ m ((c.tc : Thread Cert.GatherIdeal.nD Cert.GatherIdeal.τ).loc Cert.GatherIdeal.main_arg2) = m' (((0 : Dev Cert.SlotSumsIdeal.nD).tc : Thread Cert.SlotSumsIdeal.nD Cert.SlotSumsIdeal.τ).loc Cert.SlotSumsIdeal.main_arg2)
      ∧ m ((c.tc : Thread Cert.GatherIdeal.nD Cert.GatherIdeal.τ).loc Cert.GatherIdeal.main_arg3) = m' (((0 : Dev Cert.SlotSumsIdeal.nD).tc : Thread Cert.SlotSumsIdeal.nD Cert.SlotSumsIdeal.τ).loc Cert.SlotSumsIdeal.main_arg3)) →
    ∃ (v0 : Buf (Elt Ideal) (((0 : Dev Cert.SlotSumsIdeal.nD).tc : Thread Cert.SlotSumsIdeal.nD Cert.SlotSumsIdeal.τ).loc Cert.SlotSumsIdeal.main_v11)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = Layout.block ⟨3, ![4, 640, 2048]⟩ ⟨3, ![8, 640, 2048]⟩ 0 2 c v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.SlotSumsIdeal.defs (F := Ideal)) (onTc (τ := Cert.SlotSumsIdeal.τ) (Cert.SlotSumsIdeal.main (F := Ideal))) ⟨m', fun _ => 0, g'⟩ (fun r =>
          r.2.mem (((0 : Dev Cert.SlotSumsIdeal.nD).tc : Thread Cert.SlotSumsIdeal.nD Cert.SlotSumsIdeal.τ).loc Cert.SlotSumsIdeal.main_v11) = v0
          ∧ r.2.mem (((0 : Dev Cert.SlotSumsIdeal.nD).tc : Thread Cert.SlotSumsIdeal.nD Cert.SlotSumsIdeal.τ).loc Cert.SlotSumsIdeal.main_arg0) = m' (((0 : Dev Cert.SlotSumsIdeal.nD).tc : Thread Cert.SlotSumsIdeal.nD Cert.SlotSumsIdeal.τ).loc Cert.SlotSumsIdeal.main_arg0)
          ∧ r.2.mem (((0 : Dev Cert.SlotSumsIdeal.nD).tc : Thread Cert.SlotSumsIdeal.nD Cert.SlotSumsIdeal.τ).loc Cert.SlotSumsIdeal.main_arg1) = m' (((0 : Dev Cert.SlotSumsIdeal.nD).tc : Thread Cert.SlotSumsIdeal.nD Cert.SlotSumsIdeal.τ).loc Cert.SlotSumsIdeal.main_arg1)
          ∧ r.2.mem (((0 : Dev Cert.SlotSumsIdeal.nD).tc : Thread Cert.SlotSumsIdeal.nD Cert.SlotSumsIdeal.τ).loc Cert.SlotSumsIdeal.main_arg2) = m' (((0 : Dev Cert.SlotSumsIdeal.nD).tc : Thread Cert.SlotSumsIdeal.nD Cert.SlotSumsIdeal.τ).loc Cert.SlotSumsIdeal.main_arg2)
          ∧ r.2.mem (((0 : Dev Cert.SlotSumsIdeal.nD).tc : Thread Cert.SlotSumsIdeal.nD Cert.SlotSumsIdeal.τ).loc Cert.SlotSumsIdeal.main_arg3) = m' (((0 : Dev Cert.SlotSumsIdeal.nD).tc : Thread Cert.SlotSumsIdeal.nD Cert.SlotSumsIdeal.τ).loc Cert.SlotSumsIdeal.main_arg3))

def preserves_Scatter_ScatterIdeal : Prop :=
  True

def algebraic_ScatterIdeal_SlotReadsIdeal [hScatterIdeal : Cert.ScatterIdeal.Facts] [hSlotReadsIdeal : Cert.SlotReadsIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.SlotReadsIdeal.nD Cert.SlotReadsIdeal.τ Cert.SlotReadsIdeal.sig) → Buf (Elt Ideal) ℓ) (g' : Dev Cert.SlotReadsIdeal.nD → PrngReg), Pre_ScatterIdeal m →
    (∀ c : Dev Cert.ScatterIdeal.nD,
      m ((c.tc : Thread Cert.ScatterIdeal.nD Cert.ScatterIdeal.τ).loc Cert.ScatterIdeal.main_arg0) = m' (((0 : Dev Cert.SlotReadsIdeal.nD).tc : Thread Cert.SlotReadsIdeal.nD Cert.SlotReadsIdeal.τ).loc Cert.SlotReadsIdeal.main_arg0)
      ∧ m ((c.tc : Thread Cert.ScatterIdeal.nD Cert.ScatterIdeal.τ).loc Cert.ScatterIdeal.main_arg1) = Layout.block ⟨3, ![4, 640, 2048]⟩ ⟨3, ![8, 640, 2048]⟩ 0 2 c (m' (((0 : Dev Cert.SlotReadsIdeal.nD).tc : Thread Cert.SlotReadsIdeal.nD Cert.SlotReadsIdeal.τ).loc Cert.SlotReadsIdeal.main_arg1))
      ∧ m ((c.tc : Thread Cert.ScatterIdeal.nD Cert.ScatterIdeal.τ).loc Cert.ScatterIdeal.main_arg2) = Layout.block ⟨3, ![4, 640, 2048]⟩ ⟨3, ![8, 640, 2048]⟩ 0 2 c (m' (((0 : Dev Cert.SlotReadsIdeal.nD).tc : Thread Cert.SlotReadsIdeal.nD Cert.SlotReadsIdeal.τ).loc Cert.SlotReadsIdeal.main_arg2))) →
    ∃ (v0 : Buf (Elt Ideal) (((0 : Dev Cert.SlotReadsIdeal.nD).tc : Thread Cert.SlotReadsIdeal.nD Cert.SlotReadsIdeal.τ).loc Cert.SlotReadsIdeal.main_v29)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨2, ![8192, 2048]⟩ ⟨2, ![16384, 2048]⟩ 0 2 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ θ_run (Cert.SlotReadsIdeal.defs (F := Ideal)) (onTc (τ := Cert.SlotReadsIdeal.τ) (Cert.SlotReadsIdeal.main (F := Ideal))) ⟨m', fun _ => 0, g'⟩ (fun r =>
          r.2.mem (((0 : Dev Cert.SlotReadsIdeal.nD).tc : Thread Cert.SlotReadsIdeal.nD Cert.SlotReadsIdeal.τ).loc Cert.SlotReadsIdeal.main_v29) = v0
          ∧ r.2.mem (((0 : Dev Cert.SlotReadsIdeal.nD).tc : Thread Cert.SlotReadsIdeal.nD Cert.SlotReadsIdeal.τ).loc Cert.SlotReadsIdeal.main_arg0) = m' (((0 : Dev Cert.SlotReadsIdeal.nD).tc : Thread Cert.SlotReadsIdeal.nD Cert.SlotReadsIdeal.τ).loc Cert.SlotReadsIdeal.main_arg0)
          ∧ r.2.mem (((0 : Dev Cert.SlotReadsIdeal.nD).tc : Thread Cert.SlotReadsIdeal.nD Cert.SlotReadsIdeal.τ).loc Cert.SlotReadsIdeal.main_arg1) = m' (((0 : Dev Cert.SlotReadsIdeal.nD).tc : Thread Cert.SlotReadsIdeal.nD Cert.SlotReadsIdeal.τ).loc Cert.SlotReadsIdeal.main_arg1)
          ∧ r.2.mem (((0 : Dev Cert.SlotReadsIdeal.nD).tc : Thread Cert.SlotReadsIdeal.nD Cert.SlotReadsIdeal.τ).loc Cert.SlotReadsIdeal.main_arg2) = m' (((0 : Dev Cert.SlotReadsIdeal.nD).tc : Thread Cert.SlotReadsIdeal.nD Cert.SlotReadsIdeal.τ).loc Cert.SlotReadsIdeal.main_arg2))

def preserves_LayerEnd_LayerEndIdeal : Prop :=
  True

def algebraic_LayerEndIdeal_PairSumsIdeal [hLayerEndIdeal : Cert.LayerEndIdeal.Facts] [hPairSumsIdeal : Cert.PairSumsIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg)
    (m' : (ℓ : Loc Cert.PairSumsIdeal.nD Cert.PairSumsIdeal.τ Cert.PairSumsIdeal.sig) → Buf (Elt Ideal) ℓ) (g' : Dev Cert.PairSumsIdeal.nD → PrngReg), Pre_LayerEndIdeal m →
    (∀ c : Dev Cert.LayerEndIdeal.nD,
      m ((c.tc : Thread Cert.LayerEndIdeal.nD Cert.LayerEndIdeal.τ).loc Cert.LayerEndIdeal.main_arg0) = Layout.blockN ⟨2, ![8, 1024]⟩ ⟨2, ![16, 1024]⟩ (Layout.meshBlock [2, 2] ![[0], []] c) (m' (((0 : Dev Cert.PairSumsIdeal.nD).tc : Thread Cert.PairSumsIdeal.nD Cert.PairSumsIdeal.τ).loc Cert.PairSumsIdeal.main_arg0))
      ∧ m ((c.tc : Thread Cert.LayerEndIdeal.nD Cert.LayerEndIdeal.τ).loc Cert.LayerEndIdeal.main_arg1) = Layout.block ⟨3, ![4, 640, 2048]⟩ ⟨3, ![16, 640, 2048]⟩ 0 4 c (m' (((0 : Dev Cert.PairSumsIdeal.nD).tc : Thread Cert.PairSumsIdeal.nD Cert.PairSumsIdeal.τ).loc Cert.PairSumsIdeal.main_arg1))
      ∧ m ((c.tc : Thread Cert.LayerEndIdeal.nD Cert.LayerEndIdeal.τ).loc Cert.LayerEndIdeal.main_arg2) = Layout.block ⟨3, ![4, 640, 2048]⟩ ⟨3, ![16, 640, 2048]⟩ 0 4 c (m' (((0 : Dev Cert.PairSumsIdeal.nD).tc : Thread Cert.PairSumsIdeal.nD Cert.PairSumsIdeal.τ).loc Cert.PairSumsIdeal.main_arg2))) →
    ∃ (v0 : Buf (Elt Ideal) (((0 : Dev Cert.PairSumsIdeal.nD).tc : Thread Cert.PairSumsIdeal.nD Cert.PairSumsIdeal.τ).loc Cert.PairSumsIdeal.main_v89)),
      θ_run (Cert.LayerEndIdeal.defs (F := Ideal)) (onTc (τ := Cert.LayerEndIdeal.τ) (Cert.LayerEndIdeal.main (F := Ideal))) ⟨m, fun _ => 0, g⟩ (fun r => ∀ c : Dev Cert.LayerEndIdeal.nD,
          r.2.mem ((c.tc : Thread Cert.LayerEndIdeal.nD Cert.LayerEndIdeal.τ).loc Cert.LayerEndIdeal.main_v7) = Layout.block ⟨2, ![4096, 2048]⟩ ⟨2, ![16384, 2048]⟩ 0 4 c v0
          ∧ r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
          ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
          ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2))
      ∧ θ_run (Cert.PairSumsIdeal.defs (F := Ideal)) (onTc (τ := Cert.PairSumsIdeal.τ) (Cert.PairSumsIdeal.main (F := Ideal))) ⟨m', fun _ => 0, g'⟩ (fun r =>
          r.2.mem (((0 : Dev Cert.PairSumsIdeal.nD).tc : Thread Cert.PairSumsIdeal.nD Cert.PairSumsIdeal.τ).loc Cert.PairSumsIdeal.main_v89) = v0
          ∧ r.2.mem (((0 : Dev Cert.PairSumsIdeal.nD).tc : Thread Cert.PairSumsIdeal.nD Cert.PairSumsIdeal.τ).loc Cert.PairSumsIdeal.main_arg0) = m' (((0 : Dev Cert.PairSumsIdeal.nD).tc : Thread Cert.PairSumsIdeal.nD Cert.PairSumsIdeal.τ).loc Cert.PairSumsIdeal.main_arg0)
          ∧ r.2.mem (((0 : Dev Cert.PairSumsIdeal.nD).tc : Thread Cert.PairSumsIdeal.nD Cert.PairSumsIdeal.τ).loc Cert.PairSumsIdeal.main_arg1) = m' (((0 : Dev Cert.PairSumsIdeal.nD).tc : Thread Cert.PairSumsIdeal.nD Cert.PairSumsIdeal.τ).loc Cert.PairSumsIdeal.main_arg1)
          ∧ r.2.mem (((0 : Dev Cert.PairSumsIdeal.nD).tc : Thread Cert.PairSumsIdeal.nD Cert.PairSumsIdeal.τ).loc Cert.PairSumsIdeal.main_arg2) = m' (((0 : Dev Cert.PairSumsIdeal.nD).tc : Thread Cert.PairSumsIdeal.nD Cert.PairSumsIdeal.τ).loc Cert.PairSumsIdeal.main_arg2))

def Claim : Prop :=
  ∃ (hExchangeX : Cert.ExchangeX.Facts) (hExchangeXIdeal : Cert.ExchangeXIdeal.Facts) (hSwapXIdeal : Cert.SwapXIdeal.Facts) (hExchangeY : Cert.ExchangeY.Facts) (hExchangeYIdeal : Cert.ExchangeYIdeal.Facts) (hSwapYIdeal : Cert.SwapYIdeal.Facts) (hExchangeBack : Cert.ExchangeBack.Facts) (hExchangeBackIdeal : Cert.ExchangeBackIdeal.Facts) (hSwapBackIdeal : Cert.SwapBackIdeal.Facts) (hExperts : Cert.Experts.Facts) (hExpertsIdeal : Cert.ExpertsIdeal.Facts) (hPerceptronsIdeal : Cert.PerceptronsIdeal.Facts) (hGather : Cert.Gather.Facts) (hGatherIdeal : Cert.GatherIdeal.Facts) (hSlotSumsIdeal : Cert.SlotSumsIdeal.Facts) (hScatter : Cert.Scatter.Facts) (hScatterIdeal : Cert.ScatterIdeal.Facts) (hSlotReadsIdeal : Cert.SlotReadsIdeal.Facts) (hLayerEnd : Cert.LayerEnd.Facts) (hLayerEndIdeal : Cert.LayerEndIdeal.Facts) (hPairSumsIdeal : Cert.PairSumsIdeal.Facts),
    quiescent_ExchangeX (hExchangeX := hExchangeX)
    ∧ quiescent_ExchangeXIdeal (hExchangeXIdeal := hExchangeXIdeal)
    ∧ quiescent_SwapXIdeal (hSwapXIdeal := hSwapXIdeal)
    ∧ quiescent_ExchangeY (hExchangeY := hExchangeY)
    ∧ quiescent_ExchangeYIdeal (hExchangeYIdeal := hExchangeYIdeal)
    ∧ quiescent_SwapYIdeal (hSwapYIdeal := hSwapYIdeal)
    ∧ quiescent_ExchangeBack (hExchangeBack := hExchangeBack)
    ∧ quiescent_ExchangeBackIdeal (hExchangeBackIdeal := hExchangeBackIdeal)
    ∧ quiescent_SwapBackIdeal (hSwapBackIdeal := hSwapBackIdeal)
    ∧ quiescent_Experts (hExperts := hExperts)
    ∧ quiescent_ExpertsIdeal (hExpertsIdeal := hExpertsIdeal)
    ∧ quiescent_PerceptronsIdeal (hPerceptronsIdeal := hPerceptronsIdeal)
    ∧ quiescent_Gather (hGather := hGather)
    ∧ quiescent_GatherIdeal (hGatherIdeal := hGatherIdeal)
    ∧ quiescent_SlotSumsIdeal (hSlotSumsIdeal := hSlotSumsIdeal)
    ∧ quiescent_Scatter (hScatter := hScatter)
    ∧ quiescent_ScatterIdeal (hScatterIdeal := hScatterIdeal)
    ∧ quiescent_SlotReadsIdeal (hSlotReadsIdeal := hSlotReadsIdeal)
    ∧ quiescent_LayerEnd (hLayerEnd := hLayerEnd)
    ∧ quiescent_LayerEndIdeal (hLayerEndIdeal := hLayerEndIdeal)
    ∧ quiescent_PairSumsIdeal (hPairSumsIdeal := hPairSumsIdeal)
    ∧ preserves_ExchangeX_ExchangeXIdeal
    ∧ algebraic_ExchangeXIdeal_SwapXIdeal (hExchangeXIdeal := hExchangeXIdeal) (hSwapXIdeal := hSwapXIdeal)
    ∧ preserves_ExchangeY_ExchangeYIdeal
    ∧ algebraic_ExchangeYIdeal_SwapYIdeal (hExchangeYIdeal := hExchangeYIdeal) (hSwapYIdeal := hSwapYIdeal)
    ∧ preserves_ExchangeBack_ExchangeBackIdeal
    ∧ algebraic_ExchangeBackIdeal_SwapBackIdeal (hExchangeBackIdeal := hExchangeBackIdeal) (hSwapBackIdeal := hSwapBackIdeal)
    ∧ preserves_Experts_ExpertsIdeal
    ∧ algebraic_ExpertsIdeal_PerceptronsIdeal (hExpertsIdeal := hExpertsIdeal) (hPerceptronsIdeal := hPerceptronsIdeal)
    ∧ preserves_Gather_GatherIdeal
    ∧ algebraic_GatherIdeal_SlotSumsIdeal (hGatherIdeal := hGatherIdeal) (hSlotSumsIdeal := hSlotSumsIdeal)
    ∧ preserves_Scatter_ScatterIdeal
    ∧ algebraic_ScatterIdeal_SlotReadsIdeal (hScatterIdeal := hScatterIdeal) (hSlotReadsIdeal := hSlotReadsIdeal)
    ∧ preserves_LayerEnd_LayerEndIdeal
    ∧ algebraic_LayerEndIdeal_PairSumsIdeal (hLayerEndIdeal := hLayerEndIdeal) (hPairSumsIdeal := hPairSumsIdeal)
-- ==== ExchangeX.lean ====
abbrev S4096x2048 : Shape := ⟨2, ![4096, 2048]⟩
abbrev S32x128 : Shape := ⟨2, ![32, 128]⟩
abbrev S_ : Shape := ⟨0, ![]⟩

abbrev nBuf : Space → Nat
  | .hbm => 4
  | .vmem => 4
  | .smem => 0
  | _ => 0

abbrev bufTy : (tb : Table) → Fin (tcTables nBuf tb) → BufTy
  | .hbm, ⟨0, _⟩ => ⟨S4096x2048, .bf16⟩
  | .hbm, ⟨1, _⟩ => ⟨S32x128, .i32⟩
  | .hbm, ⟨2, _⟩ => ⟨S4096x2048, .bf16⟩
  | .hbm, ⟨3, _⟩ => ⟨S32x128, .i32⟩
  | .local _ .vmem, ⟨0, _⟩ => ⟨S4096x2048, .bf16⟩
  | .local _ .vmem, ⟨1, _⟩ => ⟨S32x128, .i32⟩
  | .local _ .vmem, ⟨2, _⟩ => ⟨S4096x2048, .bf16⟩
  | .local _ .vmem, ⟨3, _⟩ => ⟨S32x128, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_4 : BitVec 32 := 2#32
  let v8 : BitVec 32 := Scalar.muli v3 c2_i32_4
  let v9 : BitVec 32 := Scalar.addi c0_i32 v8
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_8 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_7 : BitVec 32 := 2#32
  let v12 : BitVec 32 := Scalar.muli v3 c2_i32_7
  let v13 : BitVec 32 := Scalar.addi c0_i32_8 v12
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_9 : BitVec 32 := 1#32
  let v14 : BitVec 32 := Scalar.muli v6 c1_i32_9
  let v15 : BitVec 32 := Scalar.addi v13 v14
  v15.toNat
def k0_dev3 (d0 : Dev nD) : Nat :=
  let c0_i32_11 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_10 : BitVec 32 := 2#32
  let v16 : BitVec 32 := Scalar.muli v3 c2_i32_10
  let v17 : BitVec 32 := Scalar.addi c0_i32_11 v16
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_12 : BitVec 32 := 1#32
  let v18 : BitVec 32 := Scalar.muli v6 c1_i32_12
  let v19 : BitVec 32 := Scalar.addi v17 v18
  v19.toNat
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SwapXIdeal.lean ====
abbrev S8192x2048 : Shape := ⟨2, ![8192, 2048]⟩
abbrev S64x128 : Shape := ⟨2, ![64, 128]⟩
abbrev S4096x2048 : Shape := ⟨2, ![4096, 2048]⟩
abbrev S32x128 : Shape := ⟨2, ![32, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x128, .i32⟩
  | .hbm, ⟨2, _⟩ => ⟨S4096x2048, .bf16⟩
  | .hbm, ⟨3, _⟩ => ⟨S4096x2048, .bf16⟩
  | .hbm, ⟨4, _⟩ => ⟨S8192x2048, .bf16⟩
  | .hbm, ⟨5, _⟩ => ⟨S32x128, .i32⟩
  | .hbm, ⟨6, _⟩ => ⟨S32x128, .i32⟩
  | .hbm, ⟨7, _⟩ => ⟨S64x128, .i32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ExchangeY.lean ====
abbrev S4x640x2048 : Shape := ⟨3, ![4, 640, 2048]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S4x640x2048, .bf16⟩
  | .hbm, ⟨1, _⟩ => ⟨S4x640x2048, .bf16⟩
  | .local _ .vmem, ⟨0, _⟩ => ⟨S4x640x2048, .bf16⟩
  | .local _ .vmem, ⟨1, _⟩ => ⟨S4x640x2048, .bf16⟩
  | _, _ => ⟨S4x640x2048, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(2, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier2 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_8 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32_8 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v14 : BitVec 32 := Scalar.muli v6 c1_i32_9
  let v15 : BitVec 32 := Scalar.addi v13 v14
  v15.toNat
abbrev stage0_0 : Fin 1 → Memref sig .tc .vmem S4x640x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x640x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SwapYIdeal.lean ====
abbrev S16x640x2048 : Shape := ⟨3, ![16, 640, 2048]⟩
abbrev S2x2x4x640x2048 : Shape := ⟨5, ![2, 2, 4, 640, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16x640x2048, .bf16⟩
  | .hbm, ⟨1, _⟩ => ⟨S2x2x4x640x2048, .bf16⟩
  | .hbm, ⟨2, _⟩ => ⟨S2x2x4x640x2048, .bf16⟩
  | .hbm, ⟨3, _⟩ => ⟨S16x640x2048, .bf16⟩
  | _, _ => ⟨S16x640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== ExchangeBack.lean ====
abbrev S4096x2048 : Shape := ⟨2, ![4096, 2048]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .local _ .vmem, ⟨0, _⟩ => ⟨S4096x2048, .bf16⟩
  | .local _ .vmem, ⟨1, _⟩ => ⟨S4096x2048, .bf16⟩
  | _, _ => ⟨S4096x2048, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier1 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_4 : BitVec 32 := 2#32
  let v8 : BitVec 32 := Scalar.muli v3 c2_i32_4
  let v9 : BitVec 32 := Scalar.addi c0_i32 v8
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_8 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_7 : BitVec 32 := 2#32
  let v12 : BitVec 32 := Scalar.muli v3 c2_i32_7
  let v13 : BitVec 32 := Scalar.addi c0_i32_8 v12
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_9 : BitVec 32 := 1#32
  let v14 : BitVec 32 := Scalar.muli v6 c1_i32_9
  let v15 : BitVec 32 := Scalar.addi v13 v14
  v15.toNat
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SwapBackIdeal.lean ====
abbrev S16384x2048 : Shape := ⟨2, ![16384, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8192x2048, .bf16⟩
  | .hbm, ⟨2, _⟩ => ⟨S8192x2048, .bf16⟩
  | .hbm, ⟨3, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Experts.lean ====
abbrev S4x640x2048 : Shape := ⟨3, ![4, 640, 2048]⟩
abbrev S4x2048x4096 : Shape := ⟨3, ![4, 2048, 4096]⟩
abbrev S4x4096x2048 : Shape := ⟨3, ![4, 4096, 2048]⟩
abbrev S1x320x2048 : Shape := ⟨3, ![1, 320, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x2048 : Shape := ⟨2, ![1024, 2048]⟩
abbrev S640x2048 : Shape := ⟨2, ![640, 2048]⟩
abbrev S320x2048 : Shape := ⟨2, ![320, 2048]⟩
abbrev S320x1024 : Shape := ⟨2, ![320, 1024]⟩

abbrev nBuf : Space → Nat
  | .hbm => 4
  | .vmem => 11
  | .smem => 0
  | _ => 0

abbrev bufTy : (tb : Table) → Fin (tcTables nBuf tb) → BufTy
  | .hbm, ⟨0, _⟩ => ⟨S4x640x2048, .bf16⟩
  | .hbm, ⟨1, _⟩ => ⟨S4x2048x4096, .f32⟩
  | .hbm, ⟨2, _⟩ => ⟨S4x4096x2048, .f32⟩
  | .hbm, ⟨3, _⟩ => ⟨S4x640x2048, .bf16⟩
  | .local _ .vmem, ⟨0, _⟩ => ⟨S1x320x2048, .bf16⟩
  | .local _ .vmem, ⟨1, _⟩ => ⟨S1x320x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1x320x2048, .bf16⟩
  | .local _ .vmem, ⟨7, _⟩ => ⟨S1x320x2048, .bf16⟩
  | .local _ .vmem, ⟨8, _⟩ => ⟨S2048x1024, .bf16⟩
  | .local _ .vmem, ⟨9, _⟩ => ⟨S1024x2048, .bf16⟩
  | .local _ .vmem, ⟨10, _⟩ => ⟨S640x2048, .f32⟩
  | _, _ => ⟨S4x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def k0_off1 (i : grid0.Coords) : Fin 2 → Nat :=
  let arg2 : BitVec 32 := BitVec.ofNat 32 (i 2).val
  let c320_i32 : BitVec 32 := 320#32
  let v12 : BitVec 32 := Scalar.muli arg2 c320_i32
  let v22 : Index := Scalar.indexCast v12
  let c0_14 : Index := 0#32
  ![v22.toNat, 0]
def k0_cond3 (i : grid0.Coords) : BitVec 1 :=
  let arg1 : BitVec 32 := BitVec.ofNat 32 (i 1).val
  let c0_i32_11 : BitVec 32 := 0#32
  let v16 : BitVec 1 := Scalar.cmpi .ne arg1 c0_i32_11
  let v17 : BitVec 32 := Scalar.extui v16
  let c0_i32_12 : BitVec 32 := 0#32
  let v18 : BitVec 1 := Scalar.cmpi .ne v17 c0_i32_12
  v18

def k0_off2 (i : grid0.Coords) : Fin 2 → Nat :=
  let arg2 : BitVec 32 := BitVec.ofNat 32 (i 2).val
  let c320_i32 : BitVec 32 := 320#32
  let v12 : BitVec 32 := Scalar.muli arg2 c320_i32
  let v22 : Index := Scalar.indexCast v12
  let c0_14 : Index := 0#32
  ![v22.toNat, 0]
def k0_cond4 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def k0_off3 (i : grid0.Coords) : Fin 2 → Nat :=
  let arg2 : BitVec 32 := BitVec.ofNat 32 (i 2).val
  let c320_i32 : BitVec 32 := 320#32
  let v12 : BitVec 32 := Scalar.muli arg2 c320_i32
  let v22 : Index := Scalar.indexCast v12
  let c0_14 : Index := 0#32
  ![v22.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

abbrev stage0_0 : Fin 2 → Memref sig .tc .vmem S1x320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x320x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]
-- ==== PerceptronsIdeal.lean ====
abbrev S4x640x2048 : Shape := ⟨3, ![4, 640, 2048]⟩
abbrev S4x2048x4096 : Shape := ⟨3, ![4, 2048, 4096]⟩
abbrev S4x4096x2048 : Shape := ⟨3, ![4, 4096, 2048]⟩
abbrev S4x640x4096 : Shape := ⟨3, ![4, 640, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x640x2048, .bf16⟩
  | .hbm, ⟨1, _⟩ => ⟨S4x2048x4096, .f32⟩
  | .hbm, ⟨2, _⟩ => ⟨S4x4096x2048, .f32⟩
  | .hbm, ⟨3, _⟩ => ⟨S4x640x2048, .f32⟩
  | .hbm, ⟨4, _⟩ => ⟨S4x640x4096, .f32⟩
  | .hbm, ⟨5, _⟩ => ⟨S_, .f32⟩
  | .hbm, ⟨6, _⟩ => ⟨S4x640x4096, .f32⟩
  | .hbm, ⟨7, _⟩ => ⟨S4x640x4096, .f32⟩
  | .hbm, ⟨8, _⟩ => ⟨S4x640x2048, .f32⟩
  | .hbm, ⟨9, _⟩ => ⟨S4x640x2048, .bf16⟩
  | _, _ => ⟨S4x640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gather.lean ====
abbrev S4x1024 : Shape := ⟨2, ![4, 1024]⟩
abbrev S4096x2048 : Shape := ⟨2, ![4096, 2048]⟩
abbrev S4x640x2048 : Shape := ⟨3, ![4, 640, 2048]⟩
abbrev S1024x2048 : Shape := ⟨2, ![1024, 2048]⟩
abbrev S1x640x2048 : Shape := ⟨3, ![1, 640, 2048]⟩
abbrev S640x1024 : Shape := ⟨2, ![640, 1024]⟩
abbrev S1x1024 : Shape := ⟨2, ![1, 1024]⟩
abbrev S1024 : Shape := ⟨1, ![1024]⟩
abbrev S640x2048 : Shape := ⟨2, ![640, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4x1024, .i32⟩
  | .hbm, ⟨1, _⟩ => ⟨S4x1024, .i32⟩
  | .hbm, ⟨2, _⟩ => ⟨S4096x2048, .bf16⟩
  | .hbm, ⟨3, _⟩ => ⟨S4096x2048, .bf16⟩
  | .hbm, ⟨4, _⟩ => ⟨S4x640x2048, .bf16⟩
  | .local _ .vmem, ⟨0, _⟩ => ⟨S4x1024, .i32⟩
  | .local _ .vmem, ⟨1, _⟩ => ⟨S4x1024, .i32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x640x2048, .bf16⟩
  | .local _ .vmem, ⟨7, _⟩ => ⟨S1x640x2048, .bf16⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 2
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let v9 : Index := Scalar.indexCast arg1
  let c0 : Index := 0#32
  ![v9.toNat, 0]
def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_6 : BitVec 32 := 0#32
  let v36 : BitVec 1 := Scalar.cmpi .ne v35 c0_i32_6
  v36

def k0_cond2 (i : grid0.Coords) : BitVec 1 :=
  let arg1 : BitVec 32 := BitVec.ofNat 32 (i 1).val
  let c0_i32_7 : BitVec 32 := 0#32
  let v37 : BitVec 1 := Scalar.cmpi .ne arg1 c0_i32_7
  let v38 : BitVec 32 := Scalar.extui v37
  let c0_i32_8 : BitVec 32 := 0#32
  let v39 : BitVec 1 := Scalar.cmpi .ne v38 c0_i32_8
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x640x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== SlotSumsIdeal.lean ====
abbrev S4x1024 : Shape := ⟨2, ![4, 1024]⟩
abbrev S4096x2048 : Shape := ⟨2, ![4096, 2048]⟩
abbrev S4096 : Shape := ⟨1, ![4096]⟩
abbrev S8192 : Shape := ⟨1, ![8192]⟩
abbrev S8192x2048 : Shape := ⟨2, ![8192, 2048]⟩
abbrev S_ : Shape := ⟨0, ![]⟩
abbrev S5120x2048 : Shape := ⟨2, ![5120, 2048]⟩
abbrev S8192x1 : Shape := ⟨2, ![8192, 1]⟩
abbrev S4x2x640x2048 : Shape := ⟨4, ![4, 2, 640, 2048]⟩
abbrev S2x4x640x2048 : Shape := ⟨4, ![2, 4, 640, 2048]⟩
abbrev S8x640x2048 : Shape := ⟨3, ![8, 640, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x1024, .i32⟩
  | .hbm, ⟨2, _⟩ => ⟨S4096x2048, .bf16⟩
  | .hbm, ⟨3, _⟩ => ⟨S4096x2048, .bf16⟩
  | .hbm, ⟨4, _⟩ => ⟨S4096, .i32⟩
  | .hbm, ⟨5, _⟩ => ⟨S4096, .i32⟩
  | .hbm, ⟨6, _⟩ => ⟨S8192, .i32⟩
  | .hbm, ⟨7, _⟩ => ⟨S8192x2048, .bf16⟩
  | .hbm, ⟨8, _⟩ => ⟨S8192x2048, .f32⟩
  | .hbm, ⟨9, _⟩ => ⟨S_, .f32⟩
  | .hbm, ⟨10, _⟩ => ⟨S5120x2048, .f32⟩
  | .hbm, ⟨11, _⟩ => ⟨S8192x1, .i32⟩
  | .hbm, ⟨12, _⟩ => ⟨S5120x2048, .f32⟩
  | .hbm, ⟨13, _⟩ => ⟨S4x2x640x2048, .f32⟩
  | .hbm, ⟨14, _⟩ => ⟨S2x4x640x2048, .f32⟩
  | .hbm, ⟨15, _⟩ => ⟨S8x640x2048, .f32⟩
  | .hbm, ⟨16, _⟩ => ⟨S8x640x2048, .bf16⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Scatter.lean ====
abbrev S8x1024 : Shape := ⟨2, ![8, 1024]⟩
abbrev S4x640x2048 : Shape := ⟨3, ![4, 640, 2048]⟩
abbrev S8192x2048 : Shape := ⟨2, ![8192, 2048]⟩
abbrev S1x640x2048 : Shape := ⟨3, ![1, 640, 2048]⟩
abbrev S1024x2048 : Shape := ⟨2, ![1024, 2048]⟩
abbrev S1x1024 : Shape := ⟨2, ![1, 1024]⟩
abbrev S1024 : Shape := ⟨1, ![1024]⟩
abbrev S1024x1 : Shape := ⟨2, ![1024, 1]⟩
abbrev S1024x640 : Shape := ⟨2, ![1024, 640]⟩
abbrev S640x2048 : Shape := ⟨2, ![640, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .i32⟩
  | .hbm, ⟨1, _⟩ => ⟨S4x640x2048, .bf16⟩
  | .hbm, ⟨2, _⟩ => ⟨S4x640x2048, .bf16⟩
  | .hbm, ⟨3, _⟩ => ⟨S8192x2048, .bf16⟩
  | .local _ .vmem, ⟨0, _⟩ => ⟨S8x1024, .i32⟩
  | .local _ .vmem, ⟨1, _⟩ => ⟨S1x640x2048, .bf16⟩
  | .local _ .vmem, ⟨2, _⟩ => ⟨S1x640x2048, .bf16⟩
  | .local _ .vmem, ⟨3, _⟩ => ⟨S1x640x2048, .bf16⟩
  | .local _ .vmem, ⟨4, _⟩ => ⟨S1x640x2048, .bf16⟩
  | .local _ .vmem, ⟨5, _⟩ => ⟨S1024x2048, .bf16⟩
  | .local _ .vmem, ⟨6, _⟩ => ⟨S1024x2048, .bf16⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 2
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_10 : BitVec 32 := 0#32
  let v38 : BitVec 1 := Scalar.cmpi .ne v37 c0_i32_10
  v38

def k0_cond2 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== SlotReadsIdeal.lean ====
abbrev S8x1024 : Shape := ⟨2, ![8, 1024]⟩
abbrev S8x640x2048 : Shape := ⟨3, ![8, 640, 2048]⟩
abbrev S8192 : Shape := ⟨1, ![8192]⟩
abbrev S2x4x640x2048 : Shape := ⟨4, ![2, 4, 640, 2048]⟩
abbrev S1x4x640x2048 : Shape := ⟨4, ![1, 4, 640, 2048]⟩
abbrev S4x640x2048 : Shape := ⟨3, ![4, 640, 2048]⟩
abbrev S2x4x1x640x2048 : Shape := ⟨5, ![2, 4, 1, 640, 2048]⟩
abbrev S2x4x2x640x2048 : Shape := ⟨5, ![2, 4, 2, 640, 2048]⟩
abbrev S2x5120x2048 : Shape := ⟨3, ![2, 5120, 2048]⟩
abbrev S8192x1 : Shape := ⟨2, ![8192, 1]⟩
abbrev S2x8192x2048 : Shape := ⟨3, ![2, 8192, 2048]⟩
abbrev S_ : Shape := ⟨0, ![]⟩
abbrev S1x8192x1 : Shape := ⟨3, ![1, 8192, 1]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S8x640x2048, .bf16⟩
  | .hbm, ⟨2, _⟩ => ⟨S8x640x2048, .bf16⟩
  | .hbm, ⟨3, _⟩ => ⟨S8192, .i32⟩
  | .hbm, ⟨4, _⟩ => ⟨S2x4x640x2048, .bf16⟩
  | .hbm, ⟨5, _⟩ => ⟨S2x4x640x2048, .bf16⟩
  | .hbm, ⟨6, _⟩ => ⟨S1x4x640x2048, .bf16⟩
  | .hbm, ⟨7, _⟩ => ⟨S4x640x2048, .bf16⟩
  | .hbm, ⟨8, _⟩ => ⟨S1x4x640x2048, .bf16⟩
  | .hbm, ⟨9, _⟩ => ⟨S4x640x2048, .bf16⟩
  | .hbm, ⟨10, _⟩ => ⟨S1x4x640x2048, .bf16⟩
  | .hbm, ⟨11, _⟩ => ⟨S1x4x640x2048, .bf16⟩
  | .hbm, ⟨12, _⟩ => ⟨S2x4x640x2048, .bf16⟩
  | .hbm, ⟨13, _⟩ => ⟨S1x4x640x2048, .bf16⟩
  | .hbm, ⟨14, _⟩ => ⟨S4x640x2048, .bf16⟩
  | .hbm, ⟨15, _⟩ => ⟨S1x4x640x2048, .bf16⟩
  | .hbm, ⟨16, _⟩ => ⟨S4x640x2048, .bf16⟩
  | .hbm, ⟨17, _⟩ => ⟨S1x4x640x2048, .bf16⟩
  | .hbm, ⟨18, _⟩ => ⟨S1x4x640x2048, .bf16⟩
  | .hbm, ⟨19, _⟩ => ⟨S2x4x640x2048, .bf16⟩
  | .hbm, ⟨20, _⟩ => ⟨S2x4x1x640x2048, .bf16⟩
  | .hbm, ⟨21, _⟩ => ⟨S2x4x1x640x2048, .bf16⟩
  | .hbm, ⟨22, _⟩ => ⟨S2x4x2x640x2048, .bf16⟩
  | .hbm, ⟨23, _⟩ => ⟨S2x5120x2048, .bf16⟩
  | .hbm, ⟨24, _⟩ => ⟨S8192x1, .i32⟩
  | .hbm, ⟨25, _⟩ => ⟨S2x8192x2048, .bf16⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S8192, .i1⟩
  | .hbm, ⟨33, _⟩ => ⟨S1x8192x1, .i1⟩
  | .hbm, ⟨34, _⟩ => ⟨S_, .bf16⟩
  | .hbm, ⟨35, _⟩ => ⟨S2x8192x2048, .i1⟩
  | .hbm, ⟨36, _⟩ => ⟨S2x8192x2048, .bf16⟩
  | .hbm, ⟨37, _⟩ => ⟨S2x8192x2048, .bf16⟩
  | .hbm, ⟨38, _⟩ => ⟨S16384x2048, .bf16⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== LayerEnd.lean ====
abbrev S8x1024 : Shape := ⟨2, ![8, 1024]⟩
abbrev S4x640x2048 : Shape := ⟨3, ![4, 640, 2048]⟩
abbrev S8192x2048 : Shape := ⟨2, ![8192, 2048]⟩
abbrev S1x640x2048 : Shape := ⟨3, ![1, 640, 2048]⟩
abbrev S1024x2048 : Shape := ⟨2, ![1024, 2048]⟩
abbrev S1x1024 : Shape := ⟨2, ![1, 1024]⟩
abbrev S1024 : Shape := ⟨1, ![1024]⟩
abbrev S1024x1 : Shape := ⟨2, ![1024, 1]⟩
abbrev S1024x640 : Shape := ⟨2, ![1024, 640]⟩
abbrev S640x2048 : Shape := ⟨2, ![640, 2048]⟩
abbrev S4096x2048 : Shape := ⟨2, ![4096, 2048]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8x1024, .i32⟩
  | .hbm, ⟨1, _⟩ => ⟨S4x640x2048, .bf16⟩
  | .hbm, ⟨2, _⟩ => ⟨S4x640x2048, .bf16⟩
  | .hbm, ⟨3, _⟩ => ⟨S8192x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S8x1024, .i32⟩
  | .local _ .vmem, ⟨1, _⟩ => ⟨S1x640x2048, .bf16⟩
  | .local _ .vmem, ⟨2, _⟩ => ⟨S1x640x2048, .bf16⟩
  | .local _ .vmem, ⟨3, _⟩ => ⟨S1x640x2048, .bf16⟩
  | .local _ .vmem, ⟨4, _⟩ => ⟨S1x640x2048, .bf16⟩
  | .local _ .vmem, ⟨5, _⟩ => ⟨S1024x2048, .bf16⟩
  | .local _ .vmem, ⟨6, _⟩ => ⟨S1024x2048, .bf16⟩
  | .local _ .vmem, ⟨7, _⟩ => ⟨S4096x2048, .bf16⟩
  | .local _ .vmem, ⟨8, _⟩ => ⟨S4096x2048, .bf16⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev barrier1 : Sem sig := 0

abbrev nD : Nat := 4
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_10 : BitVec 32 := 0#32
  let v38 : BitVec 1 := Scalar.cmpi .ne v37 c0_i32_10
  v38

def k0_cond2 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := .none

def k1_dev1 (d0 : Dev nD) : Nat :=
  let c0_i32 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_4 : BitVec 32 := 2#32
  let v8 : BitVec 32 := Scalar.muli v3 c2_i32_4
  let v9 : BitVec 32 := Scalar.addi c0_i32 v8
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_5 : BitVec 32 := 1#32
  let v10 : BitVec 32 := Scalar.muli v6 c1_i32_5
  let v11 : BitVec 32 := Scalar.addi v9 v10
  v11.toNat
def k1_dev2 (d0 : Dev nD) : Nat :=
  let c0_i32_8 : BitVec 32 := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Scalar.subi c1_i32 v2
  let c2_i32_7 : BitVec 32 := 2#32
  let v12 : BitVec 32 := Scalar.muli v3 c2_i32_7
  let v13 : BitVec 32 := Scalar.addi c0_i32_8 v12
  let v4 : BitVec 32 := Dev.word d0
  let c1_i32_2 : BitVec 32 := 1#32
  let v5 : BitVec 32 := Scalar.divsi v4 c1_i32_2
  let c2_i32_1 : BitVec 32 := 2#32
  let v6 : BitVec 32 := Scalar.remsi v5 c2_i32_1
  let c1_i32_9 : BitVec 32 := 1#32
  let v14 : BitVec 32 := Scalar.muli v6 c1_i32_9
  let v15 : BitVec 32 := Scalar.addi v13 v14
  v15.toNat
abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== PairSumsIdeal.lean ====
abbrev S16x1024 : Shape := ⟨2, ![16, 1024]⟩
abbrev S16x640x2048 : Shape := ⟨3, ![16, 640, 2048]⟩
abbrev S2x8x640x2048 : Shape := ⟨4, ![2, 8, 640, 2048]⟩
abbrev S8x1024 : Shape := ⟨2, ![8, 1024]⟩
abbrev S1x8x640x2048 : Shape := ⟨4, ![1, 8, 640, 2048]⟩
abbrev S8x640x2048 : Shape := ⟨3, ![8, 640, 2048]⟩
abbrev S8192 : Shape := ⟨1, ![8192]⟩
abbrev S2x4x640x2048 : Shape := ⟨4, ![2, 4, 640, 2048]⟩
abbrev S1x4x640x2048 : Shape := ⟨4, ![1, 4, 640, 2048]⟩
abbrev S4x640x2048 : Shape := ⟨3, ![4, 640, 2048]⟩
abbrev S2x4x1x640x2048 : Shape := ⟨5, ![2, 4, 1, 640, 2048]⟩
abbrev S2x4x2x640x2048 : Shape := ⟨5, ![2, 4, 2, 640, 2048]⟩
abbrev S2x5120x2048 : Shape := ⟨3, ![2, 5120, 2048]⟩
abbrev S8192x1 : Shape := ⟨2, ![8192, 1]⟩
abbrev S2x8192x2048 : Shape := ⟨3, ![2, 8192, 2048]⟩
abbrev S_ : Shape := ⟨0, ![]⟩
abbrev S1x8192x1 : Shape := ⟨3, ![1, 8192, 1]⟩
abbrev S16384x2048 : Shape := ⟨2, ![16384, 2048]⟩
abbrev S2x2x4096x2048 : Shape := ⟨4, ![2, 2, 4096, 2048]⟩
abbrev S2x1x4096x2048 : Shape := ⟨4, ![2, 1, 4096, 2048]⟩
abbrev S2x4096x2048 : Shape := ⟨3, ![2, 4096, 2048]⟩
abbrev S1x2x4096x2048 : Shape := ⟨4, ![1, 2, 4096, 2048]⟩

abbrev nBuf : Space → Nat
  | .hbm => 105
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S16x640x2048, .bf16⟩
  | .hbm, ⟨2, _⟩ => ⟨S16x640x2048, .bf16⟩
  | .hbm, ⟨3, _⟩ => ⟨S2x8x640x2048, .bf16⟩
  | .hbm, ⟨4, _⟩ => ⟨S2x8x640x2048, .bf16⟩
  | .hbm, ⟨5, _⟩ => ⟨S8x1024, .i32⟩
  | .hbm, ⟨6, _⟩ => ⟨S1x8x640x2048, .bf16⟩
  | .hbm, ⟨7, _⟩ => ⟨S8x640x2048, .bf16⟩
  | .hbm, ⟨8, _⟩ => ⟨S1x8x640x2048, .bf16⟩
  | .hbm, ⟨9, _⟩ => ⟨S8x640x2048, .bf16⟩
  | .hbm, ⟨10, _⟩ => ⟨S8192, .i32⟩
  | .hbm, ⟨11, _⟩ => ⟨S2x4x640x2048, .bf16⟩
  | .hbm, ⟨12, _⟩ => ⟨S2x4x640x2048, .bf16⟩
  | .hbm, ⟨13, _⟩ => ⟨S1x4x640x2048, .bf16⟩
  | .hbm, ⟨14, _⟩ => ⟨S4x640x2048, .bf16⟩
  | .hbm, ⟨15, _⟩ => ⟨S1x4x640x2048, .bf16⟩
  | .hbm, ⟨16, _⟩ => ⟨S4x640x2048, .bf16⟩
  | .hbm, ⟨17, _⟩ => ⟨S1x4x640x2048, .bf16⟩
  | .hbm, ⟨18, _⟩ => ⟨S1x4x640x2048, .bf16⟩
  | .hbm, ⟨19, _⟩ => ⟨S2x4x640x2048, .bf16⟩
  | .hbm, ⟨20, _⟩ => ⟨S1x4x640x2048, .bf16⟩
  | .hbm, ⟨21, _⟩ => ⟨S4x640x2048, .bf16⟩
  | .hbm, ⟨22, _⟩ => ⟨S1x4x640x2048, .bf16⟩
  | .hbm, ⟨23, _⟩ => ⟨S4x640x2048, .bf16⟩
  | .hbm, ⟨24, _⟩ => ⟨S1x4x640x2048, .bf16⟩
  | .hbm, ⟨25, _⟩ => ⟨S1x4x640x2048, .bf16⟩
  | .hbm, ⟨26, _⟩ => ⟨S2x4x640x2048, .bf16⟩
  | .hbm, ⟨27, _⟩ => ⟨S2x4x1x640x2048, .bf16⟩
  | .hbm, ⟨28, _⟩ => ⟨S2x4x1x640x2048, .bf16⟩
  | .hbm, ⟨29, _⟩ => ⟨S2x4x2x640x2048, .bf16⟩
  | .hbm, ⟨30, _⟩ => ⟨S2x5120x2048, .bf16⟩
  | .hbm, ⟨31, _⟩ => ⟨S8192x1, .i32⟩
  | .hbm, ⟨32, _⟩ => ⟨S2x8192x2048, .bf16⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S8192, .i1⟩
  | .hbm, ⟨40, _⟩ => ⟨S1x8192x1, .i1⟩
  | .hbm, ⟨41, _⟩ => ⟨S_, .bf16⟩
  | .hbm, ⟨42, _⟩ => ⟨S2x8192x2048, .i1⟩
  | .hbm, ⟨43, _⟩ => ⟨S2x8192x2048, .bf16⟩
  | .hbm, ⟨44, _⟩ => ⟨S2x8192x2048, .bf16⟩
  | .hbm, ⟨45, _⟩ => ⟨S16384x2048, .bf16⟩
  | .hbm, ⟨46, _⟩ => ⟨S16384x2048, .f32⟩
  | .hbm, ⟨47, _⟩ => ⟨S2x2x4096x2048, .f32⟩
  | .hbm, ⟨48, _⟩ => ⟨S8x1024, .i32⟩
  | .hbm, ⟨49, _⟩ => ⟨S1x8x640x2048, .bf16⟩
  | .hbm, ⟨50, _⟩ => ⟨S8x640x2048, .bf16⟩
  | .hbm, ⟨51, _⟩ => ⟨S1x8x640x2048, .bf16⟩
  | .hbm, ⟨52, _⟩ => ⟨S8x640x2048, .bf16⟩
  | .hbm, ⟨53, _⟩ => ⟨S8192, .i32⟩
  | .hbm, ⟨54, _⟩ => ⟨S2x4x640x2048, .bf16⟩
  | .hbm, ⟨55, _⟩ => ⟨S2x4x640x2048, .bf16⟩
  | .hbm, ⟨56, _⟩ => ⟨S1x4x640x2048, .bf16⟩
  | .hbm, ⟨57, _⟩ => ⟨S4x640x2048, .bf16⟩
  | .hbm, ⟨58, _⟩ => ⟨S1x4x640x2048, .bf16⟩
  | .hbm, ⟨59, _⟩ => ⟨S4x640x2048, .bf16⟩
  | .hbm, ⟨60, _⟩ => ⟨S1x4x640x2048, .bf16⟩
  | .hbm, ⟨61, _⟩ => ⟨S1x4x640x2048, .bf16⟩
  | .hbm, ⟨62, _⟩ => ⟨S2x4x640x2048, .bf16⟩
  | .hbm, ⟨63, _⟩ => ⟨S1x4x640x2048, .bf16⟩
  | .hbm, ⟨64, _⟩ => ⟨S4x640x2048, .bf16⟩
  | .hbm, ⟨65, _⟩ => ⟨S1x4x640x2048, .bf16⟩
  | .hbm, ⟨66, _⟩ => ⟨S4x640x2048, .bf16⟩
  | .hbm, ⟨67, _⟩ => ⟨S1x4x640x2048, .bf16⟩
  | .hbm, ⟨68, _⟩ => ⟨S1x4x640x2048, .bf16⟩
  | .hbm, ⟨69, _⟩ => ⟨S2x4x640x2048, .bf16⟩
  | .hbm, ⟨70, _⟩ => ⟨S2x4x1x640x2048, .bf16⟩
  | .hbm, ⟨71, _⟩ => ⟨S2x4x1x640x2048, .bf16⟩
  | .hbm, ⟨72, _⟩ => ⟨S2x4x2x640x2048, .bf16⟩
  | .hbm, ⟨73, _⟩ => ⟨S2x5120x2048, .bf16⟩
  | .hbm, ⟨74, _⟩ => ⟨S8192x1, .i32⟩
  | .hbm, ⟨75, _⟩ => ⟨S2x8192x2048, .bf16⟩
  | .hbm, ⟨76, _⟩ => ⟨S_, .i32⟩
  | .hbm, ⟨77, _⟩ => ⟨S8192, .i32⟩
  | .hbm, ⟨78, _⟩ => ⟨S8192, .i1⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S8192, .i1⟩
  | .hbm, ⟨83, _⟩ => ⟨S1x8192x1, .i1⟩
  | .hbm, ⟨84, _⟩ => ⟨S_, .bf16⟩
  | .hbm, ⟨85, _⟩ => ⟨S2x8192x2048, .i1⟩
  | .hbm, ⟨86, _⟩ => ⟨S2x8192x2048, .bf16⟩
  | .hbm, ⟨87, _⟩ => ⟨S2x8192x2048, .bf16⟩
  | .hbm, ⟨88, _⟩ => ⟨S16384x2048, .bf16⟩
  | .hbm, ⟨89, _⟩ => ⟨S16384x2048, .f32⟩
  | .hbm, ⟨90, _⟩ => ⟨S2x2x4096x2048, .f32⟩
  | .hbm, ⟨91, _⟩ => ⟨S2x1x4096x2048, .f32⟩
  | .hbm, ⟨92, _⟩ => ⟨S2x4096x2048, .f32⟩
  | .hbm, ⟨93, _⟩ => ⟨S2x1x4096x2048, .f32⟩
  | .hbm, ⟨94, _⟩ => ⟨S2x4096x2048, .f32⟩
  | .hbm, ⟨95, _⟩ => ⟨S2x4096x2048, .f32⟩
  | .hbm, ⟨96, _⟩ => ⟨S2x1x4096x2048, .f32⟩
  | .hbm, ⟨97, _⟩ => ⟨S2x4096x2048, .f32⟩
  | .hbm, ⟨98, _⟩ => ⟨S2x1x4096x2048, .f32⟩
  | .hbm, ⟨99, _⟩ => ⟨S2x4096x2048, .f32⟩
  | .hbm, ⟨100, _⟩ => ⟨S2x4096x2048, .f32⟩
  | .hbm, ⟨101, _⟩ => ⟨S1x2x4096x2048, .f32⟩
  | .hbm, ⟨102, _⟩ => ⟨S1x2x4096x2048, .f32⟩
  | .hbm, ⟨103, _⟩ => ⟨S2x2x4096x2048, .f32⟩
  | .hbm, ⟨104, _⟩ => ⟨S16384x2048, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_call0_v0 : Ref sig .tc := ⟨.hbm, 31, rfl⟩
abbrev main_v28 : Ref sig .tc := ⟨.hbm, 32, rfl⟩
abbrev main_c : Ref sig .tc := ⟨.hbm, 33, rfl⟩
abbrev main_v29 : Ref sig .tc := ⟨.hbm, 34, rfl⟩
abbrev main_v30 : Ref sig .tc := ⟨.hbm, 35, rfl⟩
abbrev main_c_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_call2_v0 : Ref sig .tc := ⟨.hbm, 74, rfl⟩
abbrev main_v65 : Ref sig .tc := ⟨.hbm, 75, rfl⟩
abbrev main_c_1 : Ref sig .tc := ⟨.hbm, 76, rfl⟩
abbrev main_v66 : Ref sig .tc := ⟨.hbm, 77, rfl⟩
abbrev main_v67 : Ref sig .tc := ⟨.hbm, 78, rfl⟩
abbrev main_c_2 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_3 : Ref sig .tc := ⟨.hbm, 84, rfl⟩
abbrev main_call3_v0 : Ref sig .tc := ⟨.hbm, 85, rfl⟩
abbrev main_call3_v1 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩

abbrev nD : Nat := 1
abbrev τ : Topo := Topo.v7x

variable {F : FTy → Type} [FloatOps F]
-- ==== Proof.Halves.lean ====
/-
# What the references do to an index

The two halves of a matrix's rows swapped, and the two members of each pair of blocks swapped: each result entry as one
entry of the operand.
-/
module

public import Idealize.ShloMosaic.Lib.Pointwise
public import Idealize.ShloMosaic.Lib.Pipeline.Value
public import Idealize.ShloMosaic.Lib.Layout

@[expose] public section

namespace Cert.Halves

open Idealize.ShloMosaic

/-- The rows below `H`, then the rows from `H` on, exchanged: row `r` reads row `r + H` or `r - H`. -/
theorem halves {α : Type} {N H C : ℕ} (x : (⟨2, ![N, C]⟩ : Shape).Idx → α)
    (h1 : (⟨2, ![N, C]⟩ : Shape).Slices ![H, 0] ⟨2, ![H, C]⟩) (h0 : (⟨2, ![N, C]⟩ : Shape).Slices ![0, 0] ⟨2, ![H, C]⟩)
    (h : Shape.Concatenates [⟨2, ![H, C]⟩, ⟨2, ![H, C]⟩] ⟨2, ![N, C]⟩ 0) (j i : (⟨2, ![N, C]⟩ : Shape).Idx)
    (hr : (i 0).val = if (j 0).val < H then H + (j 0).val else (j 0).val - H) (hc : (i 1).val = (j 1).val) :
    concatenate (⟨2, ![N, C]⟩ : Shape) (0 : Fin 2) [⟨⟨2, ![H, C]⟩, extractStridedSlice ⟨2, ![H, C]⟩ ![H, 0] x h1⟩,
      ⟨⟨2, ![H, C]⟩, extractStridedSlice ⟨2, ![H, C]⟩ ![0, 0] x h0⟩] h j = x i := by
  rw [concatenate_pair_apply]
  split
  all_goals
    rename_i hlt
    refine congrArg x (funext fun a => Fin.ext ?_)
    fin_cases a
  · exact (hr.trans (if_pos (show (j 0).val < H from hlt))).symm
  · exact (Nat.zero_add _).trans hc.symm
  · exact (Nat.zero_add _).trans (hr.trans (if_neg (show ¬ (j 0).val < H from hlt))).symm
  · exact (Nat.zero_add _).trans hc.symm

/-- Of four groups of `E` blocks the first two exchanged, and the last two. -/
theorem pairs {α : Type} (x : (⟨3, ![16, 640, 2048]⟩ : Shape).Idx → α)
    (h : (⟨3, ![16, 640, 2048]⟩ : Shape).ShapeCasts ⟨5, ![2, 2, 4, 640, 2048]⟩)
    (h' : (⟨5, ![2, 2, 4, 640, 2048]⟩ : Shape).ShapeCasts ⟨3, ![16, 640, 2048]⟩) (j i : (⟨3, ![16, 640, 2048]⟩ : Shape).Idx)
    (hr : (i 0).val = 8 * ((j 0).val / 8) + 4 * (1 - (j 0).val / 4 % 2) + (j 0).val % 4) (h1 : (i 1).val = (j 1).val) (h2 : (i 2).val = (j 2).val) :
    shapeCast ⟨3, ![16, 640, 2048]⟩ (Host.reverse [(1 : Fin 5)] (shapeCast ⟨5, ![2, 2, 4, 640, 2048]⟩ x h)) h' j = x i := by
  have hj : (j 0).val < 16 := (j 0).isLt
  let k : (⟨5, ![2, 2, 4, 640, 2048]⟩ : Shape).Idx := fun
    | 0 => ⟨(j 0).val / 8, by show _ < 2; omega⟩
    | 1 => ⟨(j 0).val / 4 % 2, by show _ < 2; omega⟩
    | 2 => ⟨(j 0).val % 4, by show _ < 4; omega⟩
    | 3 => j 1
    | 4 => j 2
  rw [shapeCast_apply _ h' j k (by
    rw [rowMajor_val5 k 10485760 5242880 1310720 2048 (by decide) (by decide) (by decide) (by decide), rowMajor_val3 j 1310720 2048 (by decide) (by decide)]
    show (j 0).val / 8 * _ + (j 0).val / 4 % 2 * _ + (j 0).val % 4 * _ + (j 1).val * _ + (j 2).val = _
    omega), Host.reverse_apply]
  refine shapeCast_apply _ h _ i ?_
  rw [rowMajor_val5 _ 10485760 5242880 1310720 2048 (by decide) (by decide) (by decide) (by decide), rowMajor_val3 i 1310720 2048 (by decide) (by decide)]
  show _ = (j 0).val / 8 * _ + (2 - ((j 0).val / 4 % 2 + 1)) * _ + (j 0).val % 4 * _ + (j 1).val * _ + (j 2).val
  omega

/-- The coordinates in the whole array of an entry of the `d`-th block along the first axis: `d` blocks further along it, -/
theorem idx_first {r k : ℕ} {u v : Fin (r + 1) → ℕ} (h : Layout.Tiles ⟨r + 1, u⟩ ⟨r + 1, v⟩ 0 k) (d : Fin k) (i : (⟨r + 1, u⟩ : Shape).Idx) :
    (h.idx d i 0).val = d.val * u 0 + (i 0).val := (h.idx_val d i 0).trans (if_pos rfl)
/-- and where it was along every other. -/
theorem idx_other {r k : ℕ} {u v : Fin (r + 1) → ℕ} (h : Layout.Tiles ⟨r + 1, u⟩ ⟨r + 1, v⟩ 0 k) (d : Fin k) (i : (⟨r + 1, u⟩ : Shape).Idx)
    (b : Fin r) : (h.idx d i b.succ).val = (i b.succ).val := (h.idx_val d i b.succ).trans (if_neg (Nat.succ_ne_zero _))

end Cert.Halves

end
-- ==== Proof.Swap.lean ====
/-
# A swap of whole blocks between paired devices

The protocol the three exchange kernels share, stated once for any number of transfers. The devices are paired
by an involution `peer`. Each device raises its peer's barrier semaphore by one, which hands the peer the buffers
its transfers land in; waits for its own barrier; sends its peer one block per transfer `j : J`; and waits for each
transfer's send and receive semaphore, which give back the block sent and the buffer holding the peer's block.

A device's cells are its barrier, the send cell and the receive cell of every transfer (`Cell J`). Each has one
round with one duty. What the duties hand over is left to the kernel (`Pays`): this module proves the steps of the
kernel's body over it, and the facts the launch asks for.
-/
module

public import Idealize.ShloMosaic.Lib.Rounds.Family
public import Idealize.ShloMosaic.Lib.Pipeline.Launch
public import Idealize.ShloMosaic.Lib.Pipeline.Kit
public import Idealize.ShloMosaic.Lib.Tactic

@[expose] public section

noncomputable section

namespace Cert.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The cells of one device: its barrier, then a send and a receive cell per transfer. -/
abbrev Cell (J : Type) : Type := Unit ⊕ (J ⊕ J)

/-- The pairing of the devices and the semaphores of the exchange. -/
structure Spec (nD : Nat) (sig : RefSig) (J : Type) where
  peer : Dev nD → Dev nD
  peer_peer : ∀ c, peer (peer c) = c
  bar : Sem sig
  snd : J → DmaSem sig
  rcv : J → DmaSem sig
  snd_inj : Function.Injective snd
  rcv_inj : Function.Injective rcv
  snd_ne_rcv : ∀ i j, snd i ≠ rcv j
  /-- What one transfer credits. -/
  N : J → ℕ
  N_pos : ∀ j, 0 < N j

variable {nD : Nat} {τ : Topo} {sig : RefSig} {Val : EltTy → Type} {J : Type} [Fintype J] [DecidableEq J]

/-- The ghost state: the pipeline's copy of the rounds algebra and the exchange's. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

namespace Spec

variable (S : Spec nD sig J)

/-- The pairing as a permutation of the devices. -/
def swap : Dev nD ≃ Dev nD := ⟨S.peer, S.peer, S.peer_peer, S.peer_peer⟩

/-- The semaphore of a cell. -/
def sem : Cell J → SemLoc sig
  | .inl _ => .reg S.bar
  | .inr (.inl j) => .dma (S.snd j)
  | .inr (.inr j) => .dma (S.rcv j)

/-- The cell `k` of device `c`. -/
abbrev at_ (c : Dev nD) (k : Cell J) : GSem nD τ sig := ((c : Thread nD τ), S.sem k)

/-- The exchange's scoped semaphores. -/
abbrev own (k : J ⊕ J) : SemLoc sig := S.sem (.inr k)

abbrev kBar : Cell J := .inl ()
abbrev kSnd (j : J) : Cell J := .inr (.inl j)
abbrev kRcv (j : J) : Cell J := .inr (.inr j)

theorem sem_inj : Function.Injective S.sem := by
  rintro (_ | k | k) (_ | k' | k') h
  · rfl
  · exact nomatch h
  · exact nomatch h
  · exact nomatch h
  · rw [S.snd_inj (SemLoc.dma.inj h)]
  · exact absurd (SemLoc.dma.inj h) (S.snd_ne_rcv _ _)
  · exact nomatch h
  · exact absurd (SemLoc.dma.inj h).symm (S.snd_ne_rcv _ _)
  · rw [S.rcv_inj (SemLoc.dma.inj h)]

theorem at_inj : Function.Injective (fun ck : Dev nD × Cell J => (S.at_ ck.1 ck.2 : GSem nD τ sig)) := by
  rintro ⟨c, k⟩ ⟨c', k'⟩ h
  have h1 : c = c' := congrArg (fun g : GSem nD τ sig => g.1.1) h
  have h2 : k = k' := S.sem_inj (congrArg Prod.snd h)
  rw [h1, h2]

open Classical in
/-- The cell a semaphore is, if it is one. -/
def dec (sm : SemLoc sig) : Option (Cell J) := if h : ∃ k, S.sem k = sm then some h.choose else none

theorem dec_sem (k : Cell J) : S.dec (S.sem k) = some k := by
  have h : ∃ k', S.sem k' = S.sem k := ⟨k, rfl⟩
  rw [dec, dif_pos h, S.sem_inj h.choose_spec]

/-- What a cell's duty contributes. -/
def amt : Cell J → ℕ
  | .inl _ => 1
  | .inr (.inl j) => S.N j
  | .inr (.inr j) => S.N j

theorem amt_pos (k : Cell J) : 0 < S.amt k := by
  rcases k with _ | j | j
  · exact Nat.one_pos
  · exact S.N_pos j
  · exact S.N_pos j

end Spec

/-- What the exchange hands over, per transfer and device: the buffer a transfer to the device lands in, the block
    sent when the send completes, the buffer filled when the receive does. -/
structure Pays (nD : Nat) (τ : Topo) (sig : RefSig) (Val : EltTy → Type) (J : Type) where
  lands : J → Dev nD → sProp (MT nD τ sig Unit Val ℕ (UU nD τ sig) ℕ)
  sent : J → Dev nD → sProp (MT nD τ sig Unit Val ℕ (UU nD τ sig) ℕ)
  got : J → Dev nD → sProp (MT nD τ sig Unit Val ℕ (UU nD τ sig) ℕ)
  lands_storable : ∀ j c, BI.Storable (upEmb : UEmb _ (MT nD τ sig Unit Val ℕ (UU nD τ sig) ℕ)) (lands j c)
  sent_storable : ∀ j c, BI.Storable (upEmb : UEmb _ (MT nD τ sig Unit Val ℕ (UU nD τ sig) ℕ)) (sent j c)
  got_storable : ∀ j c, BI.Storable (upEmb : UEmb _ (MT nD τ sig Unit Val ℕ (UU nD τ sig) ℕ)) (got j c)

variable (S : Spec nD sig J) (P : Pays nD τ sig Val J)

/-! ## The schedule -/

/-- The payload of cell `k` of device `c`; the barrier's is the peer's landing buffers. -/
def pay (k : Cell J) (c : Dev nD) : sProp 𝕄 :=
  match k with
  | .inl _ => bigSep Finset.univ fun j : J => P.lands j (S.peer c)
  | .inr (.inl j) => P.sent j c
  | .inr (.inr j) => P.got j c

instance pay_storable (k : Cell J) (c : Dev nD) : BI.Storable (upEmb : UEmb _ 𝕄) (pay S P k c) := by
  have h1 := P.lands_storable; have h2 := P.sent_storable; have h3 := P.got_storable
  rcases k with _ | j | j
  · show BI.Storable upEmb (bigSep Finset.univ fun j : J => P.lands j (S.peer c))
    infer_instance
  · exact h2 j c
  · exact h3 j c

def Rd : Rounds.Schedule (GSem nD τ sig) Unit 𝕄 where
  duties g r := if r = 0 ∧ g.1.2 = .tc ∧ (S.dec g.2).isSome then {()} else ∅
  unitless _ := False
  amount g _ _ := ((S.dec g.2).map S.amt).getD 1
  payload g _ _ := ((S.dec g.2).map fun k => pay S P k g.1.1).getD iprop(emp)
  amount_pos g _ _ _ := by
    cases S.dec g.2 with
    | none => exact Nat.one_pos
    | some k => exact S.amt_pos k

instance payload_storable (g : GSem nD τ sig) (r : ℕ) (d : Unit) : BI.Storable (upEmb : UEmb _ 𝕄) ((Rd S P).payload g r d) := by
  show BI.Storable upEmb (((S.dec g.2).map fun k => pay S P k g.1.1).getD iprop(emp))
  cases S.dec g.2 with
  | none => show BI.Storable upEmb iprop(emp); infer_instance
  | some k => exact pay_storable S P k g.1.1

section Sched
variable (c : Dev nD) (k : Cell J)

theorem duties_eq : (Rd (τ := τ) S P).duties (S.at_ c k) 0 = {()} := by
  dsimp only [Rd]; exact if_pos ⟨rfl, rfl, by rw [S.dec_sem]; rfl⟩
theorem duties_later (g : GSem nD τ sig) : ∀ r, 1 ≤ r → (Rd S P).duties g r = ∅ :=
  fun r hr => by dsimp only [Rd]; exact if_neg fun h => by omega
theorem mem_duties : () ∈ (Rd (τ := τ) S P).duties (S.at_ c k) 0 := by rw [duties_eq]; exact Finset.mem_singleton_self _
theorem amount_eq (r : ℕ) (u : Unit) : (Rd (τ := τ) S P).amount (S.at_ c k) r u = S.amt k := by
  dsimp only [Rd]; rw [S.dec_sem]; rfl
theorem payload_eq (r : ℕ) (u : Unit) : (Rd (τ := τ) S P).payload (S.at_ c k) r u = pay S P k c := by
  dsimp only [Rd]; rw [S.dec_sem]; rfl
theorem expect_eq : (Rd (τ := τ) S P).expect (S.at_ c k) 0 = S.amt k := by
  unfold Schedule.expect Schedule.amountOf; rw [duties_eq, Finset.sum_singleton, amount_eq]
theorem rest_eq : bigSep ((Rd S P).duties (S.at_ c k) 0 \ ∅) (fun u => (Rd S P).payload (S.at_ c k) 0 u) = pay S P k c := by
  rw [Finset.sdiff_empty, duties_eq, bigSep_singleton, payload_eq]

end Sched

/-! ## What a device owes, and the levels -/

/-- The receive credits of the transfers `s`, owed to the peer. -/
def dues (s : Finset J) (c : Dev nD) : CellTallies nD τ sig Unit :=
  ∑ j ∈ s, tallyAt (S.at_ (S.peer c) (.inr (.inr j))) () (S.N j)

/-- What a device owes at launch: every transfer's receive credit and one unit of the barrier, to its peer. -/
def O₀ (c : Dev nD) : CellTallies nD τ sig Unit := dues S Finset.univ c + tallyAt (S.at_ (S.peer c) (.inl ())) () 1

theorem dues_empty (c : Dev nD) : (dues S ∅ c : CellTallies nD τ sig Unit) = 0 := Finset.sum_empty

theorem dues_erase {s : Finset J} {j : J} (h : j ∈ s) (c : Dev nD) :
    (dues S s c : CellTallies nD τ sig Unit) = dues S (s.erase j) c + tallyAt (S.at_ (S.peer c) (.inr (.inr j))) () (S.N j) :=
  (Finset.sum_erase_add s _ h).symm

/-- Barrier cells stand at 1, receive cells at 2, every other cell at 0. -/
def lvl : Option (Cell J) → ℕ
  | some (.inl _) => 1
  | some (.inr (.inr _)) => 2
  | _ => 0

def L (g : GSem nD τ sig) : Finset Unit := if g.1.2 = .tc then {()} else ∅
def lv (g : GSem nD τ sig) (_ : Unit) : ℕ := lvl (S.dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Cell J) : lv (τ := τ) S (S.at_ c k) () = lvl (some k) := by unfold lv; rw [S.dec_sem]

theorem dues_pos {s : Finset J} {c : Dev nD} {g : GSem nD τ sig} {u : Unit} (h : 0 < dues S s c g u) :
    ∃ j, g = S.at_ (S.peer c) (.inr (.inr j)) := by
  obtain ⟨j, _, hj⟩ := Pipeline.sum_pos_exists h
  exact ⟨j, (Pipeline.tallyAt_pos hj).1⟩

theorem O₀_pos {c : Dev nD} {g : GSem nD τ sig} {u : Unit} (h : 0 < O₀ S c g u) :
    (∃ j, g = S.at_ (S.peer c) (.inr (.inr j))) ∨ g = S.at_ (S.peer c) (.inl ()) := by
  rcases Pipeline.add_pos_cases h with h | h
  · exact .inl (dues_pos S h)
  · exact .inr (Pipeline.tallyAt_pos h).1

/-- A wait on a semaphore that is no cell of the exchange, before anything is paid or after all is. -/
theorem mayWait_other (c : Dev nD) (q : DmaSem sig) (hq : ∀ k, S.sem k ≠ .dma q) (O : CellTallies nD τ sig Unit)
    (hO : O = O₀ S c ∨ O = 0) : (levAts L (lv S) : sProp 𝕄) ⊢ MayWait (c : Thread nD τ) (.dma q) () O := by
  have hd : S.dec (.dma q) = none := dif_neg fun ⟨k, hk⟩ => hq k hk
  rcases hO with rfl | rfl
  · refine Pipeline.mayWait_of_levAts (by rw [L_tc]; exact Finset.mem_singleton_self _) fun g i hg => ?_
    have hl : lv (τ := τ) S ((c : Thread nD τ), .dma q) () = 0 := by unfold lv; rw [hd]; rfl
    rw [hl]
    rcases O₀_pos S hg with ⟨j, rfl⟩ | rfl
    · exact ⟨by rw [L_tc]; exact Finset.mem_singleton_self _, by rw [lv_at]; exact Nat.succ_pos _⟩
    · exact ⟨by rw [L_tc]; exact Finset.mem_singleton_self _, by rw [lv_at]; exact Nat.succ_pos _⟩
  · rw [MayWait_zero]; iintro -; iempintro

theorem mayWait_bar (c : Dev nD) (s : Finset J) :
    (levAts L (lv S) : sProp 𝕄) ⊢ MayWait (c : Thread nD τ) (.reg S.bar) () (dues S s c) := by
  refine Pipeline.mayWait_of_levAts (by rw [L_tc]; exact Finset.mem_singleton_self _) fun g i hg => ?_
  obtain ⟨j, rfl⟩ := dues_pos S hg
  refine ⟨by rw [L_tc]; exact Finset.mem_singleton_self _, ?_⟩
  rw [show (((c : Thread nD τ), SemLoc.reg S.bar) : GSem nD τ sig) = S.at_ c (.inl ()) from rfl, lv_at, lv_at]
  exact Nat.lt_succ_self 1

/-! ## The ghost state of a device -/

/-- Every cell's invariant, and that every cell's first round is reached. -/
def records (K : Dev nD × Cell J → ℕ) : sProp 𝕄 :=
  iprop((bigSep Finset.univ fun ck : Dev nD × Cell J => cellInv ER (Rd S P) (K ck) (S.at_ ck.1 ck.2))
    ∗ bigSep Finset.univ fun ck : Dev nD × Cell J => reached ER (S.at_ ck.1 ck.2) 0)
instance records_persistent (K : Dev nD × Cell J → ℕ) : BI.Persistent (records S P K) := by unfold records; infer_instance

theorem records_inv (K : Dev nD × Cell J → ℕ) (c : Dev nD) (k : Cell J) :
    records S P K ⊢ cellInv ER (Rd S P) (K (c, k)) (S.at_ c k) := by
  unfold records
  iintro ⟨H, -⟩
  iapply (show (bigSep Finset.univ fun ck : Dev nD × Cell J => (cellInv ER (Rd S P) (K ck) (S.at_ ck.1 ck.2) : sProp 𝕄))
      ⊢ cellInv ER (Rd S P) (K (c, k)) (S.at_ c k) from bigSep_elim (Finset.mem_univ (c, k)))
  iexact H
theorem records_reached (K : Dev nD × Cell J → ℕ) (c : Dev nD) (k : Cell J) :
    records S P K ⊢ reached ER (S.at_ c k) 0 := by
  unfold records
  iintro ⟨-, H⟩
  iapply (show (bigSep Finset.univ fun ck : Dev nD × Cell J => (reached ER (S.at_ ck.1 ck.2) 0 : sProp 𝕄))
      ⊢ reached ER (S.at_ c k) 0 from bigSep_elim (Finset.mem_univ (c, k)))
  iexact H

/-- The duty tokens a device pays with: its peer's barrier and receives, its own sends. -/
def payToks (c : Dev nD) : sProp 𝕄 :=
  iprop(dutyTok ER (S.at_ (S.peer c) (.inl ())) 0 ()
    ∗ (bigSep Finset.univ fun j : J => dutyTok ER (S.at_ c (.inr (.inl j))) 0 ())
    ∗ bigSep Finset.univ fun j : J => dutyTok ER (S.at_ (S.peer c) (.inr (.inr j))) 0 ())

/-- A device's position at each of its own cells. -/
def posns (c : Dev nD) : sProp 𝕄 := bigSep Finset.univ fun k : Cell J => atPos ER (S.at_ c k) 0 ∅ 0

/-- What a device starts from. -/
def start (c : Dev nD) : sProp 𝕄 :=
  iprop((∃ K, records S P K ∗ posns S c ∗ payToks S c)
    ∗ (cred (tallyAt (S.at_ c (.inl ())) () 1) ∗ bigSep Finset.univ fun j : J => cred (tallyAt (S.at_ c (.inr (.inr j))) () (S.N j)))
    ∗ levAts L (lv S))

/-- What it ends with: its semaphores at zero. -/
def zeros (c : Dev nD) : sProp 𝕄 := bigSep Finset.univ fun k : Cell J => semVal (S.at_ c k) 0

theorem split_cells (Φ : Cell J → sProp 𝕄) :
    bigSep Finset.univ Φ = iprop(Φ (.inl ()) ∗ (bigSep Finset.univ fun j : J => Φ (.inr (.inl j))) ∗ bigSep Finset.univ fun j : J => Φ (.inr (.inr j))) := by
  rw [bigSep_univ_sum, bigSep_univ_sum, Finset.univ_unique, bigSep_singleton]; rfl

theorem posns_eq (c : Dev nD) : (posns S c : sProp 𝕄) = iprop(atPos ER (S.at_ c (.inl ())) 0 ∅ 0
    ∗ (bigSep Finset.univ fun j : J => atPos ER (S.at_ c (.inr (.inl j))) 0 ∅ 0)
    ∗ bigSep Finset.univ fun j : J => atPos ER (S.at_ c (.inr (.inr j))) 0 ∅ 0) := split_cells _
theorem zeros_eq (c : Dev nD) : (zeros S c : sProp 𝕄) = iprop(semVal (S.at_ c (.inl ())) 0
    ∗ (bigSep Finset.univ fun j : J => semVal (S.at_ c (.inr (.inl j))) 0)
    ∗ bigSep Finset.univ fun j : J => semVal (S.at_ c (.inr (.inr j))) 0) := split_cells _

theorem fin1 (Φ : Fin 1 → sProp 𝕄) : bigSep Finset.univ Φ = Φ 0 := bigSep_univ_eq_bigSepL [0] (by decide) (by decide) Φ
theorem fin2 (Φ : Fin 2 → sProp 𝕄) : bigSep Finset.univ Φ = iprop(Φ 0 ∗ Φ 1) := bigSep_univ_eq_bigSepL [0, 1] (by decide) (by decide) Φ

/-! ## The steps of a body -/

section Steps

variable {Λ : Labels} (defs : Defs nD τ sig Val Λ) (𝒱 : Variants) (K : Dev nD × Cell J → ℕ) (c : Dev nD)
variable {W : Waits sig Unit}

/-- The signal to the peer's barrier hands over this device's landing buffers. -/
theorem wp_signal_peer {α : Type} {Q : α → sProp 𝕄} {k : PUnit → Prog (TpuEff nD τ sig Val Λ .tc) α}
    {n : Dev nD} (hn : n = S.peer c) :
    iprop(records S P K ∗ owes (c : Thread nD τ) (O₀ S c) W ∗ dutyTok ER (S.at_ (S.peer c) (.inl ())) 0 ()
        ∗ bigSep Finset.univ fun j : J => P.lands j c)
      ⊢ iprop((owes (c : Thread nD τ) (dues S Finset.univ c) W -∗ wp frame (wpE defs 𝒱 (c : Thread nD τ) none) Set.univ (k ⟨⟩) Q)
          -∗ wp frame (wpE defs 𝒱 (c : Thread nD τ) none) Set.univ (.op (.semSignal (n : Thread nD τ) S.bar 1) k) Q) := by
  subst hn
  iintro ⟨#HR, HO, Ht, HL⟩ Hk
  iapply (Rounds.wp_signal 𝒱 ER (Rd S P) (c : Thread nD τ) none (dst := (S.peer c : Thread nD τ)) (κ := K (S.peer c, .inl ()))
      (mem_duties S P (S.peer c) (.inl ())) (amount_eq S P (S.peer c) (.inl ()) 0 ()) () (dues S Finset.univ c) rfl) $$ [HO Ht HL]
  · isplitr; · iapply (records_inv S P K (S.peer c) (.inl ())); iexact HR
    isplitl [HO]; · iexact HO
    isplitl [Ht]; · iexact Ht
    isplitl [HL]
    · rw [show ((((S.peer c : Dev nD) : Thread nD τ), SemLoc.reg S.bar) : GSem nD τ sig) = S.at_ (S.peer c) (.inl ()) from rfl, payload_eq]
      unfold pay; rw [S.peer_peer]; iexact HL
    · iapply (records_reached S P K (S.peer c) (.inl ())); iexact HR
  iexact Hk

/-- The wait at a cell of this device, of its whole round, by a device that may wait there. -/
theorem wp_wait_cell {α : Type} {Q : α → sProp 𝕄} {k : PUnit → Prog (TpuEff nD τ sig Val Λ .tc) α}
    (x : Cell J) {w : TpuEff nD τ sig Val Λ .tc PUnit} {n : ℕ} (hn : n = S.amt x)
    (hw : ∀ Kt : PUnit → sProp 𝕄, wpE defs 𝒱 (c : Thread nD τ) none Set.univ w Kt = waitSpec (c : Thread nD τ) Set.univ (S.sem x) n Kt)
    {O : CellTallies nD τ sig Unit} :
    iprop(records S P K ∗ cred (tallyAt (S.at_ c x) () (S.amt x)) ∗ owes (c : Thread nD τ) O W ∗ MayWait (c : Thread nD τ) (S.sem x) () O
        ∗ atPos ER (S.at_ c x) 0 ∅ 0)
      ⊢ iprop(((owes (c : Thread nD τ) O (insert (S.sem x, ()) W) ∗ semVal (S.at_ c x) 0 ∗ pay S P x c)
            -∗ wp frame (wpE defs 𝒱 (c : Thread nD τ) none) Set.univ (k ⟨⟩) Q)
          -∗ wp frame (wpE defs 𝒱 (c : Thread nD τ) none) Set.univ (.op w k) Q) := by
  subst hn
  iintro ⟨#HR, Hc, HO, HM, Hat⟩ Hk
  iapply (Rounds.wp_wait_rest_token 𝒱 ER (Rd S P) (c : Thread nD τ) none (κ := K (c, x)) hw (Set.mem_univ _) () (O := O) (W := W)
      (R := 0) (m := 0) (T := ∅) (by rw [Nat.zero_add]; exact (expect_eq S P c x).symm)) $$ [Hc HO HM Hat]
  · isplitr; · iapply (records_inv S P K c x); iexact HR
    isplitl [Hc]; · iexact Hc
    isplitl [HO]; · iexact HO
    isplitl [HM]; · iexact HM
    iexact Hat
  iintro ⟨HO, Hat, -, Hp⟩
  ihave Hp := (Entails.of_eq (rest_eq S P c x)) $$ Hp
  imod (Rounds.cell_close ER (Rd S P) (Set.mem_univ (K (c, x))) (fun h => h) (R := 0 + 1) (duties_later S P (S.at_ c x))) $$ [Hat] with Hz
  · isplitr; · iapply (records_inv S P K c x); iexact HR
    iexact Hat
  iapply Hk
  isplitl [HO]; · iexact HO
  isplitl [Hz] <;> iassumption

/-- The transfer `j` to the peer, one of those still due. -/
theorem wp_send_peer {α : Type} {Q : α → sProp 𝕄} {k : PUnit → Prog (TpuEff nD τ sig Val Λ .tc) α}
    {n : Dev nD} (hn : n = S.peer c) (j : J) {s : Finset J} (hj : j ∈ s) {sp sp' : Space} {sh : Shape} {e : EltTy}
    {src : Memref sig .tc sp sh e} {dst : Memref sig .tc sp' sh e}
    {hsc : (dst : Memref sig (Dev.tc n : Thread nD τ).2.kind sp' sh e).view.ref.isScScratch = false}
    {hsrc : src.view.WordExact} {hdst : dst.view.WordExact}
    {hsem : DmaTarget.Typed sp (.dma (S.rcv j)) (.remote (Dev.tc n : Thread nD τ) dst (.dma (S.snd j)) hsc)}
    (hN : dst.view.amount (.dma (S.rcv j)) = S.N j)
    {q : PosShare TreeShare} {fs : Buf Val (src.view.loc (c : Thread nD τ))} {fd : Buf Val (dst.view.loc ((S.peer c : Dev nD) : Thread nD τ))}
    (hs : (src.view.loc (c : Thread nD τ) ↦[src.view.set]{q} fs : sProp 𝕄) ⊢ P.sent j c)
    (hg : (dst.view.loc ((S.peer c : Dev nD) : Thread nD τ) ↦[dst.view.set]{fullShare} (dst.view.write Val fd (src.view.read Val fs) Finset.univ) : sProp 𝕄)
      ⊢ P.got j (S.peer c)) :
    iprop(records S P K ∗ (src.view.loc (c : Thread nD τ) ↦[src.view.set]{q} fs)
        ∗ (dst.view.loc ((S.peer c : Dev nD) : Thread nD τ) ↦[dst.view.set]{fullShare} fd)
        ∗ owes (c : Thread nD τ) (dues S s c) W
        ∗ dutyTok ER (S.at_ c (.inr (.inl j))) 0 () ∗ dutyTok ER (S.at_ (S.peer c) (.inr (.inr j))) 0 ())
      ⊢ iprop(((cred (tallyAt (S.at_ c (.inr (.inl j))) () (S.N j)) ∗ owes (c : Thread nD τ) (dues S (s.erase j) c) W)
            -∗ wp frame (wpE defs 𝒱 (c : Thread nD τ) none) Set.univ (k ⟨⟩) Q)
          -∗ wp frame (wpE defs 𝒱 (c : Thread nD τ) none) Set.univ
            (.op (.enqueueDma src (.remote (Dev.tc n : Thread nD τ) dst (.dma (S.snd j)) hsc) (.dma (S.rcv j)) hsrc hdst hsem) k) Q) := by
  subst hn
  iintro ⟨#HR, Hs, Hd, HO, Ht, Ht'⟩ Hk
  iapply (Rounds.wp_send_pointsTo 𝒱 ER (Rd S P) (c : Thread nD τ) none (κ₁ := K (c, .inr (.inl j))) (κ₂ := K (S.peer c, .inr (.inr j)))
      (r₁ := 0) (r₂ := 0) (d₁ := ()) (d₂ := ()) (fs := fs) (fd := fd) (q := q)
      (mem_duties S P c (.inr (.inl j))) (mem_duties S P (S.peer c) (.inr (.inr j))) () () (S.N j) hN
      (amount_eq S P c (.inr (.inl j)) 0 ()) (amount_eq S P (S.peer c) (.inr (.inr j)) 0 ()) (dues S (s.erase j) c) (dues_erase S hj c)
      (hs.trans (Entails.of_eq (payload_eq S P c (.inr (.inl j)) 0 ()).symm))
      (hg.trans (Entails.of_eq (payload_eq S P (S.peer c) (.inr (.inr j)) 0 ()).symm))) $$ [Hs Hd HO Ht Ht']
  · isplitr; · iapply (records_inv S P K c (.inr (.inl j))); iexact HR
    isplitr; · iapply (records_inv S P K (S.peer c) (.inr (.inr j))); iexact HR
    isplitl [Hs]; · iexact Hs
    isplitl [Hd]; · iexact Hd
    isplitl [HO]; · iexact HO
    isplitl [Ht]; · iexact Ht
    isplitr; · iapply (records_reached S P K c (.inr (.inl j))); iexact HR
    isplitl [Ht']; · iexact Ht'
    iapply (records_reached S P K (S.peer c) (.inr (.inr j))); iexact HR
  iexact Hk

end Steps

/-! ## The launch -/

def cells : Finset (GSem nD τ sig) := Finset.univ.map ⟨fun ck : Dev nD × Cell J => S.at_ ck.1 ck.2, S.at_inj⟩
def tokens : Finset (GSem nD τ sig × ℕ × Unit) :=
  Finset.univ.map ⟨fun ck : Dev nD × Cell J => (S.at_ ck.1 ck.2, 0, ()), fun _ _ h => S.at_inj (congrArg Prod.fst h)⟩

/-- The tokens of a device's own cells. -/
def toks (c : Dev nD) : sProp 𝕄 := bigSep Finset.univ fun k : Cell J => dutyTok ER (S.at_ c k) 0 ()

/-- What a device is dealt before the cells are shared. -/
def G (c : Dev nD) : sProp 𝕄 :=
  iprop((bigSep Finset.univ fun k : Cell J => roundState ER (Rd S P) (S.at_ c k) 0)
    ∗ ((bigSep Finset.univ fun k : Cell J => reached ER (S.at_ c k) 0) ∗ posns S c) ∗ toks S c)
/-- What it holds once they are. -/
def G' (c : Dev nD) : sProp 𝕄 := iprop(∃ K, records S P K ∗ posns S c ∗ payToks S c)

theorem fund_swap : BI.own (ER (initOf (cells S) (tokens S))) ⊢ (|==> bigSep Finset.univ (G S P) : sProp 𝕄) := by
  have hX (Φ : GSem nD τ sig → sProp 𝕄) :
      bigSep (cells S) Φ = bigSep Finset.univ fun c : Dev nD => bigSep Finset.univ fun k : Cell J => Φ (S.at_ c k) := by
    unfold cells; rw [bigSep_map, bigSep_univ_prod]; rfl
  have hT : bigSep (tokens S) (fun x => (dutyTok ER x.1 x.2.1 x.2.2 : sProp 𝕄)) = bigSep Finset.univ fun c : Dev nD => toks S c := by
    unfold tokens; rw [bigSep_map, bigSep_univ_prod]; rfl
  iintro HX
  imod (Rounds.fund ER (Rd S P) (cells S) (tokens S)) $$ HX with ⟨Hst, Hr, Hat, Htok⟩
  imodintro
  ihave Hst := (Entails.of_eq (hX fun g => roundState ER (Rd S P) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold G; simp only [bigSep_sep']
  isplitl [Hst]; · iexact Hst
  isplitl [Hr Hat]
  · isplitl [Hr]; · iexact Hr
    unfold posns; iexact Hat
  iexact Htok

/-- One device's counters at zero and its round states become its cells' invariants. -/
theorem alloc_cells (c : Dev nD) :
    iprop(zeros S c ∗ bigSep Finset.univ fun k : Cell J => roundState ER (Rd S P) (S.at_ c k) 0)
      ⊢ (|={Set.univ}=> bigSep Finset.univ fun k : Cell J => iprop(∃ κ : ℕ, cellInv ER (Rd S P) κ (S.at_ c k)) : sProp 𝕄) := by
  unfold zeros
  rw [← bigSep_sep']
  exact (bigSep_mono fun k _ => (Rounds.body_intro ER (Rd S P) (S.at_ c k)).trans inv_alloc).trans (bigSep_fupd _ _)

/-- The tokens of the barrier and receive cells go to the peer, those of the send cells stay. -/
theorem toks_around : (bigSep Finset.univ fun c : Dev nD => (toks S c : sProp 𝕄)) ⊢ bigSep Finset.univ fun c : Dev nD => payToks S c := by
  have h (c : Dev nD) : (toks S c : sProp 𝕄) = iprop(dutyTok ER (S.at_ c (.inl ())) 0 ()
      ∗ (bigSep Finset.univ fun j : J => dutyTok ER (S.at_ c (.inr (.inl j))) 0 ())
      ∗ bigSep Finset.univ fun j : J => dutyTok ER (S.at_ c (.inr (.inr j))) 0 ()) := by
    unfold toks; exact split_cells _
  unfold payToks
  rw [bigSep_congr fun c _ => h c, bigSep_sep', bigSep_sep', bigSep_sep', bigSep_sep',
    bigSep_univ_equiv S.swap (fun c : Dev nD => (dutyTok ER (S.at_ c (.inl ())) 0 () : sProp 𝕄)),
    bigSep_univ_equiv S.swap (fun c : Dev nD => (bigSep Finset.univ fun j : J => dutyTok ER (S.at_ c (.inr (.inr j))) 0 () : sProp 𝕄))]
  exact Entails.refl _

/-- Something persistent is handed to every member. -/
theorem share_out {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

/-- All the devices' invariants, made known to all, and the tokens dealt to their payers. -/
theorem regroup :
    (bigSep Finset.univ fun c : Dev nD => iprop((bigSep Finset.univ fun k : Cell J => iprop(∃ κ : ℕ, cellInv ER (Rd S P) κ (S.at_ c k)))
          ∗ ((bigSep Finset.univ fun k : Cell J => reached ER (S.at_ c k) 0) ∗ posns S c) ∗ toks S c) : sProp 𝕄)
      ⊢ bigSep Finset.univ (G' S P) := by
  rw [bigSep_sep', bigSep_sep', bigSep_sep',
    ← bigSep_univ_prod (fun ck : Dev nD × Cell J => iprop(∃ κ : ℕ, cellInv ER (Rd S P) κ (S.at_ ck.1 ck.2))),
    ← bigSep_univ_prod (fun ck : Dev nD × Cell J => (reached ER (S.at_ ck.1 ck.2) 0 : sProp 𝕄))]
  iintro ⟨HI, ⟨#HR, Hat⟩, Htok⟩
  ihave HK := (BI.bigSep_exists_pi Finset.univ (fun (ck : Dev nD × Cell J) (κ : ℕ) => (cellInv ER (Rd S P) κ (S.at_ ck.1 ck.2) : sProp 𝕄))) $$ HI
  icases HK with ⟨%K, #HI⟩
  ihave Htk := (toks_around S) $$ Htok
  iapply (share_out (R := records S P K) (Φ := fun c => iprop(posns S c ∗ payToks S c)) fun c _ => by
    unfold G'
    iintro ⟨#H, H'⟩
    iexists K
    isplitr; · iexact H
    iexact H')
  isplitr
  · unfold records; isplitl; · iexact HI
    iexact HR
  · rw [bigSep_sep']
    isplitl [Hat] <;> iassumption

/-- The launch's global step: from every device's counters at zero to what each starts its body with. -/
theorem glob {X : Dev nD → sProp 𝕄} (hX : ∀ c, X c ⊢ zeros S c) :
    (bigSep Finset.univ fun c => iprop(X c ∗ G S P c) : sProp 𝕄) ⊢ |={Set.univ}=> bigSep Finset.univ (G' S P) := by
  refine ((bigSep_mono fun c _ => show iprop(X c ∗ G S P c) ⊢ (|={Set.univ}=> iprop(
      (bigSep Finset.univ fun k : Cell J => iprop(∃ κ : ℕ, cellInv ER (Rd S P) κ (S.at_ c k)))
        ∗ ((bigSep Finset.univ fun k : Cell J => reached ER (S.at_ c k) 0) ∗ posns S c) ∗ toks S c) : sProp 𝕄) from ?_).trans
      (bigSep_fupd _ _)).trans (BI.fupd_mono (regroup S P))
  unfold G
  iintro ⟨HX, Hst, Hrest⟩
  ihave Hz := (hX c) $$ HX
  imod (alloc_cells S P c) $$ [Hz Hst] with HI
  · isplitl [Hz] <;> iassumption
  imodintro
  isplitl [HI]; · iexact HI
  iexact Hrest

/-- The credit a device is dealt at launch: one unit of its barrier and every transfer's receive credit. -/
theorem creds (c : Dev nD) : (Pipeline.launchCred (O₀ S) c : sProp 𝕄)
    ⊢ iprop(cred (tallyAt (S.at_ c (.inl ())) () 1) ∗ bigSep Finset.univ fun j : J => cred (tallyAt (S.at_ c (.inr (.inr j))) () (S.N j))) := by
  rw [show (O₀ S : Dev nD → CellTallies nD τ sig Unit)
      = fun d => (fun d => ∑ j ∈ Finset.univ, (fun (j : J) (d : Dev nD) => tallyAt (S.at_ (S.peer d) (.inr (.inr j))) () (S.N j)) j d) d
        + (fun d => tallyAt (S.at_ (S.peer d) (.inl ())) () 1) d from rfl,
    Pipeline.launchCred_add, Pipeline.launchCred_sum]
  iintro ⟨HR, HB⟩
  isplitl [HB]
  · iapply (Pipeline.launchCred_tallyAt (S.sem (.inl ())) S.peer S.peer S.peer_peer S.peer_peer () 1 c); iexact HB
  · iapply (show (bigSep Finset.univ fun j : J => Pipeline.launchCred (fun d => tallyAt (S.at_ (S.peer d) (.inr (.inr j))) () (S.N j)) c)
        ⊢ (bigSep Finset.univ fun j : J => cred (tallyAt (S.at_ c (.inr (.inr j))) () (S.N j)) : sProp 𝕄) from
      bigSep_mono fun j _ => Pipeline.launchCred_tallyAt (S.sem (.inr (.inr j))) S.peer S.peer S.peer_peer S.peer_peer () (S.N j) c)
    iexact HR

theorem start_intro (c : Dev nD) {X Y : sProp 𝕄} :
    iprop(X ∗ levAts L (lv S) ∗ Pipeline.launchCred (O₀ S) c ∗ Y ∗ G' S P c) ⊢ |={Set.univ}=> iprop(start S P c ∗ emp) := by
  iintro ⟨-, Hlev, Hcr, -, HG⟩
  ihave Hc := (creds S c) $$ Hcr
  imodintro
  isplitl
  · unfold start G'
    isplitl [HG]; · iexact HG
    isplitl [Hc]; · iexact Hc
    iexact Hlev
  · iempintro

end Cert.Swap

end
-- ==== Proof.RunX.lean ====
/-
# The exchange along the mesh's first axis

Device `(i, j)` sends its `4096 × 2048` block of rows and its `32 × 128` block of words to device `(1 - i, j)` and
receives that device's. Two transfers of the protocol of `Swap.lean`, both let in by one barrier.
-/
module

public import proofs.«01_k».proof.Proof.Swap
public import proofs.«01_k».proof.Proof.Gen.ExchangeX
public import proofs.«01_k».proof.Proof.Gen.ExchangeX.Skeleton
public import proofs.«01_k».proof.Proof.Gen.ExchangeX.Launch
public import Idealize.ShloMosaic.Lib.Pipeline.CollectiveSegs

@[expose] public section

noncomputable section

namespace Cert.RunX

open Cert.ExchangeX Cert.ExchangeX.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat BodyObligation)

variable {F : FTy → Type} [FloatOps F]

local notation "𝕄" => MT nD τ sig Unit (Elt F) ℕ (Swap.UU nD τ sig) ℕ

/-! ## The exchange -/

/-- Device `(i, j)` exchanges with `(1 - i, j)`. -/
def peer (c : Dev nD) : Dev nD := ⟨k0_dev1 c, k0_dev1_lt c⟩

theorem peer_val (c : Dev nD) : (peer c).val = c.val % 2 + 2 - 2 * (c.val / 2) := k0_dev1_eq c
theorem dev1_eq (c : Dev nD) : (⟨k0_dev1 c, k0_dev1_lt c⟩ : Dev nD) = peer c := rfl
theorem dev2_eq (c : Dev nD) : (⟨k0_dev2 c, k0_dev2_lt c⟩ : Dev nD) = peer c :=
  Fin.ext ((k0_dev2_eq c).trans (k0_dev1_eq c).symm)
theorem dev3_eq (c : Dev nD) : (⟨k0_dev3 c, k0_dev3_lt c⟩ : Dev nD) = peer c :=
  Fin.ext ((k0_dev3_eq c).trans (k0_dev1_eq c).symm)
theorem peer_peer (c : Dev nD) : peer (peer c) = c := by
  refine Fin.ext ?_
  have h : c.val < 4 := c.isLt
  rw [peer_val, peer_val]
  omega

abbrev barS : Sem sig := (SemArray.scalar (sig.barrier 0 rfl) : Sems sig S_).sem
abbrev sndS : Fin 2 → DmaSem sig := ![(cc0_scratch0 : DmaSems sig S_).sem, (cc0_scratch2 : DmaSems sig S_).sem]
abbrev rcvS : Fin 2 → DmaSem sig := ![(cc0_scratch1 : DmaSems sig S_).sem, (cc0_scratch3 : DmaSems sig S_).sem]

abbrev srcRows : Memref sig .tc .vmem S4096x2048 .bf16 := Memref.whole cc0_stg0_0
abbrev dstRows : Memref sig .tc .vmem S4096x2048 .bf16 := Memref.whole cc0_stg2_0
abbrev srcWords : Memref sig .tc .vmem S32x128 .i32 := Memref.whole cc0_stg1_0
abbrev dstWords : Memref sig .tc .vmem S32x128 .i32 := Memref.whole cc0_stg3_0

def S : Swap.Spec nD sig (Fin 2) where
  peer := peer
  peer_peer := peer_peer
  bar := barS
  snd := sndS
  rcv := rcvS
  snd_inj := by decide
  rcv_inj := by decide
  snd_ne_rcv := by decide
  N := ![dstRows.view.dmaCredit, dstWords.view.dmaCredit]
  N_pos j := match j with
    | 0 => View.dmaCredit_pos _ (by decide)
    | 1 => View.dmaCredit_pos _ (by decide)

/-- The two buffers of a transfer are credited alike. -/
theorem rows_credit : srcRows.view.dmaCredit = S.amt (.inr (.inl 0)) := (rfl : srcRows.view.dmaCredit = dstRows.view.dmaCredit)
theorem words_credit : srcWords.view.dmaCredit = S.amt (.inr (.inl 1)) := (rfl : srcWords.view.dmaCredit = dstWords.view.dmaCredit)

variable (m : (ℓ : Loc nD τ sig) → Buf (Elt F) ℓ) (ρ : Dev nD → PrngReg)

/-- The rows a device sends: its first operand, as staged. -/
def sentRows (c : Dev nD) : (cc0_stg0_0 : Ref sig .tc).ty.Contents (Elt F) :=
  (win0_0.blk (0 : Fin 1)).view.read (Elt F) (m ((c : Thread nD τ).loc main_arg0))
/-- The words a device sends: its second operand, as staged. -/
def sentWords (c : Dev nD) : (cc0_stg1_0 : Ref sig .tc).ty.Contents (Elt F) :=
  (win0_1.blk (0 : Fin 1)).view.read (Elt F) (m ((c : Thread nD τ).loc main_arg1))

/-- A buffer of a device, whole. -/
def pts (c : Dev nD) (b : Ref sig .tc) (f : b.ty.Contents (Elt F)) : sProp 𝕄 := ((c : Thread nD τ).loc b) ↦{fullShare} f

instance pts_storable (c : Dev nD) (b : Ref sig .tc) (f : b.ty.Contents (Elt F)) : BI.Storable (upEmb : UEmb _ 𝕄) (pts c b f) := by
  unfold pts; infer_instance

def P : Swap.Pays nD τ sig (Elt F) (Fin 2) where
  lands j c := match j with
    | 0 => iprop(∃ f, pts c cc0_stg2_0 f)
    | 1 => iprop(∃ f, pts c cc0_stg3_0 f)
  sent j c := match j with
    | 0 => pts c cc0_stg0_0 (sentRows m c)
    | 1 => pts c cc0_stg1_0 (sentWords m c)
  got j c := match j with
    | 0 => pts c cc0_stg2_0 (sentRows m (peer c))
    | 1 => pts c cc0_stg3_0 (sentWords m (peer c))
  lands_storable j _ := match j with
    | 0 => by dsimp only; infer_instance
    | 1 => by dsimp only; infer_instance
  sent_storable j _ := match j with
    | 0 => pts_storable ..
    | 1 => pts_storable ..
  got_storable j _ := match j with
    | 0 => pts_storable ..
    | 1 => pts_storable ..

/-! ## The pipeline's proof data -/

def dats (_ : Fin 1) (c : Dev nD) : Dat τ (Elt F) Unit ℕ (Swap.UU nD τ sig) ℕ cfg0 c where
  A w := m ((cfg0.win w).arr.view.loc (c : Thread nD τ))
  after w _ := match w with
    | ⟨0, _⟩ => sentRows m c
    | ⟨1, _⟩ => sentWords m c
    | ⟨2, _⟩ => sentRows m (peer c)
    | ⟨3, _⟩ => sentWords m (peer c)
  Φ t := match t with
    | ⟨0, _⟩ => Swap.start S (P m) c
    | ⟨_ + 1, _⟩ => Swap.zeros S c
  q _ := fullShare
  owed t := match t with
    | ⟨0, _⟩ => Swap.O₀ S c
    | ⟨_ + 1, _⟩ => 0

theorem owns_whole_eq (c : Dev nD) (b : Ref sig .tc) (X : b.ty.Contents (Elt F)) :
    (owns (Ix := Unit) (Name := ℕ) (U := Swap.UU nD τ sig) (Lvl := ℕ) (c : Thread nD τ) (Memref.whole b) fullShare X : sProp 𝕄)
      = pts c b X := by
  unfold pts
  have h : (owns (Ix := Unit) (Name := ℕ) (U := Swap.UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [h]
  refine BI.Entails.antisymm (show _ ⊢ (_ : sProp 𝕄) from ?_) (show _ ⊢ (_ : sProp 𝕄) from ?_)
  · iintro ⟨%f, %hf, H⟩; subst hf; iexact H
  · iintro H; iexists X; isplitr; · (ipureintro; rfl)
    iexact H

/-! ## The body -/

section Body

def bodyPre (c : Dev nD) : sProp 𝕄 :=
  iprop(Swap.start S (P m) c ∗ (dats m 0 c).owesAt () t0_0.castSucc
    ∗ (∃ d, pts c cc0_stg0_0 ((dats m 0 c).before (0 : Fin 4) t0_0 d))
    ∗ (∃ d, pts c cc0_stg1_0 ((dats m 0 c).before (1 : Fin 4) t0_0 d))
    ∗ (∃ d, pts c cc0_stg2_0 ((dats m 0 c).before (2 : Fin 4) t0_0 d))
    ∗ (∃ d, pts c cc0_stg3_0 ((dats m 0 c).before (3 : Fin 4) t0_0 d)))
def bodyPost (c : Dev nD) : sProp 𝕄 :=
  iprop(Swap.zeros S c ∗ (dats m 0 c).owesAt () t0_0.succ ∗ pts c cc0_stg0_0 (sentRows m c) ∗ pts c cc0_stg1_0 (sentWords m c)
    ∗ pts c cc0_stg2_0 (sentRows m (peer c)) ∗ pts c cc0_stg3_0 (sentWords m (peer c)))

theorem view_pts (c : Dev nD) (b : Ref sig .tc) (f : b.ty.Contents (Elt F)) :
    ((Memref.whole b).view.loc (c : Thread nD τ) ↦[(Memref.whole b).view.set]{fullShare} f : sProp 𝕄) = pts c b f := by
  show (((c : Thread nD τ).loc b) ↦[(View.whole b).set]{fullShare} f : sProp 𝕄) = _
  unfold pts; rw [View.set_whole]

theorem bar_pay (c : Dev nD) :
    Swap.pay S (P m) (.inl ()) c = iprop((∃ f, pts (peer c) cc0_stg2_0 f) ∗ (∃ f, pts (peer c) cc0_stg3_0 f)) := Swap.fin2 _
theorem rows_sent (c : Dev nD) : (srcRows.view.loc (c : Thread nD τ) ↦[srcRows.view.set]{fullShare} sentRows m c : sProp 𝕄) ⊢ (P m).sent 0 c :=
  Entails.of_eq (view_pts c cc0_stg0_0 _)
theorem words_sent (c : Dev nD) : (srcWords.view.loc (c : Thread nD τ) ↦[srcWords.view.set]{fullShare} sentWords m c : sProp 𝕄) ⊢ (P m).sent 1 c :=
  Entails.of_eq (view_pts c cc0_stg1_0 _)
theorem rows_written (fd : (cc0_stg2_0 : Ref sig .tc).ty.Contents (Elt F)) (fs : (cc0_stg0_0 : Ref sig .tc).ty.Contents (Elt F)) :
    dstRows.view.write (Elt F) fd (srcRows.view.read (Elt F) fs) Finset.univ = fs := by
  show (View.whole cc0_stg2_0).write (Elt F) fd ((View.whole cc0_stg0_0).read (Elt F) fs) Finset.univ = fs
  rw [View.read_whole]; exact View.write_whole_univ _ _ _
theorem words_written (fd : (cc0_stg3_0 : Ref sig .tc).ty.Contents (Elt F)) (fs : (cc0_stg1_0 : Ref sig .tc).ty.Contents (Elt F)) :
    dstWords.view.write (Elt F) fd (srcWords.view.read (Elt F) fs) Finset.univ = fs := by
  show (View.whole cc0_stg3_0).write (Elt F) fd ((View.whole cc0_stg1_0).read (Elt F) fs) Finset.univ = fs
  rw [View.read_whole]; exact View.write_whole_univ _ _ _
theorem rows_got (c : Dev nD) (fd : Buf (Elt F) (dstRows.view.loc ((S.peer c : Dev nD) : Thread nD τ))) :
    (dstRows.view.loc ((S.peer c : Dev nD) : Thread nD τ) ↦[dstRows.view.set]{fullShare}
        (dstRows.view.write (Elt F) fd (srcRows.view.read (Elt F) (sentRows m c)) Finset.univ) : sProp 𝕄) ⊢ (P m).got 0 (S.peer c) := by
  rw [rows_written, view_pts]
  exact Entails.of_eq (congrArg (fun d => pts (S.peer c) cc0_stg2_0 (sentRows m d)) (peer_peer c).symm)
theorem words_got (c : Dev nD) (fd : Buf (Elt F) (dstWords.view.loc ((S.peer c : Dev nD) : Thread nD τ))) :
    (dstWords.view.loc ((S.peer c : Dev nD) : Thread nD τ) ↦[dstWords.view.set]{fullShare}
        (dstWords.view.write (Elt F) fd (srcWords.view.read (Elt F) (sentWords m c)) Finset.univ) : sProp 𝕄) ⊢ (P m).got 1 (S.peer c) := by
  rw [words_written, view_pts]
  exact Entails.of_eq (congrArg (fun d => pts (S.peer c) cc0_stg3_0 (sentWords m d)) (peer_peer c).symm)

theorem before_rows (c : Dev nD) (d) : (dats m 0 c).before (0 : Fin 4) t0_0 d = sentRows m c := by
  unfold Dat.before; rw [if_pos (by decide)]; rfl
theorem before_words (c : Dev nD) (d) : (dats m 0 c).before (1 : Fin 4) t0_0 d = sentWords m c := by
  unfold Dat.before; rw [if_pos (by decide)]; rfl

/-- What a landing buffer holds before the transfer is not said. -/
theorem landed (c : Dev nD) (b : Ref sig .tc) {α : Type} (f : α → b.ty.Contents (Elt F)) :
    iprop(∃ d, pts c b (f d)) ⊢ iprop(∃ f : b.ty.Contents (Elt F), pts c b f) := by
  iintro ⟨%d, H⟩; iexists (f d); iexact H

theorem body_spec (c : Dev nD) :
    bodyPre m c ⊢ wp frame (wpE (defs₀ (F := F)) Variants.none c none) Set.univ
      (cc0_body srcRows (Memref.isWhole_whole _) srcWords (Memref.isWhole_whole _) dstRows (Memref.isWhole_whole _) dstWords (Memref.isWhole_whole _)
        cc0_scratch0 cc0_scratch1 cc0_scratch2 cc0_scratch3) fun _ => bodyPost m c := by
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  unfold bodyPre Swap.start
  simp only [Swap.posns_eq, Swap.payToks, Swap.fin2]
  iintro ⟨⟨⟨%K, #HR, ⟨HaB, ⟨HaS, HaS'⟩, HaV, HaV'⟩, HtB, ⟨HtS, HtS'⟩, HtV, HtV'⟩, ⟨HcB, HcV, HcV'⟩, #Hlev⟩, Ho, ⟨%d0, Hx⟩, ⟨%d1, Hx'⟩, Hout, Hout'⟩
  rw [before_rows, before_words]
  unfold Dat.owesAt Pipeline.owesWithin
  icases Ho with ⟨%W, %hW, HO⟩
  rw [show (dats m 0 c).owed t0_0.castSucc = Swap.O₀ S c from rfl]
  iapply (Swap.wp_signal_peer S (P m) defs₀ Variants.none K c (dev1_eq c)) $$ [HO HtB Hout Hout']
  · isplitr; · iexact HR
    isplitl [HO]; · iexact HO
    isplitl [HtB]; · iexact HtB
    rw [Swap.fin2]
    isplitl [Hout]
    · iapply (show iprop(∃ d, pts c cc0_stg2_0 ((dats m 0 c).before (2 : Fin 4) t0_0 d)) ⊢ (P m).lands 0 c from landed c cc0_stg2_0 _); iexact Hout
    · iapply (show iprop(∃ d, pts c cc0_stg3_0 ((dats m 0 c).before (3 : Fin 4) t0_0 d)) ⊢ (P m).lands 1 c from landed c cc0_stg3_0 _); iexact Hout'
  iintro HO
  iapply (Swap.wp_wait_cell S (P m) defs₀ Variants.none K c (.inl ()) rfl (wpE_semWait_eq Variants.none (c : Thread nD τ) none Set.univ)) $$ [HO HcB HaB]
  · isplitr; · iexact HR
    isplitl [HcB]; · iexact HcB
    isplitl [HO]; · iexact HO
    isplitr; · iapply (Swap.mayWait_bar S c Finset.univ); iexact Hlev
    iexact HaB
  iintro ⟨HO, HzB, Hp⟩
  ihave Hp := (Entails.of_eq (bar_pay m c)) $$ Hp
  icases Hp with ⟨⟨%fn, Hn⟩, %fn', Hn'⟩
  iapply (Swap.wp_send_peer S (P m) defs₀ Variants.none K c (dev2_eq c) (0 : Fin 2) (Finset.mem_univ _) (src := srcRows) (dst := dstRows) (q := fullShare) rfl
      (fs := sentRows m c) (fd := fn)
      (rows_sent m c) (rows_got m c fn)) $$ [Hx Hn HO HtS HtV]
  · isplitr; · iexact HR
    isplitl [Hx]; · rw [view_pts]; iexact Hx
    isplitl [Hn]; · rw [view_pts]; iexact Hn
    isplitl [HO]; · iexact HO
    isplitl [HtS]; · iexact HtS
    iexact HtV
  iintro ⟨HcS, HO⟩
  iapply (Swap.wp_send_peer S (P m) defs₀ Variants.none K c (dev3_eq c) (1 : Fin 2) (s := Finset.univ.erase 0) (by decide) (src := srcWords) (dst := dstWords) (q := fullShare) rfl
      (fs := sentWords m c) (fd := fn')
      (words_sent m c) (words_got m c fn')) $$ [Hx' Hn' HO HtS' HtV']
  · isplitr; · iexact HR
    isplitl [Hx']; · rw [view_pts]; iexact Hx'
    isplitl [Hn']; · rw [view_pts]; iexact Hn'
    isplitl [HO]; · iexact HO
    isplitl [HtS']; · iexact HtS'
    iexact HtV'
  iintro ⟨HcS', HO⟩
  rw [show ((Finset.univ : Finset (Fin 2)).erase 0).erase 1 = ∅ from by decide, Swap.dues_empty]
  iapply (Swap.wp_wait_cell S (P m) defs₀ Variants.none K c (.inr (.inl 0)) (n := srcRows.view.dmaCredit) rows_credit
      (wpE_waitDma2_eq Variants.none (c : Thread nD τ) none Set.univ (src := dstRows) (dst := srcRows))) $$ [HO HcS HaS]
  · isplitr; · iexact HR
    isplitl [HcS]; · iexact HcS
    isplitl [HO]; · iexact HO
    isplitr; · rw [MayWait_zero]; iempintro
    iexact HaS
  iintro ⟨HO, HzS, Hx⟩
  iapply (Swap.wp_wait_cell S (P m) defs₀ Variants.none K c (.inr (.inr 0)) (n := dstRows.view.dmaCredit) rfl
      (wpE_waitDma2_eq Variants.none (c : Thread nD τ) none Set.univ (src := srcRows) (dst := dstRows))) $$ [HO HcV HaV]
  · isplitr; · iexact HR
    isplitl [HcV]; · iexact HcV
    isplitl [HO]; · iexact HO
    isplitr; · rw [MayWait_zero]; iempintro
    iexact HaV
  iintro ⟨HO, HzV, Hout⟩
  iapply (Swap.wp_wait_cell S (P m) defs₀ Variants.none K c (.inr (.inl 1)) (n := srcWords.view.dmaCredit) words_credit
      (wpE_waitDma2_eq Variants.none (c : Thread nD τ) none Set.univ (src := dstWords) (dst := srcWords))) $$ [HO HcS' HaS']
  · isplitr; · iexact HR
    isplitl [HcS']; · iexact HcS'
    isplitl [HO]; · iexact HO
    isplitr; · rw [MayWait_zero]; iempintro
    iexact HaS'
  iintro ⟨HO, HzS', Hx'⟩
  iapply (Swap.wp_wait_cell S (P m) defs₀ Variants.none K c (.inr (.inr 1)) (n := dstWords.view.dmaCredit) rfl
      (wpE_waitDma2_eq Variants.none (c : Thread nD τ) none Set.univ (src := srcWords) (dst := dstWords))) $$ [HO HcV' HaV']
  · isplitr; · iexact HR
    isplitl [HcV']; · iexact HcV'
    isplitl [HO]; · iexact HO
    isplitr; · rw [MayWait_zero]; iempintro
    iexact HaV'
  iintro ⟨HO, HzV', Hout'⟩
  rw [wp_ret]; imodintro
  unfold bodyPost Dat.owesAt Pipeline.owesWithin
  rw [show (dats m 0 c).owed t0_0.succ = 0 from rfl, Swap.zeros_eq]
  simp only [Swap.fin2]
  isplitl [HzB HzS HzS' HzV HzV']
  · isplitl [HzB]; · iexact HzB
    isplitl [HzS HzS']
    · isplitl [HzS] <;> iassumption
    · isplitl [HzV] <;> iassumption
  isplitl [HO]
  · iexists _
    isplitr
    rotate_left
    · iexact HO
    · ipureintro; exact fun _ _ => Or.inl trivial
  isplitl [Hx]
  · iapply (show Swap.pay S (P m) (.inr (.inl 0)) c ⊢ pts c cc0_stg0_0 (sentRows m c) from Entails.of_eq rfl); iexact Hx
  isplitl [Hx']
  · iapply (show Swap.pay S (P m) (.inr (.inl 1)) c ⊢ pts c cc0_stg1_0 (sentWords m c) from Entails.of_eq rfl); iexact Hx'
  isplitl [Hout]
  · iapply (show Swap.pay S (P m) (.inr (.inr 0)) c ⊢ pts c cc0_stg2_0 (sentRows m (peer c)) from Entails.of_eq rfl); iexact Hout
  · iapply (show Swap.pay S (P m) (.inr (.inr 1)) c ⊢ pts c cc0_stg3_0 (sentWords m (peer c)) from Entails.of_eq rfl); iexact Hout'

theorem body_obligation (c : Dev nD) : BodyObligation (dats (F := F) m 0 c) (defs₀ (F := F)) Variants.none () Set.univ := fun t => by
  rw [fin_N0 t, bigSep_W0, bigSep_W0]
  have h := body_spec m c
  unfold bodyPre bodyPost at h
  simp only [← owns_whole_eq] at h
  exact h

end Body

/-! ## The launch -/

theorem ownSemFacts : Pipeline.OwnSemFacts cfg0.spec S.own := by decide
theorem share_eq (c : Dev nD) (w : Fin cfg0.W) : (dats m 0 c).share w = fullShare := by unfold Dat.share; split <;> rfl

def u₀ : Swap.UU nD τ sig := (initOf (Pipeline.cells cfgs cellOf_inj) (Pipeline.launchToks cfgs cellOf_inj), initOf (Swap.cells S) (Swap.tokens S))

theorem unscoped_eq (c : Dev nD) : (unscopedSems0 c : sProp 𝕄) = semVal (S.at_ c (.inl ())) 0 := by
  unfold unscopedSems0; rw [bigSep_eq_bigSepL_of_eq [SemLoc.reg barS] (by decide) (by decide)]; rfl

theorem sems_eq (c : Dev nD) :
    (Swap.zeros S c : sProp 𝕄)
      = iprop(unscopedSems0 c ∗ Pipeline.ownSems0 (Ix := Unit) (Name := ℕ) (U := Swap.UU nD τ sig) (Lvl := ℕ) (Val := Elt F) (τ := τ) S.own c) := by
  unfold Swap.zeros
  rw [bigSep_univ_sum, Finset.univ_unique, bigSep_singleton, unscoped_eq]; rfl

theorem waits (c : Dev nD) : (levAts Swap.L (Swap.lv S) : sProp 𝕄) ⊢ Pipeline.cellsWaits cfgs (dats m) () 0 c :=
  Pipeline.cellsWaits_intro cfgs (dats m) () 0 c fun w s t =>
    Swap.mayWait_other S c _ (by fin_cases w <;> fin_cases s <;> decide) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution of the four devices' programs terminates, each
    array holding its final contents and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) Swap.EP defs₀ Variants.none m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := Swap.O₀ S) (howed₀ := fun _ => rfl) (howedN := fun _ => rfl)
    (L := Swap.L) (lv := Swap.lv S) (hL := Swap.L_of_ne) (hwaits := waits m)
    (G := Swap.G S (P m)) (G' := Swap.G' S (P m)) (u₀ := u₀)
    (hu₀ := by
      unfold u₀
      iintro Hu
      ihave H := (ownU_pair _ _) $$ Hu
      icases H with ⟨HP, HX⟩
      imod (Swap.fund_swap S (P m)) $$ HX with HG
      imodintro
      isplitl [HP] <;> iassumption)
    (hglob := by
      have h := Swap.glob S (P m) (X := fun c => iprop(unscopedSems0 c ∗ Pipeline.ownSems0 S.own c)) fun c => Entails.of_eq (sems_eq c).symm
      refine BI.Entails.trans (bigSep_mono fun c _ => show _ ⊢ (_ : sProp 𝕄) from ?_) h
      iintro ⟨H1, H2, H3⟩
      isplitl [H1 H2]
      · isplitl [H2] <;> iassumption
      iexact H3)
    (hA := fun _ _ => rfl) (hpf := fun _ k => k.elim0)
    (X := Swap.start S (P m)) (Y := fun c => unscopedSems0 c) (Z := fun _ => iprop(emp))
    (hX := fun c => Swap.start_intro S (P m) c)
    (hin := fun c => by
      rw [show (dats m 0 c).Φ 0 = Swap.start S (P m) c from rfl]
      iintro ⟨H, -, -⟩
      iexact H)
    (hout := fun c => by
      rw [show (dats m 0 c).Φ (Fin.last cfg0.N) = Swap.zeros S c from rfl, scopedRest0_eq, sems_eq]
      iintro ⟨H1, H2⟩
      isplitl [H1]; · iexact H1
      isplitl [H2]; · iexact H2
      iempintro)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem finalA_arg (c : Dev nD) (w : Fin cfg0.W) (hw : (cfg0.win w).isOut = false) :
    finalA m c w = m ((cfg0.win w).arr.view.loc (c : Thread nD τ)) :=
  (dats (F := F) m 0 c).arrAt_in w hw _

/-- The staged rows are the first operand. -/
theorem sentRows_eq (c : Dev nD) : sentRows m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The staged words are the second operand. -/
theorem sentWords_eq (c : Dev nD) : sentWords m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- A device's rows are its peer's. -/
theorem finalA_rows (c : Dev nD) : finalA m c (2 : Fin 4) = m ((peer c : Thread nD τ).loc main_arg0) := by
  have h : (win0_2.blk (0 : Fin 1)).view.read (Elt F) (finalA m c (2 : Fin 4)) = sentRows m (peer c) := by
    unfold finalA
    rw [show cfg0.N = ((0 : Fin 1) : Fin cfg0.N).val + 1 from rfl, (dats m 0 c).arrAt_succ (2 : Fin 4) (0 : Fin 1),
      show (cfg0.win (2 : Fin 4)).flush (0 : Fin 1) = true from by decide, if_pos rfl]
    exact View.read_write_univ _ _
  have hz : (fun a => (win0_2.index (0 : Fin 1)) a * main_v1_0.ty.shape.size a) = fun _ => 0 := funext fun a => by fin_cases a <;> decide
  exact (Memref.read_access_unit_zero (Elt F) main_v1_0 hz (fun a => by fin_cases a <;> decide) _).symm.trans (h.trans (sentRows_eq m (peer c)))
/-- A device's words are its peer's. -/
theorem finalA_words (c : Dev nD) : finalA m c (3 : Fin 4) = m ((peer c : Thread nD τ).loc main_arg1) := by
  have h : (win0_3.blk (0 : Fin 1)).view.read (Elt F) (finalA m c (3 : Fin 4)) = sentWords m (peer c) := by
    unfold finalA
    rw [show cfg0.N = ((0 : Fin 1) : Fin cfg0.N).val + 1 from rfl, (dats m 0 c).arrAt_succ (3 : Fin 4) (0 : Fin 1),
      show (cfg0.win (3 : Fin 4)).flush (0 : Fin 1) = true from by decide, if_pos rfl]
    exact View.read_write_univ _ _
  have hz : (fun a => (win0_3.index (0 : Fin 1)) a * main_v1_1.ty.shape.size a) = fun _ => 0 := funext fun a => by fin_cases a <;> decide
  exact (Memref.read_access_unit_zero (Elt F) main_v1_1 hz (fun a => by fin_cases a <;> decide) _).symm.trans (h.trans (sentWords_eq m (peer c)))

end Cert.RunX

end
-- ==== Proof.ClaimsX.lean ====
/-
# The exchange along the first axis: the claims

The frames of the program, of its twin and of the reference, and the value: device `(i, j)` ends with the half of the
rows, and of the words, that device `(1 - i, j)` began with, which is its half of the arrays with their halves swapped.
-/
module

public import proofs.«01_k».proof.Defs
public import proofs.«01_k».proof.Proof.Halves
public import proofs.«01_k».proof.Proof.RunX
public import proofs.«01_k».proof.Proof.Gen.ExchangeXIdeal
public import proofs.«01_k».proof.Proof.Gen.ExchangeXIdeal.Launch
public import proofs.«01_k».proof.Proof.Gen.SwapXIdeal.Run

@[expose] public section

noncomputable section

namespace Cert.ClaimsX

open Idealize.ShloMosaic Idealize.ShloMosaic.TcCoe Idealize.SL.Sem

variable {F : FTy → Type} [FloatOps F]

set_option smartUnfolding false in
/-- The twin's table of bodies is the program's. -/
theorem defs_eq : Cert.ExchangeXIdeal.defs (F := F) = Cert.ExchangeX.defs (F := F) := rfl

theorem coord_peer (c : Dev Cert.ExchangeX.nD) :
    Layout.meshLin [2, 2] (Cert.RunX.peer c).val [0] = 1 - Layout.meshLin [2, 2] c.val [0] := by
  rw [Cert.RunX.peer_val]
  revert c; decide

theorem coord_lt (c : Dev Cert.ExchangeX.nD) : Layout.meshLin [2, 2] c.val [0] < 2 := by revert c; decide

/-- The peer's half of an array is this device's half of the array with its halves swapped. -/
theorem block_swapped {α : Type} {N H C : ℕ} (hN : N = 2 * H) (c : Dev Cert.ExchangeX.nD) (x : (⟨2, ![N, C]⟩ : Shape).Idx → α)
    (h1 : (⟨2, ![N, C]⟩ : Shape).Slices ![H, 0] ⟨2, ![H, C]⟩) (h0 : (⟨2, ![N, C]⟩ : Shape).Slices ![0, 0] ⟨2, ![H, C]⟩)
    (h : Shape.Concatenates [⟨2, ![H, C]⟩, ⟨2, ![H, C]⟩] ⟨2, ![N, C]⟩ 0)
    (hb : ∀ b : Fin 2, ∀ i ∈ (![[0], []] : Fin 2 → List ℕ) b, 0 < [2, 2].getD i 0)
    (ht : Layout.TilesN ⟨2, ![H, C]⟩ ⟨2, ![N, C]⟩ fun b : Fin 2 => Layout.cutSize [2, 2] ((![[0], []] : Fin 2 → List ℕ) b)) :
    Layout.blockN ⟨2, ![H, C]⟩ ⟨2, ![N, C]⟩ (Layout.meshBlock [2, 2] ![[0], []] (Cert.RunX.peer c) hb) x ht
      = Layout.blockN ⟨2, ![H, C]⟩ ⟨2, ![N, C]⟩ (Layout.meshBlock [2, 2] ![[0], []] c hb)
          (concatenate (⟨2, ![N, C]⟩ : Shape) (0 : Fin 2) [⟨⟨2, ![H, C]⟩, extractStridedSlice ⟨2, ![H, C]⟩ ![H, 0] x h1⟩,
            ⟨⟨2, ![H, C]⟩, extractStridedSlice ⟨2, ![H, C]⟩ ![0, 0] x h0⟩] h) ht := by
  funext i
  rw [Layout.blockN_apply, Layout.blockN_apply]
  refine (Halves.halves x h1 h0 h (ht.idx (Layout.meshBlock [2, 2] ![[0], []] c hb) i)
    (ht.idx (Layout.meshBlock [2, 2] ![[0], []] (Cert.RunX.peer c) hb) i) ?_ rfl).symm
  have hi : (i 0).val < H := (i 0).isLt
  show Layout.meshLin [2, 2] (Cert.RunX.peer c).val [0] * H + (i 0).val
    = if Layout.meshLin [2, 2] c.val [0] * H + (i 0).val < H then H + (Layout.meshLin [2, 2] c.val [0] * H + (i 0).val)
      else Layout.meshLin [2, 2] c.val [0] * H + (i 0).val - H
  rw [coord_peer]
  have hc := coord_lt c
  generalize Layout.meshLin [2, 2] c.val [0] = d at hc ⊢
  obtain rfl | rfl : d = 0 ∨ d = 1 := by omega
  · rw [if_pos (by omega)]; omega
  · rw [if_neg (by omega)]; omega

section Program

open Cert.ExchangeX

/-- After the run each device holds its peer's operands, its own unchanged, and every counter is zero. -/
theorem run_program (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v1_0) = m (((Cert.RunX.peer c).tc : Thread nD τ).loc main_arg0) ∧ r.2.mem ((c.tc : Thread nD τ).loc main_v1_1) = m (((Cert.RunX.peer c).tc : Thread nD τ).loc main_arg1))
      ∧ (r.2.mem ((c.tc : Thread nD τ).loc main_arg0) = m ((c.tc : Thread nD τ).loc main_arg0) ∧ r.2.mem ((c.tc : Thread nD τ).loc main_arg1) = m ((c.tc : Thread nD τ).loc main_arg1)))
      ∧ r.2.sem = fun _ => 0 :=
  (θ_run defs _ _).mono (fun r h => ⟨fun c => ⟨⟨(h.1 c (2 : Fin 4)).trans (Cert.RunX.finalA_rows m c), (h.1 c (3 : Fin 4)).trans (Cert.RunX.finalA_words m c)⟩,
    (h.1 c (0 : Fin 4)).trans (Cert.RunX.finalA_arg m c (0 : Fin 4) rfl), (h.1 c (1 : Fin 4)).trans (Cert.RunX.finalA_arg m c (1 : Fin 4) rfl)⟩, h.2⟩) (Cert.RunX.run_main m ρ)

end Program

section Twin

open Cert.ExchangeXIdeal

set_option maxRecDepth 10000 in
/-- The same of the twin, whose text is the program's. -/
theorem run_twin (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v1_0) = m (((Cert.RunX.peer c).tc : Thread nD τ).loc main_arg0) ∧ r.2.mem ((c.tc : Thread nD τ).loc main_v1_1) = m (((Cert.RunX.peer c).tc : Thread nD τ).loc main_arg1))
      ∧ (r.2.mem ((c.tc : Thread nD τ).loc main_arg0) = m ((c.tc : Thread nD τ).loc main_arg0) ∧ r.2.mem ((c.tc : Thread nD τ).loc main_arg1) = m ((c.tc : Thread nD τ).loc main_arg1)))
      ∧ r.2.sem = fun _ => 0 := by
  rw [defs_eq]
  exact run_program (F := F) m ρ

end Twin

theorem frame_program : Cert.quiescent_ExchangeX := fun m ρ _ =>
  (θ_run Cert.ExchangeX.defs _ _).mono (fun r h => ⟨fun c => (h.1 c).2, h.2⟩) (run_program m ρ)
theorem frame_twin : Cert.quiescent_ExchangeXIdeal := fun m ρ _ =>
  (θ_run Cert.ExchangeXIdeal.defs _ _).mono (fun r h => ⟨fun c => (h.1 c).2, h.2⟩) (run_twin m ρ)
theorem frame_reference : Cert.quiescent_SwapXIdeal := fun m ρ _ =>
  (θ_run Cert.SwapXIdeal.defs _ _).mono (fun r h => ⟨fun c => (h c).2.2, sem_eq_zero_of_no_sems (by decide) r.2⟩)
    (Cert.SwapXIdeal.Value.run m ρ)

/-- Each device's results are its blocks of the reference's. -/
theorem values : Cert.algebraic_ExchangeXIdeal_SwapXIdeal := by
  intro m g m' g' _ hm
  refine ⟨_, _, (θ_run Cert.ExchangeXIdeal.defs _ _).mono (fun r h c => ⟨?_, ?_, (h.1 c).2⟩) (run_twin m g),
    (θ_run Cert.SwapXIdeal.defs _ _).mono (fun r h => h 0) (Cert.SwapXIdeal.Value.run m' g')⟩
  · exact ((h.1 c).1.1.trans (hm (Cert.RunX.peer c)).1).trans (block_swapped rfl c _ _ _ _ _ _)
  · exact ((h.1 c).1.2.trans (hm (Cert.RunX.peer c)).2).trans (block_swapped rfl c _ _ _ _ _ _)

end Cert.ClaimsX

end
-- ==== Proof.RunY.lean ====
/-
# The exchange along the mesh's second axis

Device `(i, j)` sends its block of `4 × 640 × 2048` elements to device `(i, 1 - j)` and receives that device's. One
transfer of the protocol of `Swap.lean`, between the staging buffers of the call's operand and of its result.
-/
module

public import proofs.«01_k».proof.Proof.Swap
public import proofs.«01_k».proof.Proof.Gen.ExchangeY
public import proofs.«01_k».proof.Proof.Gen.ExchangeY.Skeleton
public import proofs.«01_k».proof.Proof.Gen.ExchangeY.Launch
public import Idealize.ShloMosaic.Lib.Pipeline.CollectiveSegs

@[expose] public section

noncomputable section

namespace Cert.RunY

open Cert.ExchangeY Cert.ExchangeY.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat BodyObligation)

variable {F : FTy → Type} [FloatOps F]

local notation "𝕄" => MT nD τ sig Unit (Elt F) ℕ (Swap.UU nD τ sig) ℕ

/-! ## The exchange -/

/-- Device `(i, j)` exchanges with `(i, 1 - j)`. -/
def peer (c : Dev nD) : Dev nD := ⟨k0_dev1 c, k0_dev1_lt c⟩

theorem peer_val (c : Dev nD) : (peer c).val = 2 * (c.val / 2) + 1 - c.val % 2 := k0_dev1_eq c
theorem dev1_eq (c : Dev nD) : (⟨k0_dev1 c, k0_dev1_lt c⟩ : Dev nD) = peer c := rfl
theorem dev2_eq (c : Dev nD) : (⟨k0_dev2 c, k0_dev2_lt c⟩ : Dev nD) = peer c :=
  Fin.ext ((k0_dev2_eq c).trans (k0_dev1_eq c).symm)
theorem peer_peer (c : Dev nD) : peer (peer c) = c := by
  refine Fin.ext ?_
  have h : c.val < 4 := c.isLt
  rw [peer_val, peer_val]
  omega

abbrev barS : Sem sig := (SemArray.scalar (sig.barrier 2 rfl) : Sems sig S_).sem
abbrev sndS : DmaSem sig := (cc0_scratch0 : DmaSems sig S_).sem
abbrev rcvS : DmaSem sig := (cc0_scratch1 : DmaSems sig S_).sem

abbrev src : Memref sig .tc .vmem S4x640x2048 .bf16 := Memref.whole cc0_stg0_0
abbrev dst : Memref sig .tc .vmem S4x640x2048 .bf16 := Memref.whole cc0_stg1_0

def S : Swap.Spec nD sig (Fin 1) where
  peer := peer
  peer_peer := peer_peer
  bar := barS
  snd _ := sndS
  rcv _ := rcvS
  snd_inj _ _ _ := Subsingleton.elim _ _
  rcv_inj _ _ _ := Subsingleton.elim _ _
  snd_ne_rcv _ _ := by decide
  N _ := dst.view.dmaCredit
  N_pos _ := View.dmaCredit_pos _ (by decide)

/-- The two buffers of the transfer are credited alike. -/
theorem src_credit : src.view.dmaCredit = S.amt (.inr (.inl 0)) := (rfl : src.view.dmaCredit = dst.view.dmaCredit)

variable (m : (ℓ : Loc nD τ sig) → Buf (Elt F) ℓ) (ρ : Dev nD → PrngReg)

/-- The block a device sends: its operand, as staged. -/
def sentBlk (c : Dev nD) : (cc0_stg0_0 : Ref sig .tc).ty.Contents (Elt F) :=
  (win0_0.blk (0 : Fin 1)).view.read (Elt F) (m ((c : Thread nD τ).loc main_arg0))

def srcPts (c : Dev nD) : sProp 𝕄 := ((c : Thread nD τ).loc cc0_stg0_0) ↦{fullShare} sentBlk m c
def dstPts (c : Dev nD) (f : (cc0_stg1_0 : Ref sig .tc).ty.Contents (Elt F)) : sProp 𝕄 := ((c : Thread nD τ).loc cc0_stg1_0) ↦{fullShare} f

def P : Swap.Pays nD τ sig (Elt F) (Fin 1) where
  lands _ c := iprop(∃ f, dstPts c f)
  sent _ c := srcPts m c
  got _ c := dstPts c (sentBlk m (peer c))
  lands_storable _ c := by unfold dstPts; infer_instance
  sent_storable _ c := by unfold srcPts; infer_instance
  got_storable _ c := by unfold dstPts; infer_instance

/-! ## The pipeline's proof data -/

def dats (_ : Fin 1) (c : Dev nD) : Dat τ (Elt F) Unit ℕ (Swap.UU nD τ sig) ℕ cfg0 c where
  A w := m ((cfg0.win w).arr.view.loc (c : Thread nD τ))
  after w _ := match w with
    | ⟨0, _⟩ => sentBlk m c
    | ⟨1, _⟩ => sentBlk m (peer c)
  Φ t := match t with
    | ⟨0, _⟩ => Swap.start S (P m) c
    | ⟨_ + 1, _⟩ => Swap.zeros S c
  q _ := fullShare
  owed t := match t with
    | ⟨0, _⟩ => Swap.O₀ S c
    | ⟨_ + 1, _⟩ => 0

theorem owns_whole_eq (c : Dev nD) (b : Ref sig .tc) (X : b.ty.Contents (Elt F)) :
    (owns (Ix := Unit) (Name := ℕ) (U := Swap.UU nD τ sig) (Lvl := ℕ) (c : Thread nD τ) (Memref.whole b) fullShare X : sProp 𝕄)
      = (((c : Thread nD τ).loc b) ↦{fullShare} X) := by
  have h : (owns (Ix := Unit) (Name := ℕ) (U := Swap.UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [h]
  refine BI.Entails.antisymm (show _ ⊢ (_ : sProp 𝕄) from ?_) (show _ ⊢ (_ : sProp 𝕄) from ?_)
  · iintro ⟨%f, %hf, H⟩; subst hf; iexact H
  · iintro H; iexists X; isplitr; · (ipureintro; rfl)
    iexact H

/-! ## The body -/

section Body

def bodyPre (c : Dev nD) : sProp 𝕄 :=
  iprop(Swap.start S (P m) c ∗ (dats m 0 c).owesAt () t0_0.castSucc
    ∗ (∃ d, ((c : Thread nD τ).loc cc0_stg0_0) ↦{fullShare} (dats m 0 c).before (0 : Fin 2) t0_0 d)
    ∗ (∃ d, ((c : Thread nD τ).loc cc0_stg1_0) ↦{fullShare} (dats m 0 c).before (1 : Fin 2) t0_0 d))
def bodyPost (c : Dev nD) : sProp 𝕄 :=
  iprop(Swap.zeros S c ∗ (dats m 0 c).owesAt () t0_0.succ ∗ srcPts m c ∗ dstPts c (sentBlk m (peer c)))

theorem got_eq (c : Dev nD) (fd : Buf (Elt F) (dst.view.loc ((c : Dev nD) : Thread nD τ))) (fs : (cc0_stg0_0 : Ref sig .tc).ty.Contents (Elt F)) :
    dst.view.write (Elt F) fd (src.view.read (Elt F) fs) Finset.univ = fs := by
  show (View.whole cc0_stg1_0).write (Elt F) fd ((View.whole cc0_stg0_0).read (Elt F) fs) Finset.univ = fs
  rw [View.read_whole]; exact View.write_whole_univ _ _ _

theorem lands_eq (c : Dev nD) : (P m).lands 0 c = iprop(∃ f, dstPts c f) := rfl
theorem bar_pay (c : Dev nD) : Swap.pay S (P m) (.inl ()) c = iprop(∃ f, dstPts (peer c) f) := Swap.fin1 _
theorem src_pts (c : Dev nD) : (src.view.loc (c : Thread nD τ) ↦[src.view.set]{fullShare} sentBlk m c : sProp 𝕄) = srcPts m c := by
  unfold srcPts; rw [View.set_whole]
theorem dst_pts (c : Dev nD) (f : (cc0_stg1_0 : Ref sig .tc).ty.Contents (Elt F)) :
    (dst.view.loc (c : Thread nD τ) ↦[dst.view.set]{fullShare} f : sProp 𝕄) = dstPts c f := by
  unfold dstPts; rw [View.set_whole]
theorem sent_ok (c : Dev nD) : (src.view.loc (c : Thread nD τ) ↦[src.view.set]{fullShare} sentBlk m c : sProp 𝕄) ⊢ (P m).sent 0 c :=
  Entails.of_eq (src_pts m c)
theorem got_ok (c : Dev nD) (fd : Buf (Elt F) (dst.view.loc ((S.peer c : Dev nD) : Thread nD τ))) :
    (dst.view.loc ((S.peer c : Dev nD) : Thread nD τ) ↦[dst.view.set]{fullShare}
        (dst.view.write (Elt F) fd (src.view.read (Elt F) (sentBlk m c)) Finset.univ) : sProp 𝕄) ⊢ (P m).got 0 (S.peer c) := by
  rw [got_eq, dst_pts]
  exact Entails.of_eq (congrArg (fun d => dstPts (S.peer c) (sentBlk m d)) (peer_peer c).symm)

theorem body_spec (c : Dev nD) :
    bodyPre m c ⊢ wp frame (wpE (defs₀ (F := F)) Variants.none c none) Set.univ
      (cc0_body src (Memref.isWhole_whole _) dst (Memref.isWhole_whole _) cc0_scratch0 cc0_scratch1) fun _ => bodyPost m c := by
  rw [cc0_body_eq_skeleton]; unfold cc0_body_skel
  simp only [semSignalWord, semWaitWord, Prog.lift, Prog.bind_op, Prog.bind_ret, Prog.pure_eq_ret, wp_deviceId]
  unfold bodyPre Swap.start
  simp only [Swap.posns_eq, Swap.payToks, Swap.fin1]
  iintro ⟨⟨⟨%K, #HR, ⟨HaB, HaS, HaV⟩, HtB, HtS, HtV⟩, ⟨HcB, HcV⟩, #Hlev⟩, Ho, ⟨%d0, Hx⟩, ⟨%d1, Hout⟩⟩
  rw [show (dats m 0 c).before (0 : Fin 2) t0_0 d0 = sentBlk m c from by unfold Dat.before; rw [if_pos (by decide)]; rfl]
  unfold Dat.owesAt Pipeline.owesWithin
  icases Ho with ⟨%W, %hW, HO⟩
  rw [show (dats m 0 c).owed t0_0.castSucc = Swap.O₀ S c from rfl]
  iapply (Swap.wp_signal_peer S (P m) defs₀ Variants.none K c (dev1_eq c)) $$ [HO HtB Hout]
  · isplitr; · iexact HR
    isplitl [HO]; · iexact HO
    isplitl [HtB]; · iexact HtB
    rw [Swap.fin1]
    rw [lands_eq]; unfold dstPts
    iexists _; iexact Hout
  iintro HO
  iapply (Swap.wp_wait_cell S (P m) defs₀ Variants.none K c (.inl ()) rfl (wpE_semWait_eq Variants.none (c : Thread nD τ) none Set.univ)) $$ [HO HcB HaB]
  · isplitr; · iexact HR
    isplitl [HcB]; · iexact HcB
    isplitl [HO]; · iexact HO
    isplitr; · iapply (Swap.mayWait_bar S c Finset.univ); iexact Hlev
    iexact HaB
  iintro ⟨HO, HzB, Hp⟩
  ihave Hp := (Entails.of_eq (bar_pay m c)) $$ Hp
  icases Hp with ⟨%fn, Hn⟩
  iapply (Swap.wp_send_peer S (P m) defs₀ Variants.none K c (dev2_eq c) (0 : Fin 1) (Finset.mem_univ _) (src := src) (dst := dst) (q := fullShare) rfl
      (fs := sentBlk m c) (fd := fn)
      (sent_ok m c) (got_ok m c fn)) $$ [Hx Hn HO HtS HtV]
  · isplitr; · iexact HR
    isplitl [Hx]; · rw [src_pts]; unfold srcPts; iexact Hx
    isplitl [Hn]; · rw [dst_pts]; iexact Hn
    isplitl [HO]; · iexact HO
    isplitl [HtS]; · iexact HtS
    iexact HtV
  iintro ⟨HcS, HO⟩
  rw [show (Finset.univ : Finset (Fin 1)).erase 0 = ∅ from by decide, Swap.dues_empty]
  iapply (Swap.wp_wait_cell S (P m) defs₀ Variants.none K c (.inr (.inl 0)) (n := src.view.dmaCredit) src_credit
      (wpE_waitDma2_eq Variants.none (c : Thread nD τ) none Set.univ (src := dst) (dst := src))) $$ [HO HcS HaS]
  · isplitr; · iexact HR
    isplitl [HcS]; · iexact HcS
    isplitl [HO]; · iexact HO
    isplitr; · rw [MayWait_zero]; iempintro
    iexact HaS
  iintro ⟨HO, HzS, Hx⟩
  iapply (Swap.wp_wait_cell S (P m) defs₀ Variants.none K c (.inr (.inr 0)) (n := dst.view.dmaCredit) rfl
      (wpE_waitDma2_eq Variants.none (c : Thread nD τ) none Set.univ (src := src) (dst := dst))) $$ [HO HcV HaV]
  · isplitr; · iexact HR
    isplitl [HcV]; · iexact HcV
    isplitl [HO]; · iexact HO
    isplitr; · rw [MayWait_zero]; iempintro
    iexact HaV
  iintro ⟨HO, HzV, Hout⟩
  rw [wp_ret]; imodintro
  unfold bodyPost Dat.owesAt Pipeline.owesWithin
  rw [show (dats m 0 c).owed t0_0.succ = 0 from rfl, Swap.zeros_eq]
  simp only [Swap.fin1]
  isplitl [HzB HzS HzV]
  · isplitl [HzB]; · iexact HzB
    isplitl [HzS] <;> iassumption
  isplitl [HO]
  · iexists _
    isplitr
    rotate_left
    · iexact HO
    · ipureintro; exact fun _ _ => Or.inl trivial
  isplitl [Hx]
  · iapply (show Swap.pay S (P m) (.inr (.inl 0)) c ⊢ srcPts m c from Entails.of_eq rfl); iexact Hx
  · iapply (show Swap.pay S (P m) (.inr (.inr 0)) c ⊢ dstPts c (sentBlk m (peer c)) from Entails.of_eq rfl); iexact Hout

theorem body_obligation (c : Dev nD) : BodyObligation (dats (F := F) m 0 c) (defs₀ (F := F)) Variants.none () Set.univ := fun t => by
  rw [fin_N0 t, bigSep_W0, bigSep_W0]
  have h := body_spec m c
  unfold bodyPre bodyPost srcPts dstPts at h
  simp only [← owns_whole_eq] at h
  exact h

end Body

/-! ## The launch -/

theorem ownSemFacts : Pipeline.OwnSemFacts cfg0.spec S.own := by decide
theorem share_eq (c : Dev nD) (w : Fin cfg0.W) : (dats m 0 c).share w = fullShare := by unfold Dat.share; split <;> rfl

def u₀ : Swap.UU nD τ sig := (initOf (Pipeline.cells cfgs cellOf_inj) (Pipeline.launchToks cfgs cellOf_inj), initOf (Swap.cells S) (Swap.tokens S))

theorem unscoped_eq (c : Dev nD) : (unscopedSems0 c : sProp 𝕄) = semVal (S.at_ c (.inl ())) 0 := by
  unfold unscopedSems0; rw [bigSep_eq_bigSepL_of_eq [SemLoc.reg barS] (by decide) (by decide)]; rfl

theorem sems_eq (c : Dev nD) :
    (Swap.zeros S c : sProp 𝕄)
      = iprop(unscopedSems0 c ∗ Pipeline.ownSems0 (Ix := Unit) (Name := ℕ) (U := Swap.UU nD τ sig) (Lvl := ℕ) (Val := Elt F) (τ := τ) S.own c) := by
  unfold Swap.zeros
  rw [bigSep_univ_sum, Finset.univ_unique, bigSep_singleton, unscoped_eq]; rfl

theorem waits (c : Dev nD) : (levAts Swap.L (Swap.lv S) : sProp 𝕄) ⊢ Pipeline.cellsWaits cfgs (dats m) () 0 c :=
  Pipeline.cellsWaits_intro cfgs (dats m) () 0 c fun w s t =>
    Swap.mayWait_other S c _ (by fin_cases w <;> fin_cases s <;> decide) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution of the four devices' programs terminates, each
    array holding its final contents and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) Swap.EP defs₀ Variants.none m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := Swap.O₀ S) (howed₀ := fun _ => rfl) (howedN := fun _ => rfl)
    (L := Swap.L) (lv := Swap.lv S) (hL := Swap.L_of_ne) (hwaits := waits m)
    (G := Swap.G S (P m)) (G' := Swap.G' S (P m)) (u₀ := u₀)
    (hu₀ := by
      unfold u₀
      iintro Hu
      ihave H := (ownU_pair _ _) $$ Hu
      icases H with ⟨HP, HX⟩
      imod (Swap.fund_swap S (P m)) $$ HX with HG
      imodintro
      isplitl [HP] <;> iassumption)
    (hglob := by
      have h := Swap.glob S (P m) (X := fun c => iprop(unscopedSems0 c ∗ Pipeline.ownSems0 S.own c)) fun c => Entails.of_eq (sems_eq c).symm
      refine BI.Entails.trans (bigSep_mono fun c _ => show _ ⊢ (_ : sProp 𝕄) from ?_) h
      iintro ⟨H1, H2, H3⟩
      isplitl [H1 H2]
      · isplitl [H2] <;> iassumption
      iexact H3)
    (hA := fun _ _ => rfl) (hpf := fun _ k => k.elim0)
    (X := Swap.start S (P m)) (Y := fun c => unscopedSems0 c) (Z := fun _ => iprop(emp))
    (hX := fun c => Swap.start_intro S (P m) c)
    (hin := fun c => by
      rw [show (dats m 0 c).Φ 0 = Swap.start S (P m) c from rfl]
      iintro ⟨H, -, -⟩
      iexact H)
    (hout := fun c => by
      rw [show (dats m 0 c).Φ (Fin.last cfg0.N) = Swap.zeros S c from rfl, scopedRest0_eq, sems_eq]
      iintro ⟨H1, H2⟩
      isplitl [H1]; · iexact H1
      isplitl [H2]; · iexact H2
      iempintro)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem finalA_arg (c : Dev nD) : finalA m c (0 : Fin 2) = m ((c : Thread nD τ).loc main_arg0) :=
  (dats (F := F) m 0 c).arrAt_in (0 : Fin 2) rfl _

/-- The staged block is the operand. -/
theorem sentBlk_eq (c : Dev nD) : sentBlk m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- A device's result is its peer's operand. -/
theorem finalA_res (c : Dev nD) : finalA m c (1 : Fin 2) = m ((peer c : Thread nD τ).loc main_arg0) := by
  have h : (win0_1.blk (0 : Fin 1)).view.read (Elt F) (finalA m c (1 : Fin 2)) = sentBlk m (peer c) := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  rw [sentBlk_eq] at h
  exact (Memref.read_access_unit_zero (Elt F) main_v1 hz (fun a => by fin_cases a <;> decide) _).symm.trans h

end Cert.RunY

end
-- ==== Proof.ClaimsY.lean ====
/-
# The exchange along the second axis: the claims

The frames of the program, of its twin and of the reference, and the value: device `(i, j)` ends with the block that
device `(i, 1 - j)` began with, which is its block of the array with the blocks of each pair swapped.
-/
module

public import proofs.«01_k».proof.Defs
public import proofs.«01_k».proof.Proof.Halves
public import proofs.«01_k».proof.Proof.RunY
public import proofs.«01_k».proof.Proof.Gen.ExchangeYIdeal
public import proofs.«01_k».proof.Proof.Gen.ExchangeYIdeal.Launch
public import proofs.«01_k».proof.Proof.Gen.SwapYIdeal.Run

@[expose] public section

noncomputable section

namespace Cert.ClaimsY

open Idealize.ShloMosaic Idealize.ShloMosaic.TcCoe Idealize.SL.Sem

variable {F : FTy → Type} [FloatOps F]

set_option smartUnfolding false in
/-- The twin's table of bodies is the program's. -/
theorem defs_eq : Cert.ExchangeYIdeal.defs (F := F) = Cert.ExchangeY.defs (F := F) := rfl

/-- The peer's block of the array is this device's block of the array with the blocks of each pair swapped. -/
theorem block_swapped {α : Type} (c : Dev Cert.ExchangeY.nD) (x : (⟨3, ![16, 640, 2048]⟩ : Shape).Idx → α)
    (ht : Layout.Tiles ⟨3, ![4, 640, 2048]⟩ ⟨3, ![16, 640, 2048]⟩ 0 4)
    (h : (⟨3, ![16, 640, 2048]⟩ : Shape).ShapeCasts ⟨5, ![2, 2, 4, 640, 2048]⟩)
    (h' : (⟨5, ![2, 2, 4, 640, 2048]⟩ : Shape).ShapeCasts ⟨3, ![16, 640, 2048]⟩) :
    Layout.block ⟨3, ![4, 640, 2048]⟩ ⟨3, ![16, 640, 2048]⟩ 0 4 (Cert.RunY.peer c) x ht
      = Layout.block ⟨3, ![4, 640, 2048]⟩ ⟨3, ![16, 640, 2048]⟩ 0 4 c
          (shapeCast ⟨3, ![16, 640, 2048]⟩ (Host.reverse [(1 : Fin 5)] (shapeCast ⟨5, ![2, 2, 4, 640, 2048]⟩ x h)) h') ht := by
  funext i
  rw [Layout.block_apply, Layout.block_apply]
  refine (Halves.pairs x h h' (ht.idx c i) (ht.idx (Cert.RunY.peer c) i) ?_
    ((Halves.idx_other ht _ i 0).trans (Halves.idx_other ht _ i 0).symm)
    ((Halves.idx_other ht _ i 1).trans (Halves.idx_other ht _ i 1).symm)).symm
  have hi : (i 0).val < 4 := (i 0).isLt
  have hc : c.val < 4 := c.isLt
  have e : ∀ d : Fin 4, (ht.idx d i 0).val = d.val * 4 + (i 0).val := fun d => Halves.idx_first ht d i
  rw [e, e]
  rw [Cert.RunY.peer_val]
  omega

section Program

open Cert.ExchangeY

/-- After the run each device holds its peer's operand, its own unchanged, and every counter is zero. -/
theorem run_program (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v1) = m (((Cert.RunY.peer c).tc : Thread nD τ).loc main_arg0))
      ∧ (r.2.mem ((c.tc : Thread nD τ).loc main_arg0) = m ((c.tc : Thread nD τ).loc main_arg0)))
      ∧ r.2.sem = fun _ => 0 :=
  (θ_run defs _ _).mono (fun r h => ⟨fun c => ⟨(h.1 c (1 : Fin 2)).trans (Cert.RunY.finalA_res m c), (h.1 c (0 : Fin 2)).trans (Cert.RunY.finalA_arg m c)⟩, h.2⟩) (Cert.RunY.run_main m ρ)

end Program

section Twin

open Cert.ExchangeYIdeal

set_option maxRecDepth 10000 in
/-- The same of the twin, whose text is the program's. -/
theorem run_twin (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v1) = m (((Cert.RunY.peer c).tc : Thread nD τ).loc main_arg0))
      ∧ (r.2.mem ((c.tc : Thread nD τ).loc main_arg0) = m ((c.tc : Thread nD τ).loc main_arg0)))
      ∧ r.2.sem = fun _ => 0 := by
  rw [defs_eq]
  exact run_program (F := F) m ρ

end Twin

theorem frame_program : Cert.quiescent_ExchangeY := fun m ρ _ =>
  (θ_run Cert.ExchangeY.defs _ _).mono (fun r h => ⟨fun c => (h.1 c).2, h.2⟩) (run_program m ρ)
theorem frame_twin : Cert.quiescent_ExchangeYIdeal := fun m ρ _ =>
  (θ_run Cert.ExchangeYIdeal.defs _ _).mono (fun r h => ⟨fun c => (h.1 c).2, h.2⟩) (run_twin m ρ)
theorem frame_reference : Cert.quiescent_SwapYIdeal := fun m ρ _ =>
  (θ_run Cert.SwapYIdeal.defs _ _).mono (fun r h => ⟨fun c => (h c).2, sem_eq_zero_of_no_sems (by decide) r.2⟩)
    (Cert.SwapYIdeal.Value.run m ρ)

/-- Each device's result is its block of the reference's. -/
theorem values : Cert.algebraic_ExchangeYIdeal_SwapYIdeal := by
  intro m g m' g' _ hm
  refine ⟨_, (θ_run Cert.ExchangeYIdeal.defs _ _).mono (fun r h c => ⟨?_, (h.1 c).2⟩) (run_twin m g),
    (θ_run Cert.SwapYIdeal.defs _ _).mono (fun r h => h 0) (Cert.SwapYIdeal.Value.run m' g')⟩
  exact ((h.1 c).1.trans (hm (Cert.RunY.peer c))).trans (block_swapped c _ _ _ _)

end Cert.ClaimsY

end
-- ==== Proof.RunBack.lean ====
/-
# The exchange back along the mesh's first axis

Device `(i, j)` sends its `4096 × 2048` block to device `(1 - i, j)` and receives that device's. One transfer of the
protocol of `Swap.lean`, between the staging buffers of the call's operand and of its result.
-/
module

public import proofs.«01_k».proof.Proof.Swap
public import proofs.«01_k».proof.Proof.Gen.ExchangeBack
public import proofs.«01_k».proof.Proof.Gen.ExchangeBack.Skeleton
public import proofs.«01_k».proof.Proof.Gen.ExchangeBack.Launch
public import Idealize.ShloMosaic.Lib.Pipeline.CollectiveSegs

@[expose] public section

noncomputable section

namespace Cert.RunBack

open Cert.ExchangeBack Cert.ExchangeBack.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat BodyObligation)

variable {F : FTy → Type} [FloatOps F]

local notation "𝕄" => MT nD τ sig Unit (Elt F) ℕ (Swap.UU nD τ sig) ℕ

/-! ## The exchange -/

/-- Device `(i, j)` exchanges with `(1 - i, j)`. -/
def peer (c : Dev nD) : Dev nD := ⟨k0_dev1 c, k0_dev1_lt c⟩

theorem peer_val (c : Dev nD) : (peer c).val = c.val % 2 + 2 - 2 * (c.val / 2) := k0_dev1_eq c
theorem dev1_eq (c : Dev nD) : (⟨k0_dev1 c, k0_dev1_lt c⟩ : Dev nD) = peer c := rfl
theorem dev2_eq (c : Dev nD) : (⟨k0_dev2 c, k0_dev2_lt c⟩ : Dev nD) = peer c :=
  Fin.ext ((k0_dev2_eq c).trans (k0_dev1_eq c).symm)
theorem peer_peer (c : Dev nD) : peer (peer c) = c := by
  refine Fin.ext ?_
  have h : c.val < 4 := c.isLt
  rw [peer_val, peer_val]
  omega

abbrev barS : Sem sig := (SemArray.scalar (sig.barrier 1 rfl) : Sems sig S_).sem
abbrev sndS : DmaSem sig := (cc0_scratch0 : DmaSems sig S_).sem
abbrev rcvS : DmaSem sig := (cc0_scratch1 : DmaSems sig S_).sem

abbrev src : Memref sig .tc .vmem S4096x2048 .bf16 := Memref.whole cc0_stg0_0
abbrev dst : Memref sig .tc .vmem S4096x2048 .bf16 := Memref.whole cc0_stg1_0

def S : Swap.Spec nD sig (Fin 1) where
  peer := peer
  peer_peer := peer_peer
  bar := barS
  snd _ := sndS
  rcv _ := rcvS
  snd_inj _ _ _ := Subsingleton.elim _ _
  rcv_inj _ _ _ := Subsingleton.elim _ _
  snd_ne_rcv _ _ := by decide
  N _ := dst.view.dmaCredit
  N_pos _ := View.dmaCredit_pos _ (by decide)

/-- The two buffers of the transfer are credited alike. -/
theorem src_credit : src.view.dmaCredit = S.amt (.inr (.inl 0)) := (rfl : src.view.dmaCredit = dst.view.dmaCredit)

variable (m : (ℓ : Loc nD τ sig) → Buf (Elt F) ℓ) (ρ : Dev nD → PrngReg)

/-- The block a device sends: its operand, as staged. -/
def sentBlk (c : Dev nD) : (cc0_stg0_0 : Ref sig .tc).ty.Contents (Elt F) :=
  (win0_0.blk (0 : Fin 1)).view.read (Elt F) (m ((c : Thread nD τ).loc main_arg0))

def srcPts (c : Dev nD) : sProp 𝕄 := ((c : Thread nD τ).loc cc0_stg0_0) ↦{fullShare} sentBlk m c
def dstPts (c : Dev nD) (f : (cc0_stg1_0 : Ref sig .tc).ty.Contents (Elt F)) : sProp 𝕄 := ((c : Thread nD τ).loc cc0_stg1_0) ↦{fullShare} f

def P : Swap.Pays nD τ sig (Elt F) (Fin 1) where
  lands _ c := iprop(∃ f, dstPts c f)
  sent _ c := srcPts m c
  got _ c := dstPts c (sentBlk m (peer c))
  lands_storable _ c := by unfold dstPts; infer_instance
  sent_storable _ c := by unfold srcPts; infer_instance
  got_storable _ c := by unfold dstPts; infer_instance

/-! ## The pipeline's proof data -/

def dats (_ : Fin 1) (c : Dev nD) : Dat τ (Elt F) Unit ℕ (Swap.UU nD τ sig) ℕ cfg0 c where
  A w := m ((cfg0.win w).arr.view.loc (c : Thread nD τ))
  after w _ := match w with
    | ⟨0, _⟩ => sentBlk m c
    | ⟨1, _⟩ => sentBlk m (peer c)
  Φ t := match t with
    | ⟨0, _⟩ => Swap.start S (P m) c
    | ⟨_ + 1, _⟩ => Swap.zeros S c
  q _ := fullShare
  owed t := match t with
    | ⟨0, _⟩ => Swap.O₀ S c
    | ⟨_ + 1, _⟩ => 0

theorem owns_whole_eq (c : Dev nD) (b : Ref sig .tc) (X : b.ty.Contents (Elt F)) :
    (owns (Ix := Unit) (Name := ℕ) (U := Swap.UU nD τ sig) (Lvl := ℕ) (c : Thread nD τ) (Memref.whole b) fullShare X : sProp 𝕄)
      = (((c : Thread nD τ).loc b) ↦{fullShare} X) := by
  have h : (owns (Ix := Unit) (Name := ℕ) (U := Swap.UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [h]
  refine BI.Entails.antisymm (show _ ⊢ (_ : sProp 𝕄) from ?_) (show _ ⊢ (_ : sProp 𝕄) from ?_)
  · iintro ⟨%f, %hf, H⟩; subst hf; iexact H
  · iintro H; iexists X; isplitr; · (ipureintro; rfl)
    iexact H

/-! ## The body -/

section Body

def bodyPre (c : Dev nD) : sProp 𝕄 :=
  iprop(Swap.start S (P m) c ∗ (dats m 0 c).owesAt () t0_0.castSucc
    ∗ (∃ d, ((c : Thread nD τ).loc cc0_stg0_0) ↦{fullShare} (dats m 0 c).before (0 : Fin 2) t0_0 d)
    ∗ (∃ d, ((c : Thread nD τ).loc cc0_stg1_0) ↦{fullShare} (dats m 0 c).before (1 : Fin 2) t0_0 d))
def bodyPost (c : Dev nD) : sProp 𝕄 :=
  iprop(Swap.zeros S c ∗ (dats m 0 c).owesAt () t0_0.succ ∗ srcPts m c ∗ dstPts c (sentBlk m (peer c)))

theorem got_eq (c : Dev nD) (fd : Buf (Elt F) (dst.view.loc ((c : Dev nD) : Thread nD τ))) (fs : (cc0_stg0_0 : Ref sig .tc).ty.Contents (Elt F)) :
    dst.view.write (Elt F) fd (src.view.read (Elt F) fs) Finset.univ = fs := by
  show (View.whole cc0_stg1_0).write (Elt F) fd ((View.whole cc0_stg0_0).read (Elt F) fs) Finset.univ = fs
  rw [View.read_whole]; exact View.write_whole_univ _ _ _

theorem lands_eq (c : Dev nD) : (P m).lands 0 c = iprop(∃ f, dstPts c f) := rfl
theorem bar_pay (c : Dev nD) : Swap.pay S (P m) (.inl ()) c = iprop(∃ f, dstPts (peer c) f) := Swap.fin1 _
theorem src_pts (c : Dev nD) : (src.view.loc (c : Thread nD τ) ↦[src.view.set]{fullShare} sentBlk m c : sProp 𝕄) = srcPts m c := by
  unfold srcPts; rw [View.set_whole]
theorem dst_pts (c : Dev nD) (f : (cc0_stg1_0 : Ref sig .tc).ty.Contents (Elt F)) :
    (dst.view.loc (c : Thread nD τ) ↦[dst.view.set]{fullShare} f : sProp 𝕄) = dstPts c f := by
  unfold dstPts; rw [View.set_whole]
theorem sent_ok (c : Dev nD) : (src.view.loc (c : Thread nD τ) ↦[src.view.set]{fullShare} sentBlk m c : sProp 𝕄) ⊢ (P m).sent 0 c :=
  Entails.of_eq (src_pts m c)
theorem got_ok (c : Dev nD) (fd : Buf (Elt F) (dst.view.loc ((S.peer c : Dev nD) : Thread nD τ))) :
    (dst.view.loc ((S.peer c : Dev nD) : Thread nD τ) ↦[dst.view.set]{fullShare}
        (dst.view.write (Elt F) fd (src.view.read (Elt F) (sentBlk m c)) Finset.univ) : sProp 𝕄) ⊢ (P m).got 0 (S.peer c) := by
  rw [got_eq, dst_pts]
  exact Entails.of_eq (congrArg (fun d => dstPts (S.peer c) (sentBlk m d)) (peer_peer c).symm)

theorem body_spec (c : Dev nD) :
    bodyPre m c ⊢ wp frame (wpE (defs₀ (F := F)) Variants.none c none) Set.univ
      (cc0_body src (Memref.isWhole_whole _) dst (Memref.isWhole_whole _) cc0_scratch0 cc0_scratch1) fun _ => bodyPost m c := by
  rw [cc0_body_eq_skeleton]; unfold cc0_body_skel
  simp only [semSignalWord, semWaitWord, Prog.lift, Prog.bind_op, Prog.bind_ret, Prog.pure_eq_ret, wp_deviceId]
  unfold bodyPre Swap.start
  simp only [Swap.posns_eq, Swap.payToks, Swap.fin1]
  iintro ⟨⟨⟨%K, #HR, ⟨HaB, HaS, HaV⟩, HtB, HtS, HtV⟩, ⟨HcB, HcV⟩, #Hlev⟩, Ho, ⟨%d0, Hx⟩, ⟨%d1, Hout⟩⟩
  rw [show (dats m 0 c).before (0 : Fin 2) t0_0 d0 = sentBlk m c from by unfold Dat.before; rw [if_pos (by decide)]; rfl]
  unfold Dat.owesAt Pipeline.owesWithin
  icases Ho with ⟨%W, %hW, HO⟩
  rw [show (dats m 0 c).owed t0_0.castSucc = Swap.O₀ S c from rfl]
  iapply (Swap.wp_signal_peer S (P m) defs₀ Variants.none K c (dev1_eq c)) $$ [HO HtB Hout]
  · isplitr; · iexact HR
    isplitl [HO]; · iexact HO
    isplitl [HtB]; · iexact HtB
    rw [Swap.fin1]
    rw [lands_eq]; unfold dstPts
    iexists _; iexact Hout
  iintro HO
  iapply (Swap.wp_wait_cell S (P m) defs₀ Variants.none K c (.inl ()) rfl (wpE_semWait_eq Variants.none (c : Thread nD τ) none Set.univ)) $$ [HO HcB HaB]
  · isplitr; · iexact HR
    isplitl [HcB]; · iexact HcB
    isplitl [HO]; · iexact HO
    isplitr; · iapply (Swap.mayWait_bar S c Finset.univ); iexact Hlev
    iexact HaB
  iintro ⟨HO, HzB, Hp⟩
  ihave Hp := (Entails.of_eq (bar_pay m c)) $$ Hp
  icases Hp with ⟨%fn, Hn⟩
  iapply (Swap.wp_send_peer S (P m) defs₀ Variants.none K c (dev2_eq c) (0 : Fin 1) (Finset.mem_univ _) (src := src) (dst := dst) (q := fullShare) rfl
      (fs := sentBlk m c) (fd := fn)
      (sent_ok m c) (got_ok m c fn)) $$ [Hx Hn HO HtS HtV]
  · isplitr; · iexact HR
    isplitl [Hx]; · rw [src_pts]; unfold srcPts; iexact Hx
    isplitl [Hn]; · rw [dst_pts]; iexact Hn
    isplitl [HO]; · iexact HO
    isplitl [HtS]; · iexact HtS
    iexact HtV
  iintro ⟨HcS, HO⟩
  rw [show (Finset.univ : Finset (Fin 1)).erase 0 = ∅ from by decide, Swap.dues_empty]
  iapply (Swap.wp_wait_cell S (P m) defs₀ Variants.none K c (.inr (.inl 0)) (n := src.view.dmaCredit) src_credit
      (wpE_waitDma2_eq Variants.none (c : Thread nD τ) none Set.univ (src := dst) (dst := src))) $$ [HO HcS HaS]
  · isplitr; · iexact HR
    isplitl [HcS]; · iexact HcS
    isplitl [HO]; · iexact HO
    isplitr; · rw [MayWait_zero]; iempintro
    iexact HaS
  iintro ⟨HO, HzS, Hx⟩
  iapply (Swap.wp_wait_cell S (P m) defs₀ Variants.none K c (.inr (.inr 0)) (n := dst.view.dmaCredit) rfl
      (wpE_waitDma2_eq Variants.none (c : Thread nD τ) none Set.univ (src := src) (dst := dst))) $$ [HO HcV HaV]
  · isplitr; · iexact HR
    isplitl [HcV]; · iexact HcV
    isplitl [HO]; · iexact HO
    isplitr; · rw [MayWait_zero]; iempintro
    iexact HaV
  iintro ⟨HO, HzV, Hout⟩
  rw [wp_ret]; imodintro
  unfold bodyPost Dat.owesAt Pipeline.owesWithin
  rw [show (dats m 0 c).owed t0_0.succ = 0 from rfl, Swap.zeros_eq]
  simp only [Swap.fin1]
  isplitl [HzB HzS HzV]
  · isplitl [HzB]; · iexact HzB
    isplitl [HzS] <;> iassumption
  isplitl [HO]
  · iexists _
    isplitr
    rotate_left
    · iexact HO
    · ipureintro; exact fun _ _ => Or.inl trivial
  isplitl [Hx]
  · iapply (show Swap.pay S (P m) (.inr (.inl 0)) c ⊢ srcPts m c from Entails.of_eq rfl); iexact Hx
  · iapply (show Swap.pay S (P m) (.inr (.inr 0)) c ⊢ dstPts c (sentBlk m (peer c)) from Entails.of_eq rfl); iexact Hout

theorem body_obligation (c : Dev nD) : BodyObligation (dats (F := F) m 0 c) (defs₀ (F := F)) Variants.none () Set.univ := fun t => by
  rw [fin_N0 t, bigSep_W0, bigSep_W0]
  have h := body_spec m c
  unfold bodyPre bodyPost srcPts dstPts at h
  simp only [← owns_whole_eq] at h
  exact h

end Body

/-! ## The launch -/

theorem ownSemFacts : Pipeline.OwnSemFacts cfg0.spec S.own := by decide
theorem share_eq (c : Dev nD) (w : Fin cfg0.W) : (dats m 0 c).share w = fullShare := by unfold Dat.share; split <;> rfl

def u₀ : Swap.UU nD τ sig := (initOf (Pipeline.cells cfgs cellOf_inj) (Pipeline.launchToks cfgs cellOf_inj), initOf (Swap.cells S) (Swap.tokens S))

theorem unscoped_eq (c : Dev nD) : (unscopedSems0 c : sProp 𝕄) = semVal (S.at_ c (.inl ())) 0 := by
  unfold unscopedSems0; rw [bigSep_eq_bigSepL_of_eq [SemLoc.reg barS] (by decide) (by decide)]; rfl

theorem sems_eq (c : Dev nD) :
    (Swap.zeros S c : sProp 𝕄)
      = iprop(unscopedSems0 c ∗ Pipeline.ownSems0 (Ix := Unit) (Name := ℕ) (U := Swap.UU nD τ sig) (Lvl := ℕ) (Val := Elt F) (τ := τ) S.own c) := by
  unfold Swap.zeros
  rw [bigSep_univ_sum, Finset.univ_unique, bigSep_singleton, unscoped_eq]; rfl

theorem waits (c : Dev nD) : (levAts Swap.L (Swap.lv S) : sProp 𝕄) ⊢ Pipeline.cellsWaits cfgs (dats m) () 0 c :=
  Pipeline.cellsWaits_intro cfgs (dats m) () 0 c fun w s t =>
    Swap.mayWait_other S c _ (by fin_cases w <;> fin_cases s <;> decide) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution of the four devices' programs terminates, each
    array holding its final contents and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) Swap.EP defs₀ Variants.none m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := Swap.O₀ S) (howed₀ := fun _ => rfl) (howedN := fun _ => rfl)
    (L := Swap.L) (lv := Swap.lv S) (hL := Swap.L_of_ne) (hwaits := waits m)
    (G := Swap.G S (P m)) (G' := Swap.G' S (P m)) (u₀ := u₀)
    (hu₀ := by
      unfold u₀
      iintro Hu
      ihave H := (ownU_pair _ _) $$ Hu
      icases H with ⟨HP, HX⟩
      imod (Swap.fund_swap S (P m)) $$ HX with HG
      imodintro
      isplitl [HP] <;> iassumption)
    (hglob := by
      have h := Swap.glob S (P m) (X := fun c => iprop(unscopedSems0 c ∗ Pipeline.ownSems0 S.own c)) fun c => Entails.of_eq (sems_eq c).symm
      refine BI.Entails.trans (bigSep_mono fun c _ => show _ ⊢ (_ : sProp 𝕄) from ?_) h
      iintro ⟨H1, H2, H3⟩
      isplitl [H1 H2]
      · isplitl [H2] <;> iassumption
      iexact H3)
    (hA := fun _ _ => rfl) (hpf := fun _ k => k.elim0)
    (X := Swap.start S (P m)) (Y := fun c => unscopedSems0 c) (Z := fun _ => iprop(emp))
    (hX := fun c => Swap.start_intro S (P m) c)
    (hin := fun c => by
      rw [show (dats m 0 c).Φ 0 = Swap.start S (P m) c from rfl]
      iintro ⟨H, -, -⟩
      iexact H)
    (hout := fun c => by
      rw [show (dats m 0 c).Φ (Fin.last cfg0.N) = Swap.zeros S c from rfl, scopedRest0_eq, sems_eq]
      iintro ⟨H1, H2⟩
      isplitl [H1]; · iexact H1
      isplitl [H2]; · iexact H2
      iempintro)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem finalA_arg (c : Dev nD) : finalA m c (0 : Fin 2) = m ((c : Thread nD τ).loc main_arg0) :=
  (dats (F := F) m 0 c).arrAt_in (0 : Fin 2) rfl _

/-- The staged block is the operand. -/
theorem sentBlk_eq (c : Dev nD) : sentBlk m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- A device's result is its peer's operand. -/
theorem finalA_res (c : Dev nD) : finalA m c (1 : Fin 2) = m ((peer c : Thread nD τ).loc main_arg0) := by
  have h : (win0_1.blk (0 : Fin 1)).view.read (Elt F) (finalA m c (1 : Fin 2)) = sentBlk m (peer c) := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  rw [sentBlk_eq] at h
  exact (Memref.read_access_unit_zero (Elt F) main_v1 hz (fun a => by fin_cases a <;> decide) _).symm.trans h

end Cert.RunBack

end
-- ==== Proof.ClaimsBack.lean ====
/-
# The exchange back along the first axis: the claims

The frames of the program, of its twin and of the reference, and the value: device `(i, j)` ends with the rows that
device `(1 - i, j)` began with, which are its rows of the array with its halves swapped.
-/
module

public import proofs.«01_k».proof.Defs
public import proofs.«01_k».proof.Proof.Halves
public import proofs.«01_k».proof.Proof.RunBack
public import proofs.«01_k».proof.Proof.Gen.ExchangeBackIdeal
public import proofs.«01_k».proof.Proof.Gen.ExchangeBackIdeal.Launch
public import proofs.«01_k».proof.Proof.Gen.SwapBackIdeal.Run

@[expose] public section

noncomputable section

namespace Cert.ClaimsBack

open Idealize.ShloMosaic Idealize.ShloMosaic.TcCoe Idealize.SL.Sem

variable {F : FTy → Type} [FloatOps F]

set_option smartUnfolding false in
/-- The twin's table of bodies is the program's. -/
theorem defs_eq : Cert.ExchangeBackIdeal.defs (F := F) = Cert.ExchangeBack.defs (F := F) := rfl

/-- The peer's block of the array is this device's block of the array with its halves swapped. -/
theorem block_swapped {α : Type} (c : Dev Cert.ExchangeBack.nD) (x : (⟨2, ![16384, 2048]⟩ : Shape).Idx → α)
    (ht : Layout.Tiles ⟨2, ![4096, 2048]⟩ ⟨2, ![16384, 2048]⟩ 0 4)
    (h1 : (⟨2, ![16384, 2048]⟩ : Shape).Slices ![8192, 0] ⟨2, ![8192, 2048]⟩) (h0 : (⟨2, ![16384, 2048]⟩ : Shape).Slices ![0, 0] ⟨2, ![8192, 2048]⟩)
    (h : Shape.Concatenates [⟨2, ![8192, 2048]⟩, ⟨2, ![8192, 2048]⟩] ⟨2, ![16384, 2048]⟩ 0) :
    Layout.block ⟨2, ![4096, 2048]⟩ ⟨2, ![16384, 2048]⟩ 0 4 (Cert.RunBack.peer c) x ht
      = Layout.block ⟨2, ![4096, 2048]⟩ ⟨2, ![16384, 2048]⟩ 0 4 c
          (concatenate (⟨2, ![16384, 2048]⟩ : Shape) (0 : Fin 2) [⟨⟨2, ![8192, 2048]⟩, extractStridedSlice ⟨2, ![8192, 2048]⟩ ![8192, 0] x h1⟩,
            ⟨⟨2, ![8192, 2048]⟩, extractStridedSlice ⟨2, ![8192, 2048]⟩ ![0, 0] x h0⟩] h) ht := by
  funext i
  rw [Layout.block_apply, Layout.block_apply]
  refine (Halves.halves x h1 h0 h (ht.idx c i) (ht.idx (Cert.RunBack.peer c) i) ?_
    ((Halves.idx_other ht _ i 0).trans (Halves.idx_other ht _ i 0).symm)).symm
  have hi : (i 0).val < 4096 := (i 0).isLt
  have hc : c.val < 4 := c.isLt
  have e : ∀ d : Fin 4, (ht.idx d i 0).val = d.val * 4096 + (i 0).val := fun d => Halves.idx_first ht d i
  rw [e, e]
  rw [Cert.RunBack.peer_val]
  split <;> omega

section Program

open Cert.ExchangeBack

/-- After the run each device holds its peer's operand, its own unchanged, and every counter is zero. -/
theorem run_program (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v1) = m (((Cert.RunBack.peer c).tc : Thread nD τ).loc main_arg0))
      ∧ (r.2.mem ((c.tc : Thread nD τ).loc main_arg0) = m ((c.tc : Thread nD τ).loc main_arg0)))
      ∧ r.2.sem = fun _ => 0 :=
  (θ_run defs _ _).mono (fun r h => ⟨fun c => ⟨(h.1 c (1 : Fin 2)).trans (Cert.RunBack.finalA_res m c), (h.1 c (0 : Fin 2)).trans (Cert.RunBack.finalA_arg m c)⟩, h.2⟩) (Cert.RunBack.run_main m ρ)

end Program

section Twin

open Cert.ExchangeBackIdeal

set_option maxRecDepth 10000 in
/-- The same of the twin, whose text is the program's. -/
theorem run_twin (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v1) = m (((Cert.RunBack.peer c).tc : Thread nD τ).loc main_arg0))
      ∧ (r.2.mem ((c.tc : Thread nD τ).loc main_arg0) = m ((c.tc : Thread nD τ).loc main_arg0)))
      ∧ r.2.sem = fun _ => 0 := by
  rw [defs_eq]
  exact run_program (F := F) m ρ

end Twin

theorem frame_program : Cert.quiescent_ExchangeBack := fun m ρ _ =>
  (θ_run Cert.ExchangeBack.defs _ _).mono (fun r h => ⟨fun c => (h.1 c).2, h.2⟩) (run_program m ρ)
theorem frame_twin : Cert.quiescent_ExchangeBackIdeal := fun m ρ _ =>
  (θ_run Cert.ExchangeBackIdeal.defs _ _).mono (fun r h => ⟨fun c => (h.1 c).2, h.2⟩) (run_twin m ρ)
theorem frame_reference : Cert.quiescent_SwapBackIdeal := fun m ρ _ =>
  (θ_run Cert.SwapBackIdeal.defs _ _).mono (fun r h => ⟨fun c => (h c).2, sem_eq_zero_of_no_sems (by decide) r.2⟩)
    (Cert.SwapBackIdeal.Value.run m ρ)

/-- Each device's result is its block of the reference's. -/
theorem values : Cert.algebraic_ExchangeBackIdeal_SwapBackIdeal := by
  intro m g m' g' _ hm
  refine ⟨_, (θ_run Cert.ExchangeBackIdeal.defs _ _).mono (fun r h c => ⟨?_, (h.1 c).2⟩) (run_twin m g),
    (θ_run Cert.SwapBackIdeal.defs _ _).mono (fun r h => h 0) (Cert.SwapBackIdeal.Value.run m' g')⟩
  exact ((h.1 c).1.trans (hm (Cert.RunBack.peer c))).trans (block_swapped c _ _ _ _ _)

end Cert.ClaimsBack

end
-- ==== Proof.ExpertsRun.lean ====
/-
  One grid point of the perceptron kernel. At each point the body keeps the two cast weight blocks in scratch, multiplies a
  tile of rows through them, and adds the product to that tile's rows of the accumulator; the last block of the hidden
  axis also stores the tile's total. The six theorems run the body in its six cases: the first tile or the second, and
  the first, a middle or the last block of the hidden axis.
-/
module

public import proofs.«01_k».proof.Proof.Gen.ExpertsIdeal.Launch
public import proofs.«01_k».proof.Proof.Gen.ExpertsIdeal.Skeleton
public import proofs.«01_k».proof.Proof.Gen.ExpertsIdeal.Points
public import Idealize.ShloMosaic.Lib.Pipeline.FrameBody
public import Idealize.ShloMosaic.Lib.VecWindow
public import Idealize.ShloMosaic.Lib.Ring
public import Idealize.ShloMosaic.Lib.Tactic

@[expose] public section

set_option maxRecDepth 16384

noncomputable section

namespace Cert.ExpertsIdeal.Run

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is its pair's first: the body casts the weight blocks here. -/
abbrev casts (i : grid0.Coords) : Prop :=
  Scalar.cmpi .ne (Scalar.extui (Scalar.cmpi .eq (BitVec.ofNat 32 (i 2).val) 0#32) : BitVec 32) 0#32 = 1#1

/-- The rows of tile `k` lie inside the accumulator. -/
theorem rows_inb (k : ℕ) (hk : k < 2) : ∀ a, (![320 * k, 0] : Fin 2 → ℕ) a + S320x2048.size a ≤ S640x2048.size a :=
  Fin.forall_fin_two.mpr ⟨by show 320 * k + 320 ≤ 640; omega, by show 0 + 2048 ≤ 2048; omega⟩

/-- The accumulator's rows of tile `k`. -/
def rows (C : Vec F S640x2048 .f32) (k : ℕ) (hk : k < 2) : Vec F S320x2048 .f32 :=
  VecWindow.window C ![320 * k, 0] S320x2048.size (rows_inb k hk)

/-- The accumulator with the rows of tile `k` replaced. -/
def setRows (C : Vec F S640x2048 .f32) (k : ℕ) (v : Vec F S320x2048 .f32) : Vec F S640x2048 .f32 :=
  VecWindow.put C ![320 * k, 0] S320x2048.size v

theorem rows_setRows (C : Vec F S640x2048 .f32) (k : ℕ) (hk : k < 2) (v : Vec F S320x2048 .f32) : rows (setRows C k v) k hk = v :=
  VecWindow.window_put_same _ _ _ _ _

theorem rows_setRows_other (C : Vec F S640x2048 .f32) (k j : ℕ) (hj : j < 2) (hk : k < 2) (h : j ≠ k) (v : Vec F S320x2048 .f32) :
    rows (setRows C k v) j hj = rows C j hj :=
  VecWindow.window_put_of_disjoint C ![320 * k, 0] S320x2048.size ![320 * j, 0] S320x2048.size (rows_inb j hj) v (0 : Fin 2)
    (by show 320 * j + 320 ≤ 320 * k ∨ 320 * k + 320 ≤ 320 * j; omega)

/-- Rows read back right after they were written hold what was written. -/
theorem readCov_same [∀ e, Nonempty (Elt F e)] (v : View sig .tc .vmem S640x2048 .f32) {off off' o : Fin 2 → ℕ} (h : off = o) (h' : off' = o)
    {inb : ∀ a, off a + S320x2048.size a ≤ S640x2048.size a} {inb' : ∀ a, off' a + S320x2048.size a ≤ S640x2048.size a} (w : Vec F S320x2048 .f32) :
    (v.readCov (Val := Elt F) [⟨Rect.unit (s := S640x2048) off S320x2048.size inb, w⟩] (Rect.unit (s := S640x2048) off' S320x2048.size inb').toLoadRect : Vec F S320x2048 .f32) = w := by
  subst h; subst h'
  unfold View.readCov
  rw [View.readAt_unit v _ inb' rfl inb', View.read_writes_cons_put v _ inb w [] rfl]
  exact VecWindow.window_put_same _ _ _ _ _

/-- The grid's last coordinate numbers one of two tiles. -/
theorem tile_lt (i : grid0.Coords) : (i 2).val < 2 := (i 2).isLt

set_option maxHeartbeats 1000000 in
/-- The body at the first tile and the first block of the hidden axis. -/
theorem start_first (c : Dev nD) (i : grid0.Coords) (arg3 : Memref sig .tc .vmem S1x320x2048 .bf16) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S1x320x2048 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S640x2048 .f32) (harg9 : arg9.IsWhole)
    (h1 : casts i) (h2 : k0_cond2 i = 1#1) (h3 : ¬k0_cond3 i = 1#1) (h4 : ¬k0_cond4 i = 1#1)
    (x3 : Vec F S1x320x2048 .bf16) (x4 : Vec F S1x2048x1024 .f32) (x5 : Vec F S1x1024x2048 .f32) (x6 : Vec F S1x320x2048 .bf16)
    (A : Vec F S2048x1024 .bf16) (B : Vec F S1024x2048 .bf16) (C : Vec F S640x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare C
      ∗ (iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare (k0_pay1 x4) ∗ owns (c : Thread nD τ) arg8 fullShare (k0_pay2 x5) ∗ owns (c : Thread nD τ) arg9 fullShare (setRows C (i 2).val (k0_pay4 x3 (k0_pay1 x4) (k0_pay2 x5)))) -∗ K ⟨⟩))
      ⊢ wp frame (wpE (defs₀ (F := F)) Variants.none c none) E (cc0_body i arg3 harg3 arg4 harg4 arg5 harg5 arg6 harg6 arg7 harg7 arg8 harg8 arg9 harg9) K := by
  have e3 : View.readAt (Elt F) arg3.view (Rect.unit (s := S1x320x2048) ![0, 0, 0] S1x320x2048.size inb_S1x320x2048_S1x320x2048_0_0_0).toLoadRect (harg3.unread x3) = x3 := by
    rw [View.readAt_full, harg3.read_unread]
  have e4 : View.readAt (Elt F) arg4.view (Rect.unit (s := S1x2048x1024) ![0, 0, 0] S1x2048x1024.size inb_S1x2048x1024_S1x2048x1024_0_0_0).toLoadRect (harg4.unread x4) = x4 := by
    rw [View.readAt_full, harg4.read_unread]
  have e5 : View.readAt (Elt F) arg5.view (Rect.unit (s := S1x1024x2048) ![0, 0, 0] S1x1024x2048.size inb_S1x1024x2048_S1x1024x2048_0_0_0).toLoadRect (harg5.unread x5) = x5 := by
    rw [View.readAt_full, harg5.read_unread]
  simp only [cc0_body_eq_skeleton]; unfold cc0_body_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | sl_exact h1 | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    exact harg6.read_unread _
  isplitl [H7]
  · iexists _; isplitr
    swap; · iexact H7
    ipureintro
    unfold start_first.sl.H7_1
    exact View.read_writes_full _ _ _ _ _
  isplitl [H8]
  · iexists _; isplitr
    swap; · iexact H8
    ipureintro
    unfold start_first.sl.H8_1
    exact View.read_writes_full _ _ _ _ _
  iexists _; isplitr
  swap; · iexact H9
  ipureintro
  unfold start_first.sl.v5 start_first.sl.v10 start_first.sl.H7_1 start_first.sl.H8_1
  rw [View.readCov_full, View.readCov_full, View.read_writes_cons_put _ _ _ _ _ (k0_off1_eq i), View.writes_nil, harg9.read_unread]
  rfl

set_option maxHeartbeats 1000000 in
/-- The body at the first tile and a middle block of the hidden axis. -/
theorem middle_first (c : Dev nD) (i : grid0.Coords) (arg3 : Memref sig .tc .vmem S1x320x2048 .bf16) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S1x320x2048 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S640x2048 .f32) (harg9 : arg9.IsWhole)
    (h1 : casts i) (h2 : ¬k0_cond2 i = 1#1) (h3 : k0_cond3 i = 1#1) (h4 : ¬k0_cond4 i = 1#1)
    (x3 : Vec F S1x320x2048 .bf16) (x4 : Vec F S1x2048x1024 .f32) (x5 : Vec F S1x1024x2048 .f32) (x6 : Vec F S1x320x2048 .bf16)
    (A : Vec F S2048x1024 .bf16) (B : Vec F S1024x2048 .bf16) (C : Vec F S640x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare C
      ∗ (iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare (k0_pay1 x4) ∗ owns (c : Thread nD τ) arg8 fullShare (k0_pay2 x5) ∗ owns (c : Thread nD τ) arg9 fullShare (setRows C (i 2).val (k0_pay5 x3 (k0_pay1 x4) (k0_pay2 x5) (rows C (i 2).val (tile_lt i))))) -∗ K ⟨⟩))
      ⊢ wp frame (wpE (defs₀ (F := F)) Variants.none c none) E (cc0_body i arg3 harg3 arg4 harg4 arg5 harg5 arg6 harg6 arg7 harg7 arg8 harg8 arg9 harg9) K := by
  have e3 : View.readAt (Elt F) arg3.view (Rect.unit (s := S1x320x2048) ![0, 0, 0] S1x320x2048.size inb_S1x320x2048_S1x320x2048_0_0_0).toLoadRect (harg3.unread x3) = x3 := by
    rw [View.readAt_full, harg3.read_unread]
  have e4 : View.readAt (Elt F) arg4.view (Rect.unit (s := S1x2048x1024) ![0, 0, 0] S1x2048x1024.size inb_S1x2048x1024_S1x2048x1024_0_0_0).toLoadRect (harg4.unread x4) = x4 := by
    rw [View.readAt_full, harg4.read_unread]
  have e5 : View.readAt (Elt F) arg5.view (Rect.unit (s := S1x1024x2048) ![0, 0, 0] S1x1024x2048.size inb_S1x1024x2048_S1x1024x2048_0_0_0).toLoadRect (harg5.unread x5) = x5 := by
    rw [View.readAt_full, harg5.read_unread]
  simp only [cc0_body_eq_skeleton]; unfold cc0_body_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | sl_exact h1 | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    exact harg6.read_unread _
  isplitl [H7]
  · iexists _; isplitr
    swap; · iexact H7
    ipureintro
    unfold middle_first.sl.H7_1
    exact View.read_writes_full _ _ _ _ _
  isplitl [H8]
  · iexists _; isplitr
    swap; · iexact H8
    ipureintro
    unfold middle_first.sl.H8_1
    exact View.read_writes_full _ _ _ _ _
  iexists _; isplitr
  swap; · iexact H9
  ipureintro
  unfold middle_first.sl.v5 middle_first.sl.v10 middle_first.sl.H7_1 middle_first.sl.H8_1
  rw [View.readCov_full, View.readCov_full, View.read_writes_cons_put _ _ _ _ _ (k0_off2_eq i), View.writes_nil, harg9.read_unread]
  rw [View.readAt_unit _ _ _ (k0_off2_eq i) (rows_inb (i 2).val (tile_lt i)), harg9.read_unread]
  rfl

set_option maxHeartbeats 1000000 in
/-- The body at the first tile and the last block of the hidden axis. -/
theorem finish_first (c : Dev nD) (i : grid0.Coords) (arg3 : Memref sig .tc .vmem S1x320x2048 .bf16) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S1x320x2048 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S640x2048 .f32) (harg9 : arg9.IsWhole)
    (h1 : casts i) (h2 : ¬k0_cond2 i = 1#1) (h3 : k0_cond3 i = 1#1) (h4 : k0_cond4 i = 1#1)
    (x3 : Vec F S1x320x2048 .bf16) (x4 : Vec F S1x2048x1024 .f32) (x5 : Vec F S1x1024x2048 .f32) (x6 : Vec F S1x320x2048 .bf16)
    (A : Vec F S2048x1024 .bf16) (B : Vec F S1024x2048 .bf16) (C : Vec F S640x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare C
      ∗ (iprop(owns (c : Thread nD τ) arg3 fullShare x3 ∗ owns (c : Thread nD τ) arg4 fullShare x4 ∗ owns (c : Thread nD τ) arg5 fullShare x5 ∗ owns (c : Thread nD τ) arg6 fullShare (k0_pay6 (k0_pay5 x3 (k0_pay1 x4) (k0_pay2 x5) (rows C (i 2).val (tile_lt i))))
      ∗ owns (c : Thread nD τ) arg7 fullShare (k0_pay1 x4) ∗ owns (c : Thread nD τ) arg8 fullShare (k0_pay2 x5) ∗ owns (c : Thread nD τ) arg9 fullShare (setRows C (i 2).val (k0_pay5 x3 (k0_pay1 x4) (k0_pay2 x5) (rows C (i 2).val (tile_lt i))))) -∗ K ⟨⟩))
      ⊢ wp frame (wpE (defs₀ (F := F)) Variants.none c none) E (cc0_body i arg3 harg3 arg4 harg4 arg5 harg5 arg6 harg6 arg7 harg7 arg8 harg8 arg9 harg9) K := by
  have e3 : View.readAt (Elt F) arg3.view (Rect.unit (s := S1x320x2048) ![0, 0, 0] S1x320x2048.size inb_S1x320x2048_S1x320x2048_0_0_0).toLoadRect (harg3.unread x3) = x3 := by
    rw [View.readAt_full, harg3.read_unread]
  have e4 : View.readAt (Elt F) arg4.view (Rect.unit (s := S1x2048x1024) ![0, 0, 0] S1x2048x1024.size inb_S1x2048x1024_S1x2048x1024_0_0_0).toLoadRect (harg4.unread x4) = x4 := by
    rw [View.readAt_full, harg4.read_unread]
  have e5 : View.readAt (Elt F) arg5.view (Rect.unit (s := S1x1024x2048) ![0, 0, 0] S1x1024x2048.size inb_S1x1024x2048_S1x1024x2048_0_0_0).toLoadRect (harg5.unread x5) = x5 := by
    rw [View.readAt_full, harg5.read_unread]
  simp only [cc0_body_eq_skeleton]; unfold cc0_body_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | sl_exact h1 | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_full]
    unfold finish_first.sl.v23 finish_first.sl.H9_1
    unfold finish_first.sl.v5 finish_first.sl.v10 finish_first.sl.H7_1 finish_first.sl.H8_1
    rw [readCov_same _ (k0_off2_eq i) (k0_off3_eq i), View.readCov_full, View.readCov_full, View.readAt_unit _ _ _ (k0_off2_eq i) (rows_inb (i 2).val (tile_lt i)), harg9.read_unread]
    rfl
  isplitl [H7]
  · iexists _; isplitr
    swap; · iexact H7
    ipureintro
    unfold finish_first.sl.H7_1
    exact View.read_writes_full _ _ _ _ _
  isplitl [H8]
  · iexists _; isplitr
    swap; · iexact H8
    ipureintro
    unfold finish_first.sl.H8_1
    exact View.read_writes_full _ _ _ _ _
  iexists _; isplitr
  swap; · iexact H9
  ipureintro
  unfold finish_first.sl.H9_1
  unfold finish_first.sl.v5 finish_first.sl.v10 finish_first.sl.H7_1 finish_first.sl.H8_1
  rw [View.readCov_full, View.readCov_full, View.read_writes_cons_put _ _ _ _ _ (k0_off2_eq i), View.writes_nil, harg9.read_unread]
  rw [View.readAt_unit _ _ _ (k0_off2_eq i) (rows_inb (i 2).val (tile_lt i)), harg9.read_unread]
  rfl

set_option maxHeartbeats 1000000 in
/-- The body at the second tile and the first block of the hidden axis. -/
theorem start_second (c : Dev nD) (i : grid0.Coords) (arg3 : Memref sig .tc .vmem S1x320x2048 .bf16) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S1x320x2048 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S640x2048 .f32) (harg9 : arg9.IsWhole)
    (h1 : ¬casts i) (h2 : k0_cond2 i = 1#1) (h3 : ¬k0_cond3 i = 1#1) (h4 : ¬k0_cond4 i = 1#1)
    (x3 : Vec F S1x320x2048 .bf16) (x4 : Vec F S1x2048x1024 .f32) (x5 : Vec F S1x1024x2048 .f32) (x6 : Vec F S1x320x2048 .bf16)
    (A : Vec F S2048x1024 .bf16) (B : Vec F S1024x2048 .bf16) (C : Vec F S640x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare C
      ∗ (iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare (setRows C (i 2).val (k0_pay4 x3 A B))) -∗ K ⟨⟩))
      ⊢ wp frame (wpE (defs₀ (F := F)) Variants.none c none) E (cc0_body i arg3 harg3 arg4 harg4 arg5 harg5 arg6 harg6 arg7 harg7 arg8 harg8 arg9 harg9) K := by
  have e3 : View.readAt (Elt F) arg3.view (Rect.unit (s := S1x320x2048) ![0, 0, 0] S1x320x2048.size inb_S1x320x2048_S1x320x2048_0_0_0).toLoadRect (harg3.unread x3) = x3 := by
    rw [View.readAt_full, harg3.read_unread]
  have e4 : View.readAt (Elt F) arg4.view (Rect.unit (s := S1x2048x1024) ![0, 0, 0] S1x2048x1024.size inb_S1x2048x1024_S1x2048x1024_0_0_0).toLoadRect (harg4.unread x4) = x4 := by
    rw [View.readAt_full, harg4.read_unread]
  have e5 : View.readAt (Elt F) arg5.view (Rect.unit (s := S1x1024x2048) ![0, 0, 0] S1x1024x2048.size inb_S1x1024x2048_S1x1024x2048_0_0_0).toLoadRect (harg5.unread x5) = x5 := by
    rw [View.readAt_full, harg5.read_unread]
  have eA : View.readAt (Elt F) arg7.view (Rect.unit (s := S2048x1024) ![0, 0] S2048x1024.size inb_S2048x1024_S2048x1024_0_0).toLoadRect (harg7.unread A) = A := by
    rw [View.readAt_full, harg7.read_unread]
  have eB : View.readAt (Elt F) arg8.view (Rect.unit (s := S1024x2048) ![0, 0] S1024x2048.size inb_S1024x2048_S1024x2048_0_0).toLoadRect (harg8.unread B) = B := by
    rw [View.readAt_full, harg8.read_unread]
  simp only [cc0_body_eq_skeleton]; unfold cc0_body_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | sl_exact h1 | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    exact harg6.read_unread _
  isplitl [H7]
  · iexists _; isplitr
    swap; · iexact H7
    ipureintro
    exact harg7.read_unread _
  isplitl [H8]
  · iexists _; isplitr
    swap; · iexact H8
    ipureintro
    exact harg8.read_unread _
  iexists _; isplitr
  swap; · iexact H9
  ipureintro
  rw [View.read_writes_cons_put _ _ _ _ _ (k0_off1_eq i), View.writes_nil, harg9.read_unread]
  rfl

set_option maxHeartbeats 1000000 in
/-- The body at the second tile and a middle block of the hidden axis. -/
theorem middle_second (c : Dev nD) (i : grid0.Coords) (arg3 : Memref sig .tc .vmem S1x320x2048 .bf16) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S1x320x2048 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S640x2048 .f32) (harg9 : arg9.IsWhole)
    (h1 : ¬casts i) (h2 : ¬k0_cond2 i = 1#1) (h3 : k0_cond3 i = 1#1) (h4 : ¬k0_cond4 i = 1#1)
    (x3 : Vec F S1x320x2048 .bf16) (x4 : Vec F S1x2048x1024 .f32) (x5 : Vec F S1x1024x2048 .f32) (x6 : Vec F S1x320x2048 .bf16)
    (A : Vec F S2048x1024 .bf16) (B : Vec F S1024x2048 .bf16) (C : Vec F S640x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare C
      ∗ (iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare (setRows C (i 2).val (k0_pay5 x3 A B (rows C (i 2).val (tile_lt i))))) -∗ K ⟨⟩))
      ⊢ wp frame (wpE (defs₀ (F := F)) Variants.none c none) E (cc0_body i arg3 harg3 arg4 harg4 arg5 harg5 arg6 harg6 arg7 harg7 arg8 harg8 arg9 harg9) K := by
  have e3 : View.readAt (Elt F) arg3.view (Rect.unit (s := S1x320x2048) ![0, 0, 0] S1x320x2048.size inb_S1x320x2048_S1x320x2048_0_0_0).toLoadRect (harg3.unread x3) = x3 := by
    rw [View.readAt_full, harg3.read_unread]
  have e4 : View.readAt (Elt F) arg4.view (Rect.unit (s := S1x2048x1024) ![0, 0, 0] S1x2048x1024.size inb_S1x2048x1024_S1x2048x1024_0_0_0).toLoadRect (harg4.unread x4) = x4 := by
    rw [View.readAt_full, harg4.read_unread]
  have e5 : View.readAt (Elt F) arg5.view (Rect.unit (s := S1x1024x2048) ![0, 0, 0] S1x1024x2048.size inb_S1x1024x2048_S1x1024x2048_0_0_0).toLoadRect (harg5.unread x5) = x5 := by
    rw [View.readAt_full, harg5.read_unread]
  have eA : View.readAt (Elt F) arg7.view (Rect.unit (s := S2048x1024) ![0, 0] S2048x1024.size inb_S2048x1024_S2048x1024_0_0).toLoadRect (harg7.unread A) = A := by
    rw [View.readAt_full, harg7.read_unread]
  have eB : View.readAt (Elt F) arg8.view (Rect.unit (s := S1024x2048) ![0, 0] S1024x2048.size inb_S1024x2048_S1024x2048_0_0).toLoadRect (harg8.unread B) = B := by
    rw [View.readAt_full, harg8.read_unread]
  simp only [cc0_body_eq_skeleton]; unfold cc0_body_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | sl_exact h1 | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    exact harg6.read_unread _
  isplitl [H7]
  · iexists _; isplitr
    swap; · iexact H7
    ipureintro
    exact harg7.read_unread _
  isplitl [H8]
  · iexists _; isplitr
    swap; · iexact H8
    ipureintro
    exact harg8.read_unread _
  iexists _; isplitr
  swap; · iexact H9
  ipureintro
  rw [View.read_writes_cons_put _ _ _ _ _ (k0_off2_eq i), View.writes_nil, harg9.read_unread]
  rw [View.readAt_unit _ _ _ (k0_off2_eq i) (rows_inb (i 2).val (tile_lt i)), harg9.read_unread]
  rfl

set_option maxHeartbeats 1000000 in
/-- The body at the second tile and the last block of the hidden axis. -/
theorem finish_second (c : Dev nD) (i : grid0.Coords) (arg3 : Memref sig .tc .vmem S1x320x2048 .bf16) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S1x320x2048 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S640x2048 .f32) (harg9 : arg9.IsWhole)
    (h1 : ¬casts i) (h2 : ¬k0_cond2 i = 1#1) (h3 : k0_cond3 i = 1#1) (h4 : k0_cond4 i = 1#1)
    (x3 : Vec F S1x320x2048 .bf16) (x4 : Vec F S1x2048x1024 .f32) (x5 : Vec F S1x1024x2048 .f32) (x6 : Vec F S1x320x2048 .bf16)
    (A : Vec F S2048x1024 .bf16) (B : Vec F S1024x2048 .bf16) (C : Vec F S640x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare A ∗ owns (c : Thread nD τ) arg8 fullShare B ∗ owns (c : Thread nD τ) arg9 fullShare C
      ∗ (iprop(owns (c : Thread nD τ) arg3 fullShare x3 ∗ owns (c : Thread nD τ) arg4 fullShare x4 ∗ owns (c : Thread nD τ) arg5 fullShare x5 ∗ owns (c : Thread nD τ) arg6 fullShare (k0_pay6 (k0_pay5 x3 A B (rows C (i 2).val (tile_lt i))))
      ∗ owns (c : Thread nD τ) arg7 fullShare A ∗ owns (c : Thread nD τ) arg8 fullShare B ∗ owns (c : Thread nD τ) arg9 fullShare (setRows C (i 2).val (k0_pay5 x3 A B (rows C (i 2).val (tile_lt i))))) -∗ K ⟨⟩))
      ⊢ wp frame (wpE (defs₀ (F := F)) Variants.none c none) E (cc0_body i arg3 harg3 arg4 harg4 arg5 harg5 arg6 harg6 arg7 harg7 arg8 harg8 arg9 harg9) K := by
  have e3 : View.readAt (Elt F) arg3.view (Rect.unit (s := S1x320x2048) ![0, 0, 0] S1x320x2048.size inb_S1x320x2048_S1x320x2048_0_0_0).toLoadRect (harg3.unread x3) = x3 := by
    rw [View.readAt_full, harg3.read_unread]
  have e4 : View.readAt (Elt F) arg4.view (Rect.unit (s := S1x2048x1024) ![0, 0, 0] S1x2048x1024.size inb_S1x2048x1024_S1x2048x1024_0_0_0).toLoadRect (harg4.unread x4) = x4 := by
    rw [View.readAt_full, harg4.read_unread]
  have e5 : View.readAt (Elt F) arg5.view (Rect.unit (s := S1x1024x2048) ![0, 0, 0] S1x1024x2048.size inb_S1x1024x2048_S1x1024x2048_0_0_0).toLoadRect (harg5.unread x5) = x5 := by
    rw [View.readAt_full, harg5.read_unread]
  have eA : View.readAt (Elt F) arg7.view (Rect.unit (s := S2048x1024) ![0, 0] S2048x1024.size inb_S2048x1024_S2048x1024_0_0).toLoadRect (harg7.unread A) = A := by
    rw [View.readAt_full, harg7.read_unread]
  have eB : View.readAt (Elt F) arg8.view (Rect.unit (s := S1024x2048) ![0, 0] S1024x2048.size inb_S1024x2048_S1024x2048_0_0).toLoadRect (harg8.unread B) = B := by
    rw [View.readAt_full, harg8.read_unread]
  simp only [cc0_body_eq_skeleton]; unfold cc0_body_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | sl_exact h1 | sl_exact h2 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_full]
    unfold finish_second.sl.v23 finish_second.sl.H9_1
    rw [readCov_same _ (k0_off2_eq i) (k0_off3_eq i), View.readAt_unit _ _ _ (k0_off2_eq i) (rows_inb (i 2).val (tile_lt i)), harg9.read_unread]
    rfl
  isplitl [H7]
  · iexists _; isplitr
    swap; · iexact H7
    ipureintro
    exact harg7.read_unread _
  isplitl [H8]
  · iexists _; isplitr
    swap; · iexact H8
    ipureintro
    exact harg8.read_unread _
  iexists _; isplitr
  swap; · iexact H9
  ipureintro
  unfold finish_second.sl.H9_1
  rw [View.read_writes_cons_put _ _ _ _ _ (k0_off2_eq i), View.writes_nil, harg9.read_unread]
  rw [View.readAt_unit _ _ _ (k0_off2_eq i) (rows_inb (i 2).val (tile_lt i)), harg9.read_unread]
  rfl

end Cert.ExpertsIdeal.Run

end
-- ==== Proof.ExpertsFrame.lean ====
/-
  The perceptron kernel over its whole grid. The invariant between points says what the scratch holds: after a pair's
  first point the two cast weight blocks, and in the accumulator, for each of the two tiles, the total over the blocks
  of the hidden axis met so far. The output window is held to a predicate that speaks only of the last block of the
  hidden axis, where the body stores the tile's total; at the other points the window is written back with whatever it
  holds, and a later write-back of the same tile replaces it.
-/
module

public import proofs.«01_k».proof.Proof.ExpertsRun
public import Idealize.ShloMosaic.Lib.Pipeline.DatRel
public import Idealize.ShloMosaic.Lib.Pipeline.ArrRel

@[expose] public section

set_option maxRecDepth 16384

noncomputable section

namespace Cert.ExpertsIdeal.Run

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel is entered. -/
abbrev entry (c : Dev nD) (b : Ref sig .tc) : Buf (Elt F) ((c : Thread nD τ).loc b) := m ((c : Thread nD τ).loc b)

theorem entered (𝒱₀ : Variants) : Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- Window `w`'s block at point `t`, read off its array. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## The conditions of the body, by the number of the point -/

theorem casts_iff : ∀ t : Fin cfg0.N, casts (grid0.coords t) ↔ t.val % 2 = 0 := by decide +kernel
theorem cond2_iff : ∀ t : Fin cfg0.N, k0_cond2 (grid0.coords t) = 1#1 ↔ t.val % 8 < 2 := by decide +kernel
theorem cond3_iff : ∀ t : Fin cfg0.N, k0_cond3 (grid0.coords t) = 1#1 ↔ ¬t.val % 8 < 2 := by decide +kernel
theorem cond4_iff : ∀ t : Fin cfg0.N, k0_cond4 (grid0.coords t) = 1#1 ↔ 6 ≤ t.val % 8 := by decide +kernel
theorem tile_eq : ∀ t : Fin cfg0.N, (grid0.coords t 2).val = t.val % 2 := by decide +kernel

/-! ## What the scratch holds -/

/-- The first point of `t`'s pair. -/
def lead (t : Fin cfg0.N) : Fin cfg0.N := ⟨t.val - t.val % 2, Nat.lt_of_le_of_lt (Nat.sub_le _ _) t.isLt⟩

theorem lead_of_even (t : Fin cfg0.N) (h : t.val % 2 = 0) : lead t = t := Fin.ext (by show t.val - t.val % 2 = t.val; omega)

/-- The two weight blocks of `t`'s pair, cast. -/
def castA (c : Dev nD) (t : Fin cfg0.N) : Vec F S2048x1024 .bf16 := k0_pay1 (blk m c 1 (lead t))
def castB (c : Dev nD) (t : Fin cfg0.N) : Vec F S1024x2048 .bf16 := k0_pay2 (blk m c 2 (lead t))

/-- The tile's total after point `n`: the products of the blocks of the hidden axis met so far, added in order. -/
def total (c : Dev nD) : (n : ℕ) → n < cfg0.N → Vec F S320x2048 .f32
  | 0, h => k0_pay4 (blk m c 0 ⟨0, h⟩) (castA m c ⟨0, h⟩) (castB m c ⟨0, h⟩)
  | 1, h => k0_pay4 (blk m c 0 ⟨1, h⟩) (castA m c ⟨1, h⟩) (castB m c ⟨1, h⟩)
  | n + 2, h =>
    if (n + 2) % 8 < 2 then k0_pay4 (blk m c 0 ⟨n + 2, h⟩) (castA m c ⟨n + 2, h⟩) (castB m c ⟨n + 2, h⟩)
    else k0_pay5 (blk m c 0 ⟨n + 2, h⟩) (castA m c ⟨n + 2, h⟩) (castB m c ⟨n + 2, h⟩)
      (total c n (Nat.lt_of_le_of_lt (Nat.le_add_right n 2) h))

theorem total_first (c : Dev nD) (t : Fin cfg0.N) (h : t.val % 8 < 2) :
    total m c t.val t.isLt = k0_pay4 (blk m c 0 t) (castA m c t) (castB m c t) := by
  obtain ⟨n, hn⟩ := t
  match n, hn, h with
  | 0, _, _ => rw [total]
  | 1, _, _ => rw [total]
  | n + 2, _, h => rw [total]; exact if_pos h

theorem total_next (c : Dev nD) (t : Fin cfg0.N) (h : ¬t.val % 8 < 2) (h' : t.val - 2 < cfg0.N) :
    total m c t.val t.isLt = k0_pay5 (blk m c 0 t) (castA m c t) (castB m c t) (total m c (t.val - 2) h') := by
  obtain ⟨n, hn⟩ := t
  match n, hn, h, h' with
  | 0, _, h, _ => exact absurd (show 0 % 8 < 2 by decide) h
  | 1, _, h, _ => exact absurd (show 1 % 8 < 2 by decide) h
  | n + 2, _, h, _ => rw [total]; exact if_neg h

/-- What the scratch holds before point `n`. -/
structure Inv (c : Dev nD) (n : ℕ) (A : Vec F S2048x1024 .bf16) (B : Vec F S1024x2048 .bf16) (C : Vec F S640x2048 .f32) : Prop where
  weights : ∀ t : Fin cfg0.N, t.val = n → t.val % 2 = 1 → A = castA m c t ∧ B = castB m c t
  totals : ∀ k (hk : k < cfg0.N), k < n → n ≤ k + 2 → rows C (k % 2) (Nat.mod_lt _ (by decide)) = total m c k hk

variable {m}

theorem rows_congr (C : Vec F S640x2048 .f32) (j k : ℕ) (hj : j < 2) (hk : k < 2) (h : j = k) : rows C j hj = rows C k hk := by
  subst h; rfl

theorem Inv.start (c : Dev nD) (A : Vec F S2048x1024 .bf16) (B : Vec F S1024x2048 .bf16) (C : Vec F S640x2048 .f32) : Inv m c 0 A B C :=
  ⟨fun t h h' => absurd h' (by omega), fun k _ h => absurd h (Nat.not_lt_zero k)⟩

theorem Inv.step {c : Dev nD} {t : Fin cfg0.N} {A : Vec F S2048x1024 .bf16} {B : Vec F S1024x2048 .bf16} {C : Vec F S640x2048 .f32}
    (h : Inv m c t.val A B C) : Inv m c (t.val + 1) (castA m c t) (castB m c t) (setRows C (t.val % 2) (total m c t.val t.isLt)) where
  weights u hu hodd := by
    have e : lead u = lead t := Fin.ext (by show u.val - u.val % 2 = t.val - t.val % 2; omega)
    exact ⟨by unfold castA; rw [e], by unfold castB; rw [e]⟩
  totals k hk hlt hle := by
    by_cases e : k = t.val
    · subst e
      exact rows_setRows C _ _ _
    · rw [rows_setRows_other C (t.val % 2) (k % 2) (Nat.mod_lt _ (by decide)) (Nat.mod_lt _ (by decide)) (by omega)]
      exact h.totals k hk (by omega) (by omega)

theorem Inv.before {c : Dev nD} {t : Fin cfg0.N} {A : Vec F S2048x1024 .bf16} {B : Vec F S1024x2048 .bf16} {C : Vec F S640x2048 .f32}
    (h : Inv m c t.val A B C) (hf : ¬t.val % 8 < 2) (k : ℕ) (hk : k < 2) (e : k = t.val % 2) (h' : t.val - 2 < cfg0.N) :
    rows C k hk = total m c (t.val - 2) h' := by
  rw [← h.totals (t.val - 2) h' (by omega) (by omega)]
  exact rows_congr C _ _ _ _ (by omega)

variable (m)

/-! ## The proof data -/

/-- The scratch, as memrefs. -/
abbrev wA : Memref sig .tc .vmem S2048x1024 .bf16 := Memref.whole cc0_scratch0
abbrev wB : Memref sig .tc .vmem S1024x2048 .bf16 := Memref.whole cc0_scratch1
abbrev wC : Memref sig .tc .vmem S640x2048 .f32 := Memref.whole cc0_scratch2

/-- The invariant before point `n`. -/
def Phi (c : Dev nD) (n : ℕ) : sProp 𝕄 :=
  iprop((∃ A B C, ⌜Inv m c n A B C⌝ ∗ owns (c : Thread nD τ) wA fullShare A ∗ owns (c : Thread nD τ) wB fullShare B ∗ owns (c : Thread nD τ) wC fullShare C)
    ∗ ∃ r, prngReg c r)

/-- The windows: each input's buffer at its block after the body, the output's unnamed. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => Pipeline.Dat.unnamed (cfg := cfg0) 3 t
  Φ n := Phi m c n.val
  q _ := fullShare
  owed _ := 0

/-- The output window alone is held to a predicate. -/
def held : Fin 4 → Bool := ![false, false, false, true]

/-- At the last block of the hidden axis the output's buffer holds the tile's total. -/
def Left (c : Dev nD) (w : Fin cfg0.W) (t : Fin cfg0.N) (X : (cfg0.win w).block.Idx → Elt F (cfg0.win w).elt) : Prop :=
  match w, X with
  | ⟨3, _⟩, X => 6 ≤ t.val % 8 → X = k0_pay6 (total m c t.val t.isLt)
  | _, _ => True

theorem A_eq (c : Dev nD) (w : Fin cfg0.W) : (dats m 0 c).A w = entry m c (Pipeline.arrRef spec0 w) := by dsimp only [dats]
theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]

theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-! ## The body at a point -/

abbrev ms (t : Fin cfg0.N) : Memref sig .tc .vmem S1x320x2048 .bf16 := win0_3.stage (cfg0.slots t 3)

/-- The data read with the output held to its predicate. -/
abbrev rdat (c : Dev nD) : RDat τ (Elt F) Unit ℕ (UR sig nD τ) ℕ cfg0 c := (dats m 0 c).toRRel held (Left m c)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜Left m c 3 t X⌝ ∗ owns (c : Thread nD τ) (st0_3 t) fullShare X))

/-- The pieces after the body, put together. -/
theorem gather (c : Dev nD) (t : Fin cfg0.N) {A : Vec F S2048x1024 .bf16} {B : Vec F S1024x2048 .bf16} {C : Vec F S640x2048 .f32} {X : Vec F S1x320x2048 .bf16}
    (hI : Inv m c (t.val + 1) A B C) (hX : 6 ≤ t.val % 8 → X = k0_pay6 (total m c t.val t.isLt)) :
    iprop((∃ r, prngReg c r) ∗ (dats m 0 c).owesAt () t.castSucc ∗ owns (c : Thread nD τ) (st0_0 t) fullShare (blk m c 0 t)
        ∗ owns (c : Thread nD τ) (st0_1 t) fullShare (blk m c 1 t) ∗ owns (c : Thread nD τ) (st0_2 t) fullShare (blk m c 2 t)
        ∗ owns (c : Thread nD τ) (st0_3 t) fullShare X
        ∗ owns (c : Thread nD τ) wA fullShare A ∗ owns (c : Thread nD τ) wB fullShare B ∗ owns (c : Thread nD τ) wC fullShare C)
      ⊢ bodyPost m c t := by
  unfold bodyPost
  simp only [after_0, after_1, after_2]
  rw [show (dats m 0 c).Φ t.succ = Phi m c (t.val + 1) from rfl, show (dats m 0 c).owesAt () t.succ = (dats m 0 c).owesAt () t.castSucc from rfl]
  unfold Phi
  iintro ⟨Hr, Ho, H0, H1, H2, H3, HA, HB, HC⟩
  isplitl [Hr HA HB HC]
  · isplitr [Hr]
    · iexists A, B, C
      isplitr; · ipureintro; exact hI
      isplitl [HA]; · iexact HA
      isplitl [HB]; · iexact HB
      iexact HC
    iexact Hr
  isplitl [Ho]; · iexact Ho
  isplitl [H0]; · iexact H0
  isplitl [H1]; · iexact H1
  isplitl [H2]; · iexact H2
  iexists X
  isplitr; · ipureintro; exact hX
  iexact H3

theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2]
  rw [show (dats m 0 c).Φ t.castSucc = Phi m c t.val from rfl]
  unfold Phi
  have hN : t.val < 32 := lt_of_lt_of_eq t.isLt (show cfg0.N = 32 from N_0)
  iintro ⟨⟨⟨%A, %B, %C, %hI, HA, HB, HC⟩, Hr⟩, Ho, ⟨%d0, H0⟩, ⟨%d1, H1⟩, ⟨%d2, H2⟩, ⟨%Y, -, H3⟩⟩
  by_cases h1 : t.val % 2 = 0
  · by_cases h2 : t.val % 8 < 2
    · have eA : castA m c t = k0_pay1 (blk m c 1 t) := by unfold castA; rw [lead_of_even t h1]
      have eB : castB m c t = k0_pay2 (blk m c 2 t) := by unfold castB; rw [lead_of_even t h1]
      have hT : (k0_pay4 (blk m c 0 t) (k0_pay1 (blk m c 1 t)) (k0_pay2 (blk m c 2 t))) = total m c t.val t.isLt := by
        rw [total_first m c t h2, eA, eB]
      have hI' := hI.step
      rw [eA, eB, ← hT, ← tile_eq t] at hI'
      iapply (start_first c (grid0.coords t) _ _ _ _ _ _ _ _ _ _ _ _ _ _ ((casts_iff t).2 h1) ((cond2_iff t).2 h2) (fun h => (cond3_iff t).1 h h2) (fun h => absurd ((cond4_iff t).1 h) (by omega))
        (blk m c 0 t) (blk m c 1 t) (blk m c 2 t) Y A B C Set.univ (fun _ => bodyPost m c t))
      isplitl [H0]; · iexact H0
      isplitl [H1]; · iexact H1
      isplitl [H2]; · iexact H2
      isplitl [H3]; · iexact H3
      isplitl [HA]; · iexact HA
      isplitl [HB]; · iexact HB
      isplitl [HC]; · iexact HC
      iintro ⟨H0, H1, H2, H3, HA, HB, HC⟩
      iapply (gather m c t hI' (fun h => absurd h (by omega)))
      isplitl [Hr]; · iexact Hr
      isplitl [Ho]; · iexact Ho
      isplitl [H0]; · iexact H0
      isplitl [H1]; · iexact H1
      isplitl [H2]; · iexact H2
      isplitl [H3]; · iexact H3
      isplitl [HA]; · iexact HA
      isplitl [HB]; · iexact HB
      iexact HC
    · by_cases h3 : 6 ≤ t.val % 8
      · have eA : castA m c t = k0_pay1 (blk m c 1 t) := by unfold castA; rw [lead_of_even t h1]
        have eB : castB m c t = k0_pay2 (blk m c 2 t) := by unfold castB; rw [lead_of_even t h1]
        have hT : (k0_pay5 (blk m c 0 t) (k0_pay1 (blk m c 1 t)) (k0_pay2 (blk m c 2 t)) (rows C (grid0.coords t 2).val (tile_lt _))) = total m c t.val t.isLt := by
          rw [hI.before h2 _ (tile_lt (grid0.coords t)) (tile_eq t) (Nat.lt_of_le_of_lt (Nat.sub_le _ _) t.isLt), total_next m c t h2 (Nat.lt_of_le_of_lt (Nat.sub_le _ _) t.isLt), eA, eB]
        have hI' := hI.step
        rw [eA, eB, ← hT, ← tile_eq t] at hI'
        iapply (finish_first c (grid0.coords t) _ _ _ _ _ _ _ _ _ _ _ _ _ _ ((casts_iff t).2 h1) (fun h => h2 ((cond2_iff t).1 h)) ((cond3_iff t).2 h2) ((cond4_iff t).2 h3)
          (blk m c 0 t) (blk m c 1 t) (blk m c 2 t) Y A B C Set.univ (fun _ => bodyPost m c t))
        isplitl [H0]; · iexact H0
        isplitl [H1]; · iexact H1
        isplitl [H2]; · iexact H2
        isplitl [H3]; · iexact H3
        isplitl [HA]; · iexact HA
        isplitl [HB]; · iexact HB
        isplitl [HC]; · iexact HC
        iintro ⟨H0, H1, H2, H3, HA, HB, HC⟩
        iapply (gather m c t hI' (fun _ => congrArg k0_pay6 hT))
        isplitl [Hr]; · iexact Hr
        isplitl [Ho]; · iexact Ho
        isplitl [H0]; · iexact H0
        isplitl [H1]; · iexact H1
        isplitl [H2]; · iexact H2
        isplitl [H3]; · iexact H3
        isplitl [HA]; · iexact HA
        isplitl [HB]; · iexact HB
        iexact HC
      · have eA : castA m c t = k0_pay1 (blk m c 1 t) := by unfold castA; rw [lead_of_even t h1]
        have eB : castB m c t = k0_pay2 (blk m c 2 t) := by unfold castB; rw [lead_of_even t h1]
        have hT : (k0_pay5 (blk m c 0 t) (k0_pay1 (blk m c 1 t)) (k0_pay2 (blk m c 2 t)) (rows C (grid0.coords t 2).val (tile_lt _))) = total m c t.val t.isLt := by
          rw [hI.before h2 _ (tile_lt (grid0.coords t)) (tile_eq t) (Nat.lt_of_le_of_lt (Nat.sub_le _ _) t.isLt), total_next m c t h2 (Nat.lt_of_le_of_lt (Nat.sub_le _ _) t.isLt), eA, eB]
        have hI' := hI.step
        rw [eA, eB, ← hT, ← tile_eq t] at hI'
        iapply (middle_first c (grid0.coords t) _ _ _ _ _ _ _ _ _ _ _ _ _ _ ((casts_iff t).2 h1) (fun h => h2 ((cond2_iff t).1 h)) ((cond3_iff t).2 h2) (fun h => h3 ((cond4_iff t).1 h))
          (blk m c 0 t) (blk m c 1 t) (blk m c 2 t) Y A B C Set.univ (fun _ => bodyPost m c t))
        isplitl [H0]; · iexact H0
        isplitl [H1]; · iexact H1
        isplitl [H2]; · iexact H2
        isplitl [H3]; · iexact H3
        isplitl [HA]; · iexact HA
        isplitl [HB]; · iexact HB
        isplitl [HC]; · iexact HC
        iintro ⟨H0, H1, H2, H3, HA, HB, HC⟩
        iapply (gather m c t hI' (fun h => absurd h h3))
        isplitl [Hr]; · iexact Hr
        isplitl [Ho]; · iexact Ho
        isplitl [H0]; · iexact H0
        isplitl [H1]; · iexact H1
        isplitl [H2]; · iexact H2
        isplitl [H3]; · iexact H3
        isplitl [HA]; · iexact HA
        isplitl [HB]; · iexact HB
        iexact HC
  · by_cases h2 : t.val % 8 < 2
    · obtain ⟨eA, eB⟩ := hI.weights t rfl (by omega)
      replace eA := eA.symm; replace eB := eB.symm
      have hT : (k0_pay4 (blk m c 0 t) A B) = total m c t.val t.isLt := by
        rw [total_first m c t h2, eA, eB]
      have hI' := hI.step
      rw [eA, eB, ← hT, ← tile_eq t] at hI'
      iapply (start_second c (grid0.coords t) _ _ _ _ _ _ _ _ _ _ _ _ _ _ (fun h => h1 ((casts_iff t).1 h)) ((cond2_iff t).2 h2) (fun h => (cond3_iff t).1 h h2) (fun h => absurd ((cond4_iff t).1 h) (by omega))
        (blk m c 0 t) (blk m c 1 t) (blk m c 2 t) Y A B C Set.univ (fun _ => bodyPost m c t))
      isplitl [H0]; · iexact H0
      isplitl [H1]; · iexact H1
      isplitl [H2]; · iexact H2
      isplitl [H3]; · iexact H3
      isplitl [HA]; · iexact HA
      isplitl [HB]; · iexact HB
      isplitl [HC]; · iexact HC
      iintro ⟨H0, H1, H2, H3, HA, HB, HC⟩
      iapply (gather m c t hI' (fun h => absurd h (by omega)))
      isplitl [Hr]; · iexact Hr
      isplitl [Ho]; · iexact Ho
      isplitl [H0]; · iexact H0
      isplitl [H1]; · iexact H1
      isplitl [H2]; · iexact H2
      isplitl [H3]; · iexact H3
      isplitl [HA]; · iexact HA
      isplitl [HB]; · iexact HB
      iexact HC
    · by_cases h3 : 6 ≤ t.val % 8
      · obtain ⟨eA, eB⟩ := hI.weights t rfl (by omega)
        replace eA := eA.symm; replace eB := eB.symm
        have hT : (k0_pay5 (blk m c 0 t) A B (rows C (grid0.coords t 2).val (tile_lt _))) = total m c t.val t.isLt := by
          rw [hI.before h2 _ (tile_lt (grid0.coords t)) (tile_eq t) (Nat.lt_of_le_of_lt (Nat.sub_le _ _) t.isLt), total_next m c t h2 (Nat.lt_of_le_of_lt (Nat.sub_le _ _) t.isLt), eA, eB]
        have hI' := hI.step
        rw [eA, eB, ← hT, ← tile_eq t] at hI'
        iapply (finish_second c (grid0.coords t) _ _ _ _ _ _ _ _ _ _ _ _ _ _ (fun h => h1 ((casts_iff t).1 h)) (fun h => h2 ((cond2_iff t).1 h)) ((cond3_iff t).2 h2) ((cond4_iff t).2 h3)
          (blk m c 0 t) (blk m c 1 t) (blk m c 2 t) Y A B C Set.univ (fun _ => bodyPost m c t))
        isplitl [H0]; · iexact H0
        isplitl [H1]; · iexact H1
        isplitl [H2]; · iexact H2
        isplitl [H3]; · iexact H3
        isplitl [HA]; · iexact HA
        isplitl [HB]; · iexact HB
        isplitl [HC]; · iexact HC
        iintro ⟨H0, H1, H2, H3, HA, HB, HC⟩
        iapply (gather m c t hI' (fun _ => congrArg k0_pay6 hT))
        isplitl [Hr]; · iexact Hr
        isplitl [Ho]; · iexact Ho
        isplitl [H0]; · iexact H0
        isplitl [H1]; · iexact H1
        isplitl [H2]; · iexact H2
        isplitl [H3]; · iexact H3
        isplitl [HA]; · iexact HA
        isplitl [HB]; · iexact HB
        iexact HC
      · obtain ⟨eA, eB⟩ := hI.weights t rfl (by omega)
        replace eA := eA.symm; replace eB := eB.symm
        have hT : (k0_pay5 (blk m c 0 t) A B (rows C (grid0.coords t 2).val (tile_lt _))) = total m c t.val t.isLt := by
          rw [hI.before h2 _ (tile_lt (grid0.coords t)) (tile_eq t) (Nat.lt_of_le_of_lt (Nat.sub_le _ _) t.isLt), total_next m c t h2 (Nat.lt_of_le_of_lt (Nat.sub_le _ _) t.isLt), eA, eB]
        have hI' := hI.step
        rw [eA, eB, ← hT, ← tile_eq t] at hI'
        iapply (middle_second c (grid0.coords t) _ _ _ _ _ _ _ _ _ _ _ _ _ _ (fun h => h1 ((casts_iff t).1 h)) (fun h => h2 ((cond2_iff t).1 h)) ((cond3_iff t).2 h2) (fun h => h3 ((cond4_iff t).1 h))
          (blk m c 0 t) (blk m c 1 t) (blk m c 2 t) Y A B C Set.univ (fun _ => bodyPost m c t))
        isplitl [H0]; · iexact H0
        isplitl [H1]; · iexact H1
        isplitl [H2]; · iexact H2
        isplitl [H3]; · iexact H3
        isplitl [HA]; · iexact HA
        isplitl [HB]; · iexact HB
        isplitl [HC]; · iexact HC
        iintro ⟨H0, H1, H2, H3, HA, HB, HC⟩
        iapply (gather m c t hI' (fun h => absurd h h3))
        isplitl [Hr]; · iexact Hr
        isplitl [Ho]; · iexact Ho
        isplitl [H0]; · iexact H0
        isplitl [H1]; · iexact H1
        isplitl [H2]; · iexact H2
        isplitl [H3]; · iexact H3
        isplitl [HA]; · iexact HA
        isplitl [HB]; · iexact HB
        iexact HC

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ held (Left m c) := fun t => by
  rw [bigSep_W0, bigSep_W0, defs₀_row]
  exact triple_restated (sound_body m c t) rfl .rfl fun _ => .rfl

theorem enter (c : Dev nD) : Pipeline.ΦA spec0 c ⊢ Phi m c 0 := by
  unfold Pipeline.ΦA Phi
  rw [scopedRest0_eq]
  simp only [owns_whole]
  iintro ⟨⟨⟨%A, HA⟩, ⟨%B, HB⟩, ⟨%C, HC⟩⟩, Hr⟩
  isplitr [Hr]
  · iexists A, B, C
    isplitr; · ipureintro; exact Inv.start c A B C
    isplitl [HA]; · iexact HA
    isplitl [HB]; · iexact HB
    iexact HC
  iexact Hr

theorem leave (c : Dev nD) (n : ℕ) : Phi m c n ⊢ Pipeline.ΦA spec0 c := by
  unfold Pipeline.ΦA Phi
  rw [scopedRest0_eq]
  simp only [owns_whole]
  iintro ⟨⟨%A, %B, %C, -, HA, HB, HC⟩, Hr⟩
  isplitr [Hr]
  · isplitl [HA]; · iexists A; iexact HA
    isplitl [HB]; · iexists B; iexact HB
    iexists C; iexact HC
  iexact Hr

set_option backward.isDefEq.respectTransparency.types false in
/-- Every fair run of the kernel ends, with the arrays as the data say and every counter at zero. -/
theorem run_main : θ_run defs (onTc (τ := τ) (main (F := F))) (s₀ m ρ)
    (fun r => Pipeline.RDat.FramePost (cfgs 0) (rdat m) (entry m) r ∧ r.2.sem = fun _ => 0) :=
  Pipeline.RDat.θ_run_frame_track (Q' := _) cfgs (0 : Fin 1) launch0 defs₀ Variants.none (rdat m) m ρ main
    (hbody := fun c => (body_obligation m c).toRRel) (hshare := fun c w => (dats m 0 c).share_full (fun _ => rfl) w)
    (howed := fun _ _ => rfl) (V := entry m) (hmain := entered m Variants.none) (hA := A_eq m)
    (hin := fun c => enter m c) (hout := fun c => leave m c _)

theorem unchanged {r : PUnit × MemSt nD τ sig (Elt F)} (h : Pipeline.RDat.FramePost (cfgs 0) (rdat m) (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 0 rfl).trans (A_eq m c 0), (h.arr_in c 1 rfl).trans (A_eq m c 1), (h.arr_in c 2 rfl).trans (A_eq m c 2)⟩

/-- The frame: every fair run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => unchanged m h.1 c, h.2⟩) (run_main m ρ)

end Cert.ExpertsIdeal.Run

end
-- ==== Proof.OneHot.lean ====
/-
# Rows picked by number

A product with a matrix of ones and zeros that marks where two integers agree is a sum over the marked rows. A sum into
rows named by an index vector is a sum over the updates with that index. Sums over rows numbered through are sums over
groups of rows.
-/
module

public import Idealize.ShloMosaic.Lib.MatmulPlain
public import Idealize.ShloMosaic.Lib.Routing.OpsPair
public import Idealize.ShloMosaic.Lib.Pipeline.Value
public import Idealize.ShloMosaic.Lib.WordCmp

@[expose] public section

noncomputable section

namespace Cert.OneHot

open Idealize.ShloMosaic Idealize.ShloMosaic.ValueIdx
open scoped BigOperators

/-- A comparison's bit as a number: one where the words agree, zero elsewhere. -/
theorem mark (a b : BitVec 32) : (((((IntOp.cmpi .eq a b).setWidth 32).toInt : ℤ) : ℝ) : EReal) = if a = b then 1 else 0 := by
  rw [WordCmp.cmpi_eq_eq]
  by_cases h : a = b
  · rw [if_pos h, decide_eq_true h]
    show (((1 : ℤ) : ℝ) : EReal) = 1
    norm_num
  · rw [if_neg h, decide_eq_false h]
    show (((0 : ℤ) : ℝ) : EReal) = 0
    norm_num

/-- The product with the marks of `A = B`: the rows `k` of `x` with `A j k = B j k`, added up. -/
theorem pick {M K N : ℕ} (D : DotDims ⟨2, ![M, K]⟩ ⟨2, ![K, N]⟩ ⟨2, ![M, N]⟩) (hD : D = DotDims.plain M K N)
    (A B : IVec ⟨2, ![M, K]⟩ 32) (x : FVec Ideal ⟨2, ![K, N]⟩ .bf16) (h1 : 1 < 32) (h2 : FTy.bits .bf16 < FTy.bits .f32) (j : Fin M) (c : Fin N) :
    matmul (F := Ideal) D none (truncf .bf16 (sitofp .f32 (extui 32 (cmpi .eq A B) h1)) h2) x (constant ⟨2, ![M, N]⟩ .f32 0x00000000#32) (ix2 j c)
      = ∑ k : Fin K, if A (ix2 j k) = B (ix2 j k) then x (ix2 k c) else 0 := by
  subst hD
  refine (Ideal.matmul_plain_apply none _ _ _ j c).trans ?_
  rw [show constant (F := Ideal) ⟨2, ![M, N]⟩ .f32 0x00000000#32 (ix2 j c) = 0 from Ideal.ofBits_zero_f32, zero_add]
  refine Finset.sum_congr rfl fun k _ => ?_
  refine (congrArg (· * _) (mark (A (ix2 j k)) (B (ix2 j k)))).trans ?_
  split
  · exact one_mul _
  · exact zero_mul _

/-- A sum of rows into rows named by an index vector: row `n` gets the updates whose index, read signed, is `n`. -/
theorem scatter_rows {N R C : ℕ} (d : ScatterDims ⟨2, ![N, C]⟩ ⟨2, ![R, 1]⟩ ⟨2, ![R, C]⟩) (hu : d.updateWindowDims = [1])
    (hi : d.insertedWindowDims = [0]) (hs : d.scatterDimsToOperandDims = [0]) (hv : d.indexVectorDim = 1)
    (x : FVec Ideal ⟨2, ![N, C]⟩ .f32) (idx : IVec ⟨2, ![R, 1]⟩ 32) (upd : FVec Ideal ⟨2, ![R, C]⟩ .f32) (n : Fin N) (c : Fin C) :
    Host.scatterAdd d x idx upd (ix2 n c)
      = x (ix2 n c) + ∑ q : Fin R, if (idx (ix2 q 0)).toInt = (n.val : ℤ) then upd (ix2 q c) else (0 : EReal) := by
  have hm : (0 : Fin 2) ∈ d.scatterDimsToOperandDims := by rw [hs]; exact List.mem_singleton.2 rfl
  have hkept : d.sKept = [1] := by
    show (⟨2, ![N, C]⟩ : Shape).kept d.insertedWindowDims = _
    rw [hi]; rfl
  have hw0 : ∀ (q : Fin R) (e : Fin C), d.window (ix2 q e) 0 = 0 := fun q e => by
    unfold ScatterDims.window
    rw [dif_neg (by rw [hkept]; exact fun h => absurd (List.mem_singleton.1 h) zero_ne_one)]
  have hw1 : ∀ (q : Fin R) (e : Fin C), d.window (ix2 q e) 1 = e.val := fun q e => by
    unfold ScatterDims.window
    rw [dif_pos (by rw [hkept]; exact List.mem_singleton.2 rfl)]
    have : ∀ X : Fin 2, X = 1 → ((ix2 q e : (⟨2, ![R, C]⟩ : Shape).Idx) X).val = e.val := fun X hX => by subst hX; rfl
    exact this _ (by simp only [hu, hkept]; rfl)
  have hs1 : ∀ (q : Fin R) (e : Fin C), d.start (ix2 q e) idx 1 = 0 := fun q e => by
    unfold ScatterDims.start
    rw [dif_neg (by rw [hs]; exact fun h => absurd (List.mem_singleton.1 h) zero_ne_one.symm)]
  have hus : d.uScatter = [0] := by
    show (⟨2, ![R, C]⟩ : Shape).kept d.updateWindowDims = _
    rw [hu]; rfl
  have hs0 : ∀ (q : Fin R) (e : Fin C), d.start (ix2 q e) idx 0 = (idx (ix2 q 0)).toInt := fun q e => by
    unfold ScatterDims.start
    rw [dif_pos hm]
    refine congrArg (fun i => (idx i).toInt) (funext fun b => Fin.ext ?_)
    match b with
    | ⟨0, _⟩ =>
      unfold ScatterDims.siIdx
      rw [dif_neg (by rw [hv]; exact Nat.zero_ne_one)]
      unfold ScatterDims.siCoord
      simp only [Fin.val_cast]
      have : ∀ X : Fin 2, X = 0 → ((ix2 q e : (⟨2, ![R, C]⟩ : Shape).Idx) X).val = q.val := fun X hX => by subst hX; rfl
      refine this _ ?_
      have hsub : ∀ X ∈ d.uScatter, X = 0 := fun X hX => List.mem_singleton.1 (hus ▸ hX)
      exact hsub _ (List.getElem_mem _)
    | ⟨1, _⟩ =>
      unfold ScatterDims.siIdx
      rw [dif_pos (by rw [hv])]
      show List.idxOf (0 : Fin 2) d.scatterDimsToOperandDims = 0
      rw [hs]; rfl
  have lands : ∀ (q : Fin R) (e : Fin C), d.resultIdx? (ix2 q e) idx = some (ix2 n c) ↔ (idx (ix2 q 0)).toInt = (n.val : ℤ) ∧ e = c := fun q e => by
    rw [Idealize.ShloMosaic.Routing.resultIdx?_ix2, hs0, hs1, hw0, hw1, Fin.ext_iff]
    omega
  show x (ix2 n c) + ∑ j ∈ Finset.univ.filter (fun j => d.resultIdx? j idx = some (ix2 n c)), upd j = _
  congr 1
  rw [Finset.sum_filter, sum_idx2]
  refine Finset.sum_congr rfl fun q _ => ?_
  rw [Finset.sum_eq_single c]
  · by_cases h : (idx (ix2 q 0)).toInt = (n.val : ℤ)
    · rw [if_pos ((lands q c).2 ⟨h, rfl⟩), if_pos h]
    · rw [if_neg fun e => h ((lands q c).1 e).1, if_neg h]
  · intro e _ he
    exact if_neg fun h => he ((lands q e).1 h).2
  · intro h; exact absurd (Finset.mem_univ c) h

/-- A sum over rows numbered through is the sum over groups of the sums inside them. -/
theorem sum_groups {M : Type*} [AddCommMonoid M] (a b n : ℕ) (hn : n = a * b) (f : Fin n → M) :
    ∑ q, f q = ∑ k : Fin a, ∑ r : Fin b, f ⟨k.val * b + r.val, by subst hn; exact (Nat.mul_comm k.val b ▸ Nat.add_comm r.val _ ▸ (finProdFinEquiv (k, r)).isLt)⟩ := by
  subst hn
  rw [← Equiv.sum_comp finProdFinEquiv f, Fintype.sum_prod_type]
  refine Finset.sum_congr rfl fun k _ => Finset.sum_congr rfl fun r _ => congrArg f (Fin.ext ?_)
  show r.val + b * k.val = k.val * b + r.val
  rw [Nat.mul_comm, Nat.add_comm]

/-- A sum over two halves. -/
theorem sum_halves {M : Type*} [AddCommMonoid M] (a n : ℕ) (hn : n = a + a) (f : Fin n → M) :
    ∑ q, f q = (∑ q : Fin a, f ⟨q.val, by omega⟩) + ∑ q : Fin a, f ⟨a + q.val, by omega⟩ := by
  subst hn
  rw [Fin.sum_univ_add]
  rfl

end Cert.OneHot

end
-- ==== Proof.ExpertsPoint.lean ====
/-
# One step of the perceptrons

What the perceptron kernel's pure terms give at an entry: the cast weight blocks are the blocks, and a step's product is
the sum, over the block of the hidden axis, of the clipped hidden values times the second weights.
-/
module

public import proofs.«01_k».proof.Proof.ExpertsFrame
public import proofs.«01_k».proof.Proof.OneHot
public import Idealize.ShloMosaic.Lib.Pointwise

@[expose] public section

noncomputable section

namespace Cert.ExpertsPoint

open Cert.ExpertsIdeal Cert.ExpertsIdeal.Gen Idealize.ShloMosaic.TcCoe Idealize.ShloMosaic.ValueIdx
open Idealize.ShloMosaic hiding ix1 ix2 ix3 ix4 eq_ix2 eq_ix3
open Cert.ExpertsIdeal.Run
open scoped BigOperators

/-- A block without its leading axis. -/
theorem drop_apply {α : Type} (a b : ℕ) (x : (⟨3, ![1, a, b]⟩ : Shape).Idx → α) (h : (⟨3, ![1, a, b]⟩ : Shape).ShapeCasts ⟨2, ![a, b]⟩) (p : Fin a) (q : Fin b) :
    shapeCast ⟨2, ![a, b]⟩ x h (ix2 p q) = x (ix3 0 p q) := by
  refine (shapeCast_dropUnit_apply ![a, b] x h (ix2 p q)).trans (congrArg x ?_)
  funext c
  match c with
  | ⟨0, _⟩ => rfl
  | ⟨1, _⟩ => rfl
  | ⟨2, _⟩ => rfl

theorem pay1_apply (v : Vec Ideal S1x2048x1024 .f32) (k : Fin 2048) (j : Fin 1024) : k0_pay1 (F := Ideal) v (ix2 k j) = v (ix3 0 k j) := by
  unfold k0_pay1
  rw [shapeCast_self]
  exact drop_apply 2048 1024 v _ k j

theorem pay2_apply (v : Vec Ideal S1x1024x2048 .f32) (j : Fin 1024) (d : Fin 2048) : k0_pay2 (F := Ideal) v (ix2 j d) = v (ix3 0 j d) := by
  unfold k0_pay2
  rw [shapeCast_self]
  exact drop_apply 1024 2048 v _ j d

theorem pay3_apply (x : Vec Ideal S1x320x2048 .bf16) (A : Vec Ideal S2048x1024 .bf16) (B : Vec Ideal S1024x2048 .bf16) (a : Fin 320) (d : Fin 2048) :
    k0_pay3 (F := Ideal) x A B (ix2 a d) = ∑ j : Fin 1024, max (∑ k : Fin 2048, x (ix3 0 a k) * A (ix2 k j) : EReal) 0 * B (ix2 j d) := by
  unfold k0_pay3
  refine (Ideal.matmul_plain_apply (M := 320) (K := 1024) (N := 2048) none _ _ _ a d).trans ?_
  rw [show constant (F := Ideal) S320x2048 .f32 0x00000000#32 (ix2 a d) = 0 from Ideal.ofBits_zero_f32, zero_add]
  refine Finset.sum_congr rfl fun j _ => congrArg (fun h : EReal => h * B (ix2 j d)) ?_
  refine congr (congrArg (fun a b : EReal => max a b) ?_) Ideal.ofBits_zero_f32
  refine (Ideal.matmul_plain_apply (M := 320) (K := 2048) (N := 1024) none _ _ _ a j).trans ?_
  rw [show constant (F := Ideal) S320x1024 .f32 0x00000000#32 (ix2 a j) = 0 from Ideal.ofBits_zero_f32, zero_add]
  exact Finset.sum_congr rfl fun k _ => congrArg (fun h : EReal => h * A (ix2 k j)) (drop_apply 320 2048 x _ a k)

theorem pay4_apply (x : Vec Ideal S1x320x2048 .bf16) (A : Vec Ideal S2048x1024 .bf16) (B : Vec Ideal S1024x2048 .bf16) (a : Fin 320) (d : Fin 2048) :
    k0_pay4 (F := Ideal) x A B (ix2 a d) = k0_pay3 (F := Ideal) x A B (ix2 a d) := by
  unfold k0_pay4
  rw [shapeCast_self]

theorem pay5_apply (x : Vec Ideal S1x320x2048 .bf16) (A : Vec Ideal S2048x1024 .bf16) (B : Vec Ideal S1024x2048 .bf16) (v : Vec Ideal S320x2048 .f32) (a : Fin 320) (d : Fin 2048) :
    k0_pay5 (F := Ideal) x A B v (ix2 a d) = (v (ix2 a d) : EReal) + k0_pay3 (F := Ideal) x A B (ix2 a d) := by
  unfold k0_pay5
  rw [shapeCast_self]
  rfl

theorem pay6_apply (v : Vec Ideal S320x2048 .f32) (a : Fin 320) (d : Fin 2048) : k0_pay6 (F := Ideal) v (ix3 0 a d) = v (ix2 a d) := by
  unfold k0_pay6
  refine (shapeCast_apply _ _ _ (ix2 a d) ?_)
  rw [rowMajor_val2 _ 2048 rfl, rowMajor_val3 _ 655360 2048 (by decide) (by decide)]
  show a.val * 2048 + d.val = 0 * 655360 + a.val * 2048 + d.val
  omega

end Cert.ExpertsPoint

end
-- ==== Proof.ExpertsArray.lean ====
/-
# The perceptrons' array

After the run the array holds, for each expert, row and column, the sum over the whole hidden axis of the clipped hidden
values times the second weights. Every tile is written back eight times over its expert's points, in turn with the other
tile; the last time it is the tile's total, and nothing after it touches the tile.
-/
module

public import proofs.«01_k».proof.Proof.ExpertsPoint
public import Idealize.ShloMosaic.Lib.Pipeline.ValueKit.Geometry

@[expose] public section

noncomputable section

namespace Cert.ExpertsArray

open Cert.ExpertsIdeal Cert.ExpertsIdeal.Gen Idealize.ShloMosaic.TcCoe Idealize.ShloMosaic.ValueIdx
open Idealize.ShloMosaic hiding ix1 ix2 ix3 ix4 eq_ix2 eq_ix3
open Cert.ExpertsIdeal.Run Cert.ExpertsPoint
open scoped BigOperators

/-! ## The last write-back of a block -/

/-- A block that no later write-back meets reads, at the end, what its point wrote back. -/
theorem last_write {nD : Nat} {τ : Topo} {sig : RefSig} {Val : EltTy → Type} {Ix : Type} [DecidableEq Ix] {Name : Type} [DecidableEq Name]
    {U : Type} [Idealize.SL.RA.URA U] {Lvl : Type} {Λ₀ : Idealize.SL.Sem.Labels} {cfg : Pipeline.Cfg sig Λ₀} {c : Dev nD}
    (dat : Pipeline.Dat τ Val Ix Name U Lvl cfg c) (w : Fin cfg.W) (t : Fin cfg.N) (hf : (cfg.win w).flush t = true)
    (later : ∀ u : Fin cfg.N, t.val < u.val → Disjoint ((cfg.win w).blk t).view.set ((cfg.win w).blk u).view.set) :
    ∀ n : ℕ, t.val < n → n ≤ cfg.N → ((cfg.win w).blk t).view.read Val (dat.arrAt w n) = dat.flushed w t
  | 0, h, _ => absurd h (Nat.not_lt_zero _)
  | n + 1, h, hn => by
    have hs := dat.arrAt_succ w ⟨n, hn⟩
    rw [show n + 1 = (⟨n, hn⟩ : Fin cfg.N).val + 1 from rfl, hs]
    by_cases e : t.val = n
    · have e' : t = ⟨n, hn⟩ := Fin.ext e
      subst e'
      rw [if_pos hf]
      exact View.read_write_univ _ _
    · have ih := last_write dat w t hf later n (by omega) (Nat.le_of_succ_le hn)
      split
      · refine Eq.trans (View.read_congr fun i hi => View.write_of_not_mem _ _ _ ?_) ih
        exact Finset.disjoint_left.mp (later ⟨n, hn⟩ (by show t.val < n; omega)) hi
      · exact ih

/-! ## The blocks -/

variable (m : (ℓ : Loc nD τ sig) → Buf (Elt Ideal) ℓ)

theorem lt32 (t : Fin cfg0.N) : t.val < 32 := lt_of_lt_of_eq t.isLt N_0
/-- The expert, the block of the hidden axis and the tile of a grid point. -/
abbrev expertNo (t : Fin cfg0.N) : Fin 4 := ⟨t.val / 8, by have := lt32 t; omega⟩
abbrev blockNo (t : Fin cfg0.N) : Fin 4 := ⟨t.val / 2 % 4, Nat.mod_lt _ (by norm_num)⟩
abbrev tileNo (t : Fin cfg0.N) : Fin 2 := ⟨t.val % 2, Nat.mod_lt _ (by norm_num)⟩

theorem coord0 (t : Fin cfg0.N) : ((grid0.coords t) 0).val = t.val / 8 :=
  (Pipeline.Grid.coords_val t 0 (by decide) rfl).trans (Nat.mod_eq_of_lt (expertNo t).isLt)
theorem coord1 (t : Fin cfg0.N) : ((grid0.coords t) 1).val = t.val / 2 % 4 :=
  Pipeline.Grid.coords_val t 1 (by decide) rfl
theorem coord2 (t : Fin cfg0.N) : ((grid0.coords t) 2).val = t.val % 2 :=
  (Pipeline.Grid.coords_val t 2 (by decide) rfl).trans (congrArg (· % 2) (Nat.div_one _))

theorem word4 : ∀ k : Fin 4, (BitVec.ofNat 32 k.val).toNat = k.val := by decide
theorem word2 : ∀ k : Fin 2, (BitVec.ofNat 32 k.val).toNat = k.val := by decide

/-- Where the output's block sits. -/
theorem out_at (t : Fin cfg0.N) (a : Fin 320) (d : Fin 2048) :
    ((cfg0.win 3).blk t).view.emb (ix3 0 a d) = ix3 (expertNo t) ⟨t.val % 2 * 320 + a.val, by omega⟩ d := by
  refine funext fun b => Fin.ext ((Pipeline.Window.rect_emb_val win0_3 t (ix3 0 a d) b).trans ?_)
  match b with
  | ⟨0, _⟩ =>
    show (BitVec.ofNat 32 ((grid0.coords t) 0).val).toNat * 1 + 0 = t.val / 8
    rw [coord0, word4 (expertNo t)]
    exact Nat.mul_one (t.val / 8)
  | ⟨1, _⟩ =>
    show (BitVec.ofNat 32 ((grid0.coords t) 2).val).toNat * 320 + a.val = t.val % 2 * 320 + a.val
    rw [coord2, word2 (tileNo t)]
  | ⟨2, _⟩ => show 0 * 2048 + d.val = d.val; omega

theorem block0 (c : Dev nD) (t : Fin cfg0.N) (a : Fin 320) (k : Fin 2048) :
    blk m c 0 t (ix3 0 a k) = m ((c : Thread nD τ).loc main_arg0) (ix3 (expertNo t) ⟨t.val % 2 * 320 + a.val, by omega⟩ k) := by
  show m ((c : Thread nD τ).loc main_arg0) (((cfg0.win 0).blk t).view.emb (ix3 0 a k)) = _
  refine congrArg _ (funext fun b => Fin.ext ?_)
  refine (Pipeline.Window.rect_emb_val win0_0 t (ix3 0 a k) b).trans ?_
  match b with
  | ⟨0, _⟩ =>
    show (BitVec.ofNat 32 ((grid0.coords t) 0).val).toNat * 1 + 0 = t.val / 8
    rw [coord0, word4 (expertNo t)]
    exact Nat.mul_one (t.val / 8)
  | ⟨1, _⟩ =>
    show (BitVec.ofNat 32 ((grid0.coords t) 2).val).toNat * 320 + a.val = t.val % 2 * 320 + a.val
    rw [coord2, word2 (tileNo t)]
  | ⟨2, _⟩ => show 0 * 2048 + k.val = k.val; omega

theorem block1 (c : Dev nD) (t : Fin cfg0.N) (k : Fin 2048) (j : Fin 1024) :
    blk m c 1 t (ix3 0 k j) = m ((c : Thread nD τ).loc main_arg1) (ix3 (expertNo t) k ⟨t.val / 2 % 4 * 1024 + j.val, by omega⟩) := by
  show m ((c : Thread nD τ).loc main_arg1) (((cfg0.win 1).blk t).view.emb (ix3 0 k j)) = _
  refine congrArg _ (funext fun b => Fin.ext ?_)
  refine (Pipeline.Window.rect_emb_val win0_1 t (ix3 0 k j) b).trans ?_
  match b with
  | ⟨0, _⟩ =>
    show (BitVec.ofNat 32 ((grid0.coords t) 0).val).toNat * 1 + 0 = t.val / 8
    rw [coord0, word4 (expertNo t)]
    exact Nat.mul_one (t.val / 8)
  | ⟨1, _⟩ => show 0 * 2048 + k.val = k.val; omega
  | ⟨2, _⟩ =>
    show (BitVec.ofNat 32 ((grid0.coords t) 1).val).toNat * 1024 + j.val = t.val / 2 % 4 * 1024 + j.val
    rw [coord1, word4 (blockNo t)]

theorem block2 (c : Dev nD) (t : Fin cfg0.N) (j : Fin 1024) (d : Fin 2048) :
    blk m c 2 t (ix3 0 j d) = m ((c : Thread nD τ).loc main_arg2) (ix3 (expertNo t) ⟨t.val / 2 % 4 * 1024 + j.val, by omega⟩ d) := by
  show m ((c : Thread nD τ).loc main_arg2) (((cfg0.win 2).blk t).view.emb (ix3 0 j d)) = _
  refine congrArg _ (funext fun b => Fin.ext ?_)
  refine (Pipeline.Window.rect_emb_val win0_2 t (ix3 0 j d) b).trans ?_
  match b with
  | ⟨0, _⟩ =>
    show (BitVec.ofNat 32 ((grid0.coords t) 0).val).toNat * 1 + 0 = t.val / 8
    rw [coord0, word4 (expertNo t)]
    exact Nat.mul_one (t.val / 8)
  | ⟨1, _⟩ =>
    show (BitVec.ofNat 32 ((grid0.coords t) 1).val).toNat * 1024 + j.val = t.val / 2 % 4 * 1024 + j.val
    rw [coord1, word4 (blockNo t)]
  | ⟨2, _⟩ => show 0 * 2048 + d.val = d.val; omega

/-! ## The total of a tile -/

/-- One term of an entry: the hidden value, clipped below at zero, times its second weight. -/
def term (X : S4x640x2048.Idx → EReal) (W₁ : S4x2048x4096.Idx → EReal) (W₂ : S4x4096x2048.Idx → EReal) (e : Fin 4) (q : Fin 640) (d : Fin 2048) (j : Fin 4096) : EReal :=
  max (∑ k : Fin 2048, X (ix3 e q k) * W₁ (ix3 e k j)) 0 * W₂ (ix3 e j d)

/-- A device's terms. -/
abbrev termOf (c : Dev nD) (e : Fin 4) (q : Fin 640) (d : Fin 2048) (j : Fin 4096) : EReal :=
  term (m ((c : Thread nD τ).loc main_arg0)) (m ((c : Thread nD τ).loc main_arg1)) (m ((c : Thread nD τ).loc main_arg2)) e q d j

/-- A block of the hidden axis' terms, added up. -/
def part (c : Dev nD) (e : Fin 4) (q : Fin 640) (d : Fin 2048) (f : Fin 4) : EReal :=
  ∑ j : Fin 1024, termOf m c e q d ⟨f.val * 1024 + j.val, by omega⟩

/-- The row of a tile. -/
abbrev rowOf (t : Fin cfg0.N) (a : Fin 320) : Fin 640 := ⟨t.val % 2 * 320 + a.val, by omega⟩

theorem lead_expert (t : Fin cfg0.N) : expertNo (lead t) = expertNo t := Fin.ext (show (t.val - t.val % 2) / 8 = t.val / 8 by omega)
theorem lead_block (t : Fin cfg0.N) (j : Fin 1024) :
    (⟨(lead t).val / 2 % 4 * 1024 + j.val, by omega⟩ : Fin 4096) = ⟨t.val / 2 % 4 * 1024 + j.val, by omega⟩ :=
  Fin.ext (show (t.val - t.val % 2) / 2 % 4 * 1024 + j.val = t.val / 2 % 4 * 1024 + j.val by omega)

theorem congr_two {α β γ : Type} (f : α → β → γ) {a a' : α} {b b' : β} (ha : a = a') (hb : b = b') : f a b = f a' b' := by subst ha hb; rfl

theorem castA_apply (c : Dev nD) (t : Fin cfg0.N) (k : Fin 2048) (j : Fin 1024) :
    castA m c t (ix2 k j) = m ((c : Thread nD τ).loc main_arg1) (ix3 (expertNo t) k ⟨t.val / 2 % 4 * 1024 + j.val, by omega⟩) := by
  unfold castA
  refine (pay1_apply _ k j).trans ((block1 m c (lead t) k j).trans ?_)
  exact congr_two (fun (e : Fin 4) (j : Fin 4096) => (m ((c : Thread nD τ).loc main_arg1) : S4x2048x4096.Idx → EReal) (ix3 e k j)) (lead_expert t) (lead_block t j)

theorem castB_apply (c : Dev nD) (t : Fin cfg0.N) (j : Fin 1024) (d : Fin 2048) :
    castB m c t (ix2 j d) = m ((c : Thread nD τ).loc main_arg2) (ix3 (expertNo t) ⟨t.val / 2 % 4 * 1024 + j.val, by omega⟩ d) := by
  unfold castB
  refine (pay2_apply _ j d).trans ((block2 m c (lead t) j d).trans ?_)
  exact congr_two (fun (e : Fin 4) (j : Fin 4096) => (m ((c : Thread nD τ).loc main_arg2) : S4x4096x2048.Idx → EReal) (ix3 e j d)) (lead_expert t) (lead_block t j)

theorem step_part (c : Dev nD) (t : Fin cfg0.N) (a : Fin 320) (d : Fin 2048) :
    k0_pay3 (F := Ideal) (blk m c 0 t) (castA m c t) (castB m c t) (ix2 a d) = part m c (expertNo t) (rowOf t a) d (blockNo t) := by
  refine (pay3_apply _ _ _ a d).trans ?_
  unfold part
  refine Finset.sum_congr rfl fun j _ => ?_
  unfold termOf term
  refine congr (congrArg (fun a b : EReal => a * b) (congrArg (fun a : EReal => max a 0) (Finset.sum_congr rfl fun k _ => ?_))) ?_
  · exact congr (congrArg (fun a b : EReal => a * b) (block0 m c t a k)) (castA_apply m c t k j)
  · exact castB_apply m c t j d

theorem first_step (c : Dev nD) (t : Fin cfg0.N) (h : t.val % 8 < 2) (a : Fin 320) (d : Fin 2048) :
    Run.total m c t.val t.isLt (ix2 a d) = part m c (expertNo t) (rowOf t a) d (blockNo t) := by
  rw [total_first m c t h, pay4_apply]
  exact step_part m c t a d

theorem next_step (c : Dev nD) (t : Fin cfg0.N) (h : ¬t.val % 8 < 2) (h' : t.val - 2 < cfg0.N) (a : Fin 320) (d : Fin 2048) :
    Run.total m c t.val t.isLt (ix2 a d)
      = (Run.total m c (t.val - 2) h' (ix2 a d) : EReal) + part m c (expertNo t) (rowOf t a) d (blockNo t) := by
  rw [total_next m c t h h', pay5_apply]
  exact congrArg (fun b : EReal => Run.total m c (t.val - 2) h' (ix2 a d) + b) (step_part m c t a d)

/-- All the terms of an entry. -/
def total (c : Dev nD) (i : S4x640x2048.Idx) : EReal := ∑ j : Fin 4096, termOf m c (i 0) (i 1) (i 2) j

theorem total_parts (c : Dev nD) (e : Fin 4) (q : Fin 640) (d : Fin 2048) : total m c (ix3 e q d) = ∑ f : Fin 4, part m c e q d f :=
  OneHot.sum_groups 4 1024 4096 (by norm_num) (fun j => termOf m c e q d j)

/-- What a tile's total is once the hidden axis is through. -/
theorem last_step (c : Dev nD) (t : Fin cfg0.N) (h : 6 ≤ t.val % 8) (a : Fin 320) (d : Fin 2048) :
    Run.total m c t.val t.isLt (ix2 a d) = total m c (ix3 (expertNo t) (rowOf t a) d) := by
  have hN := lt32 t
  have e : cfg0.N = 32 := N_0
  have h0 := first_step m c ⟨t.val - 2 - 2 - 2, by omega⟩ (show (t.val - 2 - 2 - 2) % 8 < 2 by omega) a d
  have h1 := next_step m c ⟨t.val - 2 - 2, by omega⟩ (show ¬(t.val - 2 - 2) % 8 < 2 by omega) (show t.val - 2 - 2 - 2 < cfg0.N by omega) a d
  have h2 := next_step m c ⟨t.val - 2, by omega⟩ (show ¬(t.val - 2) % 8 < 2 by omega) (show t.val - 2 - 2 < cfg0.N by omega) a d
  have h3 := next_step m c t (by omega) (by omega) a d
  have ex : ∀ (n : ℕ) (hn : n < cfg0.N), n / 8 = t.val / 8 → expertNo ⟨n, hn⟩ = expertNo t := fun n hn h => Fin.ext h
  have rx : ∀ (n : ℕ) (hn : n < cfg0.N), n % 2 = t.val % 2 → rowOf ⟨n, hn⟩ a = rowOf t a := fun n hn h =>
    Fin.ext (show n % 2 * 320 + a.val = t.val % 2 * 320 + a.val by rw [h])
  have bx : ∀ (n : ℕ) (hn : n < cfg0.N) (f : Fin 4), n / 2 % 4 = f.val → blockNo ⟨n, hn⟩ = f := fun n hn f h => Fin.ext h
  rw [ex _ _ (by omega), rx _ _ (by omega), bx _ _ 0 (show (t.val - 2 - 2 - 2) / 2 % 4 = 0 by omega)] at h0
  rw [ex _ _ (by omega), rx _ _ (by omega), bx _ _ 1 (show (t.val - 2 - 2) / 2 % 4 = 1 by omega)] at h1
  rw [ex _ _ (by omega), rx _ _ (by omega), bx _ _ 2 (show (t.val - 2) / 2 % 4 = 2 by omega)] at h2
  rw [bx t.val t.isLt 3 (show t.val / 2 % 4 = 3 by omega)] at h3
  rw [total_parts, Fin.sum_univ_four]
  refine h3.trans (congrArg (fun a : EReal => a + _) (h2.trans (congrArg (fun a : EReal => a + _) (h1.trans (congrArg (fun a : EReal => a + _) h0)))))

/-! ## The array after the run -/

/-- An index of a block with a leading axis of one. -/
theorem unit_index (y : S1x320x2048.Idx) : ∃ (y1 : Fin 320) (y2 : Fin 2048), y = ix3 0 y1 y2 :=
  ⟨y 1, y 2, (eq_ix3 y).trans (congrArg (fun z : Fin 1 => (ix3 z (y 1) (y 2) : S1x320x2048.Idx)) (Subsingleton.elim _ _))⟩

theorem array {after : (w : Fin cfg0.W) → Fin cfg0.N → (cfg0.win w).block.Idx → Elt Ideal (cfg0.win w).elt} (c : Dev nD)
    (h : ∀ t : Fin cfg0.N, 6 ≤ t.val % 8 → after 3 t = k0_pay6 (Run.total m c t.val t.isLt)) (i : S4x640x2048.Idx) :
    ((rdat m c).withAfter after).arrAt 3 cfg0.N i = total m c i := by
  obtain ⟨e, q, d, rfl⟩ : ∃ (e : Fin 4) (q : Fin 640) (d : Fin 2048), i = ix3 e q d := ⟨i 0, i 1, i 2, eq_ix3 i⟩
  have eN : cfg0.N = 32 := N_0
  obtain ⟨t, ht⟩ : ∃ t : Fin cfg0.N, t.val = e.val * 8 + 6 + q.val / 320 := ⟨⟨e.val * 8 + 6 + q.val / 320, by omega⟩, rfl⟩
  obtain ⟨a, ha⟩ : ∃ a : Fin 320, a.val = q.val % 320 := ⟨⟨q.val % 320, Nat.mod_lt _ (by norm_num)⟩, rfl⟩
  have he : expertNo t = e := Fin.ext (show t.val / 8 = e.val by omega)
  have hq : rowOf t a = q := Fin.ext (show t.val % 2 * 320 + a.val = q.val by omega)
  have hi : ((cfg0.win 3).blk t).view.emb (ix3 0 a d) = ix3 e q d := (out_at t a d).trans (by rw [he]; exact congrArg (fun r : Fin 640 => (ix3 e r d : S4x640x2048.Idx)) hq)
  have later : ∀ u : Fin cfg0.N, t.val < u.val → Disjoint ((cfg0.win 3).blk t).view.set ((cfg0.win 3).blk u).view.set := fun u hu => by
    refine Finset.disjoint_left.mpr fun x hx hx' => ?_
    obtain ⟨y, rfl⟩ := View.exists_emb_of_mem_set _ hx
    obtain ⟨z, hz⟩ := View.exists_emb_of_mem_set _ hx'
    obtain ⟨y1, y2, rfl⟩ := unit_index y
    obtain ⟨z1, z2, rfl⟩ := unit_index z
    rw [out_at, out_at] at hz
    have k0 : u.val / 8 = t.val / 8 := congrArg Fin.val (congrFun hz 0)
    have k1 : u.val % 2 * 320 + z1.val = t.val % 2 * 320 + y1.val := congrArg Fin.val (congrFun hz 1)
    omega
  have hw := congrFun (last_write ((rdat m c).withAfter after) 3 t (flush0_3 t) later cfg0.N t.isLt (Nat.le_refl _)) (ix3 0 a d)
  rw [← hi]
  refine Eq.trans hw ?_
  refine Eq.trans (congrFun (h t (by omega)) (ix3 0 a d)) ?_
  rw [pay6_apply, last_step m c t (by omega), hi, he, hq]

end Cert.ExpertsArray

end
-- ==== Proof.ClaimsExperts.lean ====
/-
# The perceptrons: the claims

The frames of the program, of its twin and of the reference, and the value: the rows of each expert, taken through its
two layers, as the reference takes them.
-/
module

public import proofs.«01_k».proof.Defs
public import proofs.«01_k».proof.Proof.ExpertsArray
public import proofs.«01_k».proof.Proof.ExpertsBitsFrame
public import proofs.«01_k».proof.Proof.Gen.PerceptronsIdeal.Run
public import Idealize.ShloMosaic.Lib.StackMember

@[expose] public section

noncomputable section

namespace Cert.ClaimsExperts

open Idealize.ShloMosaic.TcCoe Idealize.SL.Sem Idealize.ShloMosaic.ValueIdx
open Idealize.ShloMosaic hiding ix1 ix2 ix3 ix4 eq_ix2 eq_ix3
open scoped BigOperators

theorem frame_program : Cert.quiescent_Experts := fun m ρ _ => Cert.Experts.Run.frame m ρ
theorem frame_twin : Cert.quiescent_ExpertsIdeal := fun m ρ _ => Cert.ExpertsIdeal.Run.frame m ρ
theorem frame_reference : Cert.quiescent_PerceptronsIdeal := fun m ρ _ =>
  (θ_run Cert.PerceptronsIdeal.defs _ _).mono (fun r h => ⟨fun c => (h c).2, sem_eq_zero_of_no_sems (by decide) r.2⟩)
    (Cert.PerceptronsIdeal.Value.run m ρ)

section
open Cert.PerceptronsIdeal Cert.PerceptronsIdeal.Gen

/-- The reference's result. -/
def result (X : FVec Ideal S4x640x2048 .bf16) (W₁ : FVec Ideal S4x2048x4096 .f32) (W₂ : FVec Ideal S4x4096x2048 .f32) : FVec Ideal S4x640x2048 .bf16 :=
  truncf .bf16 (Host.dotGeneral dot_S4x640x4096_S4x4096x2048_S4x640x2048_2_1_1_2_0_0 none
    (maximumf (Host.dotGeneral dot_S4x640x2048_S4x2048x4096_S4x640x4096_2_1_1_2_0_0 none (extf .f32 X bitsLt_bf16_f32) W₁)
      (broadcastInDim S4x640x4096 ![] bcast_S_S4x640x4096 (constant S_ .f32 0x00000000#32)))
    W₂) bitsLt_bf16_f32

/-- The reference's result at an entry: the terms over the whole hidden axis, added up. -/
theorem result_apply (X : FVec Ideal S4x640x2048 .bf16) (W₁ : FVec Ideal S4x2048x4096 .f32) (W₂ : FVec Ideal S4x4096x2048 .f32) (e : Fin 4) (q : Fin 640) (d : Fin 2048) :
    result X W₁ W₂ (ix3 e q d) = ∑ j : Fin 4096, Cert.ExpertsArray.term X W₁ W₂ e q d j := by
  unfold result
  refine (StackMember.dotGeneral_stack_apply _ none _ _ e q d).trans (Finset.sum_congr rfl fun j _ => ?_)
  unfold Cert.ExpertsArray.term
  refine congrArg (fun h : EReal => h * W₂ (ix3 e j d)) ?_
  refine congr (congrArg (fun a b : EReal => max a b) ?_) ?_
  · exact StackMember.dotGeneral_stack_apply _ none _ _ e q j
  · exact Ideal.ofBits_zero_f32

end

/-- The result is the reference's. -/
theorem values : Cert.algebraic_ExpertsIdeal_PerceptronsIdeal := by
  intro m g m' g' _ hm
  refine ⟨_, (θ_run Cert.ExpertsIdeal.defs _ _).mono (fun r h c => ⟨?_, Cert.ExpertsIdeal.Run.unchanged m h.1 c⟩) (Cert.ExpertsIdeal.Run.run_main m g),
    (θ_run Cert.PerceptronsIdeal.defs _ _).mono (fun r h c => h c) (Cert.PerceptronsIdeal.Value.run m' g')⟩
  obtain ⟨h0, h1, h2⟩ := hm c
  obtain ⟨after, hL, hA⟩ := h.1.exists_exact c
  refine (hA 3).trans (funext fun i => ?_)
  refine (Cert.ExpertsArray.array m c (fun t ht => ?_) i).trans ?_
  · exact Pipeline.Dat.toRRel_leaves (Cert.ExpertsIdeal.Run.dats m 0 c) (w := 3) rfl (hL 3 t (Cert.ExpertsIdeal.Gen.flush0_3 t)) ht
  · obtain ⟨e, q, d, rfl⟩ : ∃ (e : Fin 4) (q : Fin 640) (d : Fin 2048), i = ix3 e q d := ⟨i 0, i 1, i 2, eq_ix3 i⟩
    rw [h0, h1, h2]
    exact (result_apply _ _ _ e q d).symm

end Cert.ClaimsExperts

end
-- ==== Proof.GatherPoint.lean ====
/-
# One step of the gather

What the gather's body leaves in its block at a grid point, entry by entry: the tokens of the point's part whose slot is
the entry's, added up, on top of what the block held when the point is not the first of its block.
-/
module

public import proofs.«01_k».proof.Proof.Gen.GatherIdeal.Value
public import proofs.«01_k».proof.Proof.OneHot
public import Idealize.ShloMosaic.Lib.WholeRead

@[expose] public section

noncomputable section

namespace Cert.GatherPoint

open Cert.GatherIdeal Cert.GatherIdeal.Gen Idealize.ShloMosaic Idealize.ShloMosaic.TcCoe Idealize.ShloMosaic.ValueIdx
open scoped BigOperators

variable {F : FTy → Type} [FloatOps F]

/-- The row of slots the body reads at a grid point. -/
abbrev row (i : grid0.Coords) : Rect S4x1024 := Rect.unit (s := S4x1024) (k0_off1 i) S1x1024.size (k0_off1_inb i)

theorem zero2 : (![0, 0] : Fin 2 → ℕ) = fun _ => 0 := by funext a; fin_cases a <;> rfl
theorem zero3 : (![0, 0, 0] : Fin 3 → ℕ) = fun _ => 0 := by funext a; fin_cases a <;> rfl

/-- What the first point of a block leaves. -/
theorem out_first (c : Dev nD) (i : grid0.Coords) (arg2 : Memref sig .tc .vmem S4x1024 .i32) (harg2 : arg2.IsWhole) (arg3 : Memref sig .tc .vmem S4x1024 .i32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x640x2048 .bf16) (harg6 : arg6.IsWhole) (hc0 : cond0_0 i) (hc1 : ¬cond0_1 i)
    (x0 : Vec F S4x1024 .i32) (x1 : Vec F S4x1024 .i32) (x2 : Vec F S1024x2048 .bf16) (x3 : Vec F S1024x2048 .bf16) :
    out0_A_4 c i arg2 harg2 arg3 harg3 arg4 harg4 arg5 harg5 arg6 harg6 hc0 hc1 x0 x1 x2 x3
      = k0_pay3 i c (View.ld x0 (row i)) (View.ld x1 (row i)) x2 x3 := by
  have e0 : View.readAt (Elt F) arg2.view (row i).toLoadRect (harg2.unread x0) = View.ld x0 (row i) := funext fun y => harg2.readAt_unread x0 _ y
  have e1 : View.readAt (Elt F) arg3.view (row i).toLoadRect (harg3.unread x1) = View.ld x1 (row i) := funext fun y => harg3.readAt_unread x1 _ y
  have e2 : View.readAt (Elt F) arg4.view (Rect.unit (s := S1024x2048) ![0, 0] S1024x2048.size inb_S1024x2048_S1024x2048_0_0).toLoadRect (harg4.unread x2) = x2 :=
    (funext fun y => harg4.readAt_unread x2 _ y).trans (View.ld_unit_zero zero2 inb_S1024x2048_S1024x2048_0_0 x2)
  have e3 : View.readAt (Elt F) arg5.view (Rect.unit (s := S1024x2048) ![0, 0] S1024x2048.size inb_S1024x2048_S1024x2048_0_0).toLoadRect (harg5.unread x3) = x3 :=
    (funext fun y => harg5.readAt_unread x3 _ y).trans (View.ld_unit_zero zero2 inb_S1024x2048_S1024x2048_0_0 x3)
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  refine (View.canon_unit_zero zero3 inb_S1x640x2048_S1x640x2048_0_0_0 _).trans ?_
  rw [e0, e1, e2, e3]

/-- What any other point leaves. -/
theorem out_next (c : Dev nD) (i : grid0.Coords) (arg2 : Memref sig .tc .vmem S4x1024 .i32) (harg2 : arg2.IsWhole) (arg3 : Memref sig .tc .vmem S4x1024 .i32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x640x2048 .bf16) (harg6 : arg6.IsWhole) (hc0 : ¬cond0_0 i) (hc1 : cond0_1 i)
    (x0 : Vec F S4x1024 .i32) (x1 : Vec F S4x1024 .i32) (x2 : Vec F S1024x2048 .bf16) (x3 : Vec F S1024x2048 .bf16) (xo4 : Vec F S1x640x2048 .bf16) :
    out0_B_4 c i arg2 harg2 arg3 harg3 arg4 harg4 arg5 harg5 arg6 harg6 hc0 hc1 x0 x1 x2 x3 xo4
      = k0_pay1 (k0_pay2 i c (View.ld x0 (row i)) (View.ld x1 (row i)) x2 x3) xo4 := by
  have e0 : View.readAt (Elt F) arg2.view (row i).toLoadRect (harg2.unread x0) = View.ld x0 (row i) := funext fun y => harg2.readAt_unread x0 _ y
  have e1 : View.readAt (Elt F) arg3.view (row i).toLoadRect (harg3.unread x1) = View.ld x1 (row i) := funext fun y => harg3.readAt_unread x1 _ y
  have e2 : View.readAt (Elt F) arg4.view (Rect.unit (s := S1024x2048) ![0, 0] S1024x2048.size inb_S1024x2048_S1024x2048_0_0).toLoadRect (harg4.unread x2) = x2 :=
    (funext fun y => harg4.readAt_unread x2 _ y).trans (View.ld_unit_zero zero2 inb_S1024x2048_S1024x2048_0_0 x2)
  have e3 : View.readAt (Elt F) arg5.view (Rect.unit (s := S1024x2048) ![0, 0] S1024x2048.size inb_S1024x2048_S1024x2048_0_0).toLoadRect (harg5.unread x3) = x3 :=
    (funext fun y => harg5.readAt_unread x3 _ y).trans (View.ld_unit_zero zero2 inb_S1024x2048_S1024x2048_0_0 x3)
  have e4 : View.readAt (Elt F) arg6.view (Rect.unit (s := S1x640x2048) ![0, 0, 0] S1x640x2048.size inb_S1x640x2048_S1x640x2048_0_0_0).toLoadRect (harg6.unread xo4) = xo4 :=
    (funext fun y => harg6.readAt_unread xo4 _ y).trans (View.ld_unit_zero zero3 inb_S1x640x2048_S1x640x2048_0_0_0 xo4)
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  refine (View.canon_unit_zero zero3 inb_S1x640x2048_S1x640x2048_0_0_0 _).trans ?_
  unfold kernelRun0_B.sl.r
  rw [e0, e1, e2, e3, e4]

/-- The first slot of a block, as the program works it out. -/
theorem base_word : ∀ (c : Fin 2) (e : Fin 4), Scalar.addi (Scalar.muli (BitVec.ofNat 32 e.val) 1280#32)
    (Scalar.muli (Scalar.remsi (Scalar.divsi (BitVec.ofNat 32 c.val) 1#32) 2#32) 640#32) = BitVec.ofNat 32 (e.val * 1280 + c.val * 640) := by decide

/-- A row of slots, read along the columns. -/
theorem slots_apply (v : Vec Ideal S1x1024 .i32) (j : Fin 640) (k : Fin 1024) :
    broadcastTo S640x1024 (shapeCast S1x1024 (shapeCast S1024 v shapeCasts_S1x1024_S1024) shapeCasts_S1024_S1x1024) broadcasts_S1x1024_S640x1024 (ix2 j k)
      = v (ix2 0 k) := by
  rw [shapeCast_shapeCast]
  refine broadcastTo_apply _ _ _ (ix2 0 k) fun a => ?_
  match a with
  | ⟨0, _⟩ => rfl
  | ⟨1, _⟩ => rfl

/-- The point's contribution at an entry. -/
theorem pay2_apply (i : grid0.Coords) (c : Dev nD) (e : Fin 4) (he : (i 0).val = e.val) (v10 v19 : Vec Ideal S1x1024 .i32) (v27 v30 : Vec Ideal S1024x2048 .bf16)
    (j : Fin 640) (d : Fin 2048) :
    k0_pay2 (F := Ideal) i c v10 v19 v27 v30 (ix2 j d)
      = (∑ k : Fin 1024, if BitVec.ofNat 32 (e.val * 1280 + c.val * 640 + j.val) = v10 (ix2 0 k) then v27 (ix2 k d) else 0)
        + ∑ k : Fin 1024, if BitVec.ofNat 32 (e.val * 1280 + c.val * 640 + j.val) = v19 (ix2 0 k) then v30 (ix2 k d) else 0 := by
  have hw : ∀ k : Fin 1024, addi (broadcast S640x1024 (Scalar.addi (Scalar.muli (BitVec.ofNat 32 (i 0).val) 1280#32)
      (Scalar.muli (Scalar.remsi (Scalar.divsi (Dev.word c) 1#32) 2#32) 640#32))) (iota .tc S640x1024 32 [0] iota_S640x1024_d0_w32) (ix2 j k)
        = BitVec.ofNat 32 (e.val * 1280 + c.val * 640 + j.val) := fun k => by
    rw [he]
    show Scalar.addi (Scalar.muli (BitVec.ofNat 32 e.val) 1280#32)
      (Scalar.muli (Scalar.remsi (Scalar.divsi (BitVec.ofNat 32 c.val) 1#32) 2#32) 640#32) + iota .tc S640x1024 32 [0] iota_S640x1024_d0_w32 (ix2 j k) = _
    rw [base_word c e, iota_single_apply, BitVec.ofNat_add (e.val * 1280 + c.val * 640) j.val]
  unfold k0_pay2
  dsimp only
  rw [shapeCast_self, shapeCast_self]
  refine congr (congrArg (fun (a b : EReal) => a + b) ?_) ?_
  · refine (OneHot.pick (M := 640) (K := 1024) (N := 2048) _ rfl _ _ v27 natLt_1_32 bitsLt_bf16_f32 j d).trans (Finset.sum_congr rfl fun k _ => ?_)
    rw [hw, slots_apply]
  · refine (OneHot.pick (M := 640) (K := 1024) (N := 2048) _ rfl _ _ v30 natLt_1_32 bitsLt_bf16_f32 j d).trans (Finset.sum_congr rfl fun k _ => ?_)
    rw [hw, slots_apply]

/-- A later point's block: what was there and the contribution. -/
theorem pay1_apply (v : FVec Ideal S640x2048 .f32) (x : Vec Ideal S1x640x2048 .bf16) (j : Fin 640) (d : Fin 2048) :
    k0_pay1 (F := Ideal) v x (ix3 0 j d) = x (ix3 0 j d) + v (ix2 j d) := by
  unfold k0_pay1
  refine (shapeCast_addUnit_apply ![640, 2048] _ shapeCasts_S640x2048_S1x640x2048 (ix3 0 j d)).trans ?_
  have e : (fun a : Fin 2 => (ix3 0 j d : S1x640x2048.Idx) a.succ) = (ix2 j d : S640x2048.Idx) := by
    funext a
    match a with
    | ⟨0, _⟩ => rfl
    | ⟨1, _⟩ => rfl
  rw [e]
  show shapeCast S640x2048 x shapeCasts_S1x640x2048_S640x2048 (ix2 j d) + v (ix2 j d) = _
  refine congrArg (fun a : EReal => a + v (ix2 j d)) ((shapeCast_dropUnit_apply ![640, 2048] x shapeCasts_S1x640x2048_S640x2048 (ix2 j d)).trans (congrArg x ?_))
  funext a
  match a with
  | ⟨0, _⟩ => rfl
  | ⟨1, _⟩ => rfl
  | ⟨2, _⟩ => rfl

end Cert.GatherPoint

end
-- ==== Proof.GatherArray.lean ====
/-
# The gather's array

After the run the array holds, at block `e`, row `j` and column `d`, the column's entries of the tokens of both halves
whose slot is the row's, added up part by part.
-/
module

public import proofs.«01_k».proof.Proof.GatherPoint
public import Idealize.ShloMosaic.Lib.Pipeline.ValueKit.Geometry

@[expose] public section

noncomputable section

namespace Cert.GatherArray

open Cert.GatherIdeal Cert.GatherIdeal.Gen Idealize.ShloMosaic Idealize.ShloMosaic.TcCoe Idealize.ShloMosaic.ValueIdx
open Cert.GatherPoint
open scoped BigOperators

/-- What part `k` of the tokens gives to block `e`, row `j`, column `d` on device `c`. -/
def part (A B : S4x1024.Idx → BitVec 32) (X Y : S4096x2048.Idx → EReal) (c : ℕ) (e k : Fin 4) (j : Fin 640) (d : Fin 2048) : EReal :=
  (∑ r : Fin 1024, if BitVec.ofNat 32 (e.val * 1280 + c * 640 + j.val) = A (ix2 k r) then X (ix2 ⟨k.val * 1024 + r.val, by omega⟩ d) else 0)
    + ∑ r : Fin 1024, if BitVec.ofNat 32 (e.val * 1280 + c * 640 + j.val) = B (ix2 k r) then Y (ix2 ⟨k.val * 1024 + r.val, by omega⟩ d) else 0

variable (m : (ℓ : Loc nD τ sig) → Buf (Elt Ideal) ℓ)

/-- The part of a device's operands. -/
abbrev partOf (c : Dev nD) (e k : Fin 4) (j : Fin 640) (d : Fin 2048) : EReal :=
  part (m ((c : Thread nD τ).loc main_arg0)) (m ((c : Thread nD τ).loc main_arg1)) (m ((c : Thread nD τ).loc main_arg2)) (m ((c : Thread nD τ).loc main_arg3)) c.val e k j d

theorem lt16 (t : Fin cfg0.N) : t.val < 16 := lt_of_lt_of_eq t.isLt N_0
/-- The block a grid point works on, and the part of the tokens it reads. -/
abbrev blockNo (t : Fin cfg0.N) : Fin 4 := ⟨t.val / 4, by have := lt16 t; omega⟩
abbrev partNo (t : Fin cfg0.N) : Fin 4 := ⟨t.val % 4, Nat.mod_lt _ (by norm_num)⟩

theorem coord0 (t : Fin cfg0.N) : ((grid0.coords t) 0).val = t.val / 4 :=
  (Pipeline.Grid.coords_val t 0 (by decide) rfl).trans (Nat.mod_eq_of_lt (blockNo t).isLt)
theorem coord1 (t : Fin cfg0.N) : ((grid0.coords t) 1).val = t.val % 4 :=
  (Pipeline.Grid.coords_val t 1 (by decide) rfl).trans (congrArg (· % 4) (Nat.div_one _))

theorem word_small : ∀ k : Fin 4, (BitVec.ofNat 32 k.val).toNat = k.val := by decide

theorem off_row (t : Fin cfg0.N) : k0_off1 (grid0.coords t) = ![t.val % 4, 0] := by
  show ![(BitVec.ofNat 32 ((grid0.coords t) 1).val).toNat, 0] = _
  rw [coord1, word_small (partNo t)]

/-- The row of slots read at a point is the part's. -/
theorem slots0 (c : Dev nD) (t : Fin cfg0.N) (r : Fin 1024) :
    View.ld (iblk m c 0 t) (row (grid0.coords t)) (ix2 0 r) = m ((c : Thread nD τ).loc main_arg0) (ix2 (partNo t) r) := by
  show m ((c : Thread nD τ).loc main_arg0) (((cfg0.win 0).blk t).view.emb ((row (grid0.coords t)).idx (ix2 0 r))) = _
  refine congrArg _ (funext fun a => Fin.ext ?_)
  refine (Pipeline.Window.rect_emb_val_of_index_zero win0_0 t a (by match a with | ⟨0, _⟩ => rfl | ⟨1, _⟩ => rfl) _).trans ?_
  show k0_off1 (grid0.coords t) a + 1 * ((ix2 0 r : S1x1024.Idx) a).val = _
  rw [off_row]
  match a with
  | ⟨0, _⟩ => show t.val % 4 + 1 * 0 = t.val % 4; omega
  | ⟨1, _⟩ => show 0 + 1 * r.val = r.val; omega

theorem slots1 (c : Dev nD) (t : Fin cfg0.N) (r : Fin 1024) :
    View.ld (iblk m c 1 t) (row (grid0.coords t)) (ix2 0 r) = m ((c : Thread nD τ).loc main_arg1) (ix2 (partNo t) r) := by
  show m ((c : Thread nD τ).loc main_arg1) (((cfg0.win 1).blk t).view.emb ((row (grid0.coords t)).idx (ix2 0 r))) = _
  refine congrArg _ (funext fun a => Fin.ext ?_)
  refine (Pipeline.Window.rect_emb_val_of_index_zero win0_1 t a (by match a with | ⟨0, _⟩ => rfl | ⟨1, _⟩ => rfl) _).trans ?_
  show k0_off1 (grid0.coords t) a + 1 * ((ix2 0 r : S1x1024.Idx) a).val = _
  rw [off_row]
  match a with
  | ⟨0, _⟩ => show t.val % 4 + 1 * 0 = t.val % 4; omega
  | ⟨1, _⟩ => show 0 + 1 * r.val = r.val; omega

theorem tokens2 (c : Dev nD) (t : Fin cfg0.N) (r : Fin 1024) (d : Fin 2048) :
    iblk m c 2 t (ix2 r d) = m ((c : Thread nD τ).loc main_arg2) (ix2 ⟨(partNo t).val * 1024 + r.val, by omega⟩ d) := by
  show m ((c : Thread nD τ).loc main_arg2) (((cfg0.win 2).blk t).view.emb (ix2 r d)) = _
  refine congrArg _ (funext fun a => Fin.ext ?_)
  refine (Pipeline.Window.rect_emb_val win0_2 t (ix2 r d) a).trans ?_
  match a with
  | ⟨0, _⟩ =>
    show (BitVec.ofNat 32 ((grid0.coords t) 1).val).toNat * 1024 + r.val = _
    rw [coord1, word_small (partNo t)]
  | ⟨1, _⟩ => show 0 * 2048 + d.val = d.val; omega

theorem tokens3 (c : Dev nD) (t : Fin cfg0.N) (r : Fin 1024) (d : Fin 2048) :
    iblk m c 3 t (ix2 r d) = m ((c : Thread nD τ).loc main_arg3) (ix2 ⟨(partNo t).val * 1024 + r.val, by omega⟩ d) := by
  show m ((c : Thread nD τ).loc main_arg3) (((cfg0.win 3).blk t).view.emb (ix2 r d)) = _
  refine congrArg _ (funext fun a => Fin.ext ?_)
  refine (Pipeline.Window.rect_emb_val win0_3 t (ix2 r d) a).trans ?_
  match a with
  | ⟨0, _⟩ =>
    show (BitVec.ofNat 32 ((grid0.coords t) 1).val).toNat * 1024 + r.val = _
    rw [coord1, word_small (partNo t)]
  | ⟨1, _⟩ => show 0 * 2048 + d.val = d.val; omega

/-- The contribution of a point. -/
theorem pay2_part (c : Dev nD) (t : Fin cfg0.N) (j : Fin 640) (d : Fin 2048) :
    k0_pay2 (F := Ideal) (grid0.coords t) c (View.ld (iblk m c 0 t) (row (grid0.coords t))) (View.ld (iblk m c 1 t) (row (grid0.coords t)))
      (iblk m c 2 t) (iblk m c 3 t) (ix2 j d) = partOf m c (blockNo t) (partNo t) j d := by
  refine (pay2_apply (grid0.coords t) c (blockNo t) (coord0 t) _ _ _ _ j d).trans ?_
  unfold partOf part
  refine congr (congrArg (fun (a b : EReal) => a + b) ?_) ?_
  · refine Finset.sum_congr rfl fun r _ => ?_
    rw [slots0, tokens2]
  · refine Finset.sum_congr rfl fun r _ => ?_
    rw [slots1, tokens3]

theorem first_point (c : Dev nD) (t : Fin cfg0.N) (h : t.val % 4 = 0) (j : Fin 640) (d : Fin 2048) :
    outsAt0 m c t.val t.isLt (ix3 0 j d) = partOf m c (blockNo t) (partNo t) j d := by
  rw [outsAt0_A m c t h (by omega), out_first]
  refine Eq.trans ?_ (pay2_part m c t j d)
  exact shapeCast_addUnit_apply ![640, 2048] (k0_pay2 (F := Ideal) (grid0.coords t) c _ _ _ _) shapeCasts_S640x2048_S1x640x2048 (ix3 0 j d)

theorem next_point (c : Dev nD) (t : Fin cfg0.N) (h : ¬t.val % 4 = 0) (j : Fin 640) (d : Fin 2048) :
    outsAt0 m c t.val t.isLt (ix3 0 j d)
      = outsAt0 m c (t.val - 1) (Nat.lt_of_le_of_lt (Nat.sub_le _ _) t.isLt) (ix3 0 j d) + partOf m c (blockNo t) (partNo t) j d := by
  rw [outsAt0_B m c t h (by omega), out_next, pay1_apply]
  exact congrArg (fun a : EReal => outsAt0 m c (t.val - 1) (Nat.lt_of_le_of_lt (Nat.sub_le _ _) t.isLt) (ix3 0 j d) + a) (pay2_part m c t j d)

/-- What a block holds once all its parts are in. -/
theorem last_point (c : Dev nD) (t : Fin cfg0.N) (h : t.val % 4 = 3) (j : Fin 640) (d : Fin 2048) :
    outsAt0 m c t.val t.isLt (ix3 0 j d) = ∑ k : Fin 4, partOf m c (blockNo t) k j d := by
  have hN := lt16 t
  have e : cfg0.N = 16 := N_0
  have h0 := first_point m c ⟨t.val - 3, by omega⟩ (show (t.val - 3) % 4 = 0 by omega) j d
  have h1 := next_point m c ⟨t.val - 2, by omega⟩ (show ¬(t.val - 2) % 4 = 0 by omega) j d
  have h2 := next_point m c ⟨t.val - 1, by omega⟩ (show ¬(t.val - 1) % 4 = 0 by omega) j d
  have h3 := next_point m c t (by omega) j d
  have b0 : blockNo ⟨t.val - 3, by omega⟩ = blockNo t := Fin.ext (show (t.val - 3) / 4 = t.val / 4 by omega)
  have b1 : blockNo ⟨t.val - 2, by omega⟩ = blockNo t := Fin.ext (show (t.val - 2) / 4 = t.val / 4 by omega)
  have b2 : blockNo ⟨t.val - 1, by omega⟩ = blockNo t := Fin.ext (show (t.val - 1) / 4 = t.val / 4 by omega)
  have p0 : partNo ⟨t.val - 3, by omega⟩ = 0 := Fin.ext (show (t.val - 3) % 4 = 0 by omega)
  have p1 : partNo ⟨t.val - 2, by omega⟩ = 1 := Fin.ext (show (t.val - 2) % 4 = 1 by omega)
  have p2 : partNo ⟨t.val - 1, by omega⟩ = 2 := Fin.ext (show (t.val - 1) % 4 = 2 by omega)
  have p3 : partNo t = 3 := Fin.ext h
  rw [b0, p0] at h0
  rw [b1, p1] at h1
  rw [b2, p2] at h2
  rw [p3] at h3
  rw [Fin.sum_univ_four, h3]
  refine congrArg (fun a : EReal => a + _) (h2.trans (congrArg (fun a : EReal => a + _) (Eq.trans ?_ (h1.trans (congrArg (fun a : EReal => a + _) (Eq.trans ?_ h0))))))
  · exact congr_fun (by congr 1) _
  · exact congr_fun (by congr 1) _

/-- All parts of an entry. -/
def total (c : Dev nD) (i : S4x640x2048.Idx) : EReal := ∑ k : Fin 4, partOf m c (i 0) k (i 1) (i 2)

/-- The array after the run. -/
theorem array (c : Dev nD) (i : S4x640x2048.Idx) :
    (dats m 0 c).arrAt 4 cfg0.N i = total m c i := by
  refine congrFun ((dats m 0 c).arrAt_eq_of_covers 4 (total m c) (by decide +kernel) fun t hf y => ?_) i
  have hm : t.val % 4 = 3 := (flush0_4 t).1 hf
  rw [after0_4]
  obtain ⟨a, j, d, rfl⟩ : ∃ (a : Fin 1) (j : Fin 640) (d : Fin 2048), y = ix3 a j d := ⟨y 0, y 1, y 2, eq_ix3 y⟩
  obtain rfl : a = 0 := Subsingleton.elim _ _
  refine (last_point m c t hm j d).trans ?_
  have key : ((cfg0.win 4).blk t).view.emb (ix3 0 j d) = ix3 (blockNo t) j d := by
    refine funext fun a => Fin.ext ((Pipeline.Window.rect_emb_val win0_4 t (ix3 0 j d) a).trans ?_)
    match a with
    | ⟨0, _⟩ =>
      show (BitVec.ofNat 32 ((grid0.coords t) 0).val).toNat * 1 + 0 = t.val / 4
      rw [coord0, word_small (blockNo t)]
      exact Nat.mul_one (t.val / 4)
    | ⟨1, _⟩ => show 0 * 640 + j.val = j.val; omega
    | ⟨2, _⟩ => show 0 * 2048 + d.val = d.val; omega
  exact (congrArg (total m c) key).symm

end Cert.GatherArray

end
-- ==== Proof.SlotSums.lean ====
/-
# The slots' sums

The reference of the gather, entry by entry: the rows of the tokens of both halves whose slot is the entry's, added up, in
the order of the parts.
-/
module

public import proofs.«01_k».proof.Proof.Gen.SlotSumsIdeal.Run
public import proofs.«01_k».proof.Proof.OneHot
public import Idealize.ShloMosaic.Lib.Pointwise

@[expose] public section

noncomputable section

namespace Cert.SlotSums

open Cert.SlotSumsIdeal Idealize.ShloMosaic.TcCoe Idealize.ShloMosaic.ValueIdx
open Idealize.ShloMosaic hiding ix1 ix2 ix3 ix4
open scoped BigOperators

/-- A small number as a word, read signed, is the number; and no other word reads so. -/
theorem word_iff (s : BitVec 32) (n : ℕ) (hn : n < 5120) : s.toInt = (n : ℤ) ↔ BitVec.ofNat 32 n = s := by
  have e : (BitVec.ofNat 32 n).toInt = (n : ℤ) := by
    rw [BitVec.toInt_eq_toNat_of_lt (by rw [BitVec.toNat_ofNat]; omega), BitVec.toNat_ofNat]
    omega
  constructor
  · intro h
    exact BitVec.eq_of_toInt_eq (e.trans h.symm)
  · rintro rfl
    exact e

section
variable [Facts₀]
open Facts₀

/-- The slots of all the tokens, and the tokens' rows. -/
abbrev slots (A B : S4x1024.Idx → BitVec 32) : S8192x1.Idx → BitVec 32 :=
  broadcastInDim S8192x1 ![0] bcast_S8192_S8192x1_0 (concatenate S8192 0 [⟨S4096, shapeCast _ A shapeCasts_S4x1024_S4096⟩, ⟨S4096, shapeCast _ B shapeCasts_S4x1024_S4096⟩] concatenates_S4096_S4096_S8192_d0)
abbrev tokens (X Y : S4096x2048.Idx → EReal) : S8192x2048.Idx → EReal :=
  concatenate S8192x2048 0 [⟨S4096x2048, X⟩, ⟨S4096x2048, Y⟩] concatenates_S4096x2048_S4096x2048_S8192x2048_d0

theorem slots_mine (A B : S4x1024.Idx → BitVec 32) (k : Fin 4) (r : Fin 1024) :
    slots A B (ix2 ⟨k.val * 1024 + r.val, by omega⟩ 0) = A (ix2 k r) := by
  refine (broadcastInDim_apply _ _ _ _ (ix1 ⟨k.val * 1024 + r.val, by omega⟩) fun a => ?_).trans ?_
  · match a with | ⟨0, _⟩ => rfl
  refine (concatenate_pair_apply_left (t := S8192) (s₁ := S4096) (s₂ := S4096) 0 _ _ _ _ rfl (ix1 ⟨k.val * 1024 + r.val, by omega⟩) fun b => ?_).trans ?_
  · match b with | ⟨0, _⟩ => rfl
  refine shapeCast_apply A _ _ (ix2 k r) ?_
  rw [rowMajor_val1, rowMajor_val2 _ 1024 rfl]

theorem slots_other (A B : S4x1024.Idx → BitVec 32) (k : Fin 4) (r : Fin 1024) :
    slots A B (ix2 ⟨4096 + (k.val * 1024 + r.val), by omega⟩ 0) = B (ix2 k r) := by
  refine (broadcastInDim_apply _ _ _ _ (ix1 ⟨4096 + (k.val * 1024 + r.val), by omega⟩) fun a => ?_).trans ?_
  · match a with | ⟨0, _⟩ => rfl
  refine (concatenate_pair_apply_right (t := S8192) (s₁ := S4096) (s₂ := S4096) 0 _ _ _ _ rfl rfl (ix1 ⟨k.val * 1024 + r.val, by omega⟩) (fun b hb => ?_) (Nat.add_comm _ _)).trans ?_
  · exact absurd (Subsingleton.elim _ _) hb
  refine shapeCast_apply B _ _ (ix2 k r) ?_
  rw [rowMajor_val1, rowMajor_val2 _ 1024 rfl]

theorem tokens_mine (X Y : S4096x2048.Idx → EReal) (q : Fin 4096) (d : Fin 2048) :
    tokens X Y (ix2 ⟨q.val, by omega⟩ d) = X (ix2 q d) :=
  concatenate_pair_apply_left (t := S8192x2048) (s₁ := S4096x2048) (s₂ := S4096x2048) 0 _ _ _ _ rfl (ix2 q d) fun b => by
    match b with | ⟨0, _⟩ => rfl | ⟨1, _⟩ => rfl

theorem tokens_other (X Y : S4096x2048.Idx → EReal) (q : Fin 4096) (d : Fin 2048) :
    tokens X Y (ix2 ⟨4096 + q.val, by omega⟩ d) = Y (ix2 q d) :=
  concatenate_pair_apply_right (t := S8192x2048) (s₁ := S4096x2048) (s₂ := S4096x2048) 0 _ _ _ _ rfl rfl (ix2 q d)
    (fun b hb => by match b with | ⟨0, _⟩ => exact absurd rfl hb | ⟨1, _⟩ => rfl) (Nat.add_comm _ _)

/-- The sum in slot `n`, part by part. -/
theorem slot_sum (A B : S4x1024.Idx → BitVec 32) (X Y : S4096x2048.Idx → EReal) (n : Fin 5120) (d : Fin 2048) :
    Host.scatterAdd (F := Ideal) scatter_S5120x2048_S8192x1_S8192x2048_1_0_0_1 (broadcastInDim S5120x2048 ![] bcast_S_S5120x2048 (constant (F := Ideal) S_ .f32 0x00000000#32))
        (slots A B) (extf (F := Ideal) .f32 (tokens X Y : FVec Ideal S8192x2048 .bf16) bitsLt_bf16_f32) (ix2 n d)
      = ∑ k : Fin 4, ((∑ r : Fin 1024, if BitVec.ofNat 32 n.val = A (ix2 k r) then X (ix2 ⟨k.val * 1024 + r.val, by omega⟩ d) else 0)
          + ∑ r : Fin 1024, if BitVec.ofNat 32 n.val = B (ix2 k r) then Y (ix2 ⟨k.val * 1024 + r.val, by omega⟩ d) else 0) := by
  refine (OneHot.scatter_rows (N := 5120) (R := 8192) (C := 2048) _ rfl rfl rfl rfl _ _ _ n d).trans ?_
  rw [show (broadcastInDim S5120x2048 ![] bcast_S_S5120x2048 (constant (F := Ideal) S_ .f32 0x00000000#32) : S5120x2048.Idx → EReal) (ix2 n d) = 0 from Ideal.ofBits_zero_f32, zero_add]
  rw [OneHot.sum_halves 4096 8192 (by norm_num), OneHot.sum_groups 4 1024 4096 (by norm_num), OneHot.sum_groups 4 1024 4096 (by norm_num), ← Finset.sum_add_distrib]
  refine Finset.sum_congr rfl fun k _ => congr (congrArg (fun (a b : EReal) => a + b) ?_) ?_
  · refine Finset.sum_congr rfl fun r _ => ?_
    refine if_congr ((word_iff _ n.val n.isLt).trans (by rw [slots_mine])) ?_ rfl
    exact tokens_mine X Y ⟨k.val * 1024 + r.val, by omega⟩ d
  · refine Finset.sum_congr rfl fun r _ => ?_
    refine if_congr ((word_iff _ n.val n.isLt).trans (by rw [slots_other])) ?_ rfl
    exact tokens_other X Y ⟨k.val * 1024 + r.val, by omega⟩ d

/-- The rows regrouped: block `4y + e`, row `j` is slot `1280e + 640y + j`. -/
theorem regroup (Z : S5120x2048.Idx → EReal) (b : Fin 8) (j : Fin 640) (d : Fin 2048) :
    shapeCast S8x640x2048 (transpose S2x4x640x2048 [1, 0, 2, 3] (shapeCast S4x2x640x2048 Z shapeCasts_S5120x2048_S4x2x640x2048) transposes_S4x2x640x2048_S2x4x640x2048_1_0_2_3) shapeCasts_S2x4x640x2048_S8x640x2048 (ix3 b j d)
      = Z (ix2 ⟨b.val % 4 * 1280 + b.val / 4 * 640 + j.val, by omega⟩ d) := by
  let k : S2x4x640x2048.Idx := ix4 ⟨b.val / 4, by omega⟩ ⟨b.val % 4, by omega⟩ j d
  let k' : S4x2x640x2048.Idx := ix4 ⟨b.val % 4, by omega⟩ ⟨b.val / 4, by omega⟩ j d
  refine (shapeCast_apply _ _ _ k ?_).trans ((transpose_apply _ _ _ k k' ?_).trans (shapeCast_apply _ _ _ _ ?_))
  · rw [rowMajor_val4 k 5242880 1310720 2048 (by decide) (by decide) (by decide), rowMajor_val3 _ 1310720 2048 (by decide) (by decide)]
    show b.val / 4 * _ + b.val % 4 * _ + j.val * _ + d.val = b.val * _ + j.val * _ + d.val
    omega
  · intro a
    match a with
    | ⟨0, _⟩ => rfl
    | ⟨1, _⟩ => rfl
    | ⟨2, _⟩ => rfl
    | ⟨3, _⟩ => rfl
  · rw [rowMajor_val4 k' 2621440 1310720 2048 (by decide) (by decide) (by decide), rowMajor_val2 _ 2048 rfl]
    show (b.val % 4 * 1280 + b.val / 4 * 640 + j.val) * _ + d.val = b.val % 4 * _ + b.val / 4 * _ + j.val * _ + d.val
    omega

end

end Cert.SlotSums

end
-- ==== Proof.ClaimsGather.lean ====
/-
# The gather: the claims

The frames of the program, of its twin and of the reference, and the value: device `y` ends with the blocks of the slots'
sums whose rows are its half of each expert's slots.
-/
module

public import proofs.«01_k».proof.Defs
public import proofs.«01_k».proof.Proof.Halves
public import proofs.«01_k».proof.Proof.GatherArray
public import proofs.«01_k».proof.Proof.SlotSums
public import proofs.«01_k».proof.Proof.Gen.Gather.Frame

@[expose] public section

noncomputable section

namespace Cert.ClaimsGather

open Idealize.ShloMosaic.TcCoe Idealize.SL.Sem Idealize.ShloMosaic.ValueIdx
open Idealize.ShloMosaic hiding ix1 ix2 ix3 ix4 eq_ix3
open scoped BigOperators

theorem frame_program : Cert.quiescent_Gather := fun m ρ _ => Cert.Gather.Gen.frame m ρ
theorem frame_twin : Cert.quiescent_GatherIdeal := fun m ρ _ => Cert.GatherIdeal.Gen.frame m ρ
theorem frame_reference : Cert.quiescent_SlotSumsIdeal := fun m ρ _ =>
  (θ_run Cert.SlotSumsIdeal.defs _ _).mono (fun r h => ⟨fun c => (h c).2, sem_eq_zero_of_no_sems (by decide) r.2⟩)
    (Cert.SlotSumsIdeal.Value.run m ρ)

/-- The reference's result as a function of its operands. -/
abbrev result [Cert.SlotSumsIdeal.Facts₀] (A B : (⟨2, ![4, 1024]⟩ : Shape).Idx → BitVec 32) (X Y : (⟨2, ![4096, 2048]⟩ : Shape).Idx → EReal) :
    (⟨3, ![8, 640, 2048]⟩ : Shape).Idx → EReal :=
  shapeCast Cert.SlotSumsIdeal.S8x640x2048 (transpose Cert.SlotSumsIdeal.S2x4x640x2048 [1, 0, 2, 3] (shapeCast Cert.SlotSumsIdeal.S4x2x640x2048
    (Host.scatterAdd (F := Ideal) (φ := .f32) Cert.SlotSumsIdeal.scatter_S5120x2048_S8192x1_S8192x2048_1_0_0_1 (broadcastInDim Cert.SlotSumsIdeal.S5120x2048 ![] Cert.SlotSumsIdeal.Facts₀.bcast_S_S5120x2048 (constant (F := Ideal) Cert.SlotSumsIdeal.S_ .f32 0x00000000#32))
        (Cert.SlotSums.slots A B) (extf (F := Ideal) .f32 (Cert.SlotSums.tokens X Y : FVec Ideal Cert.SlotSumsIdeal.S8192x2048 .bf16) Cert.SlotSumsIdeal.Facts₀.bitsLt_bf16_f32))
      Cert.SlotSumsIdeal.Facts₀.shapeCasts_S5120x2048_S4x2x640x2048) Cert.SlotSumsIdeal.Facts₀.transposes_S4x2x640x2048_S2x4x640x2048_1_0_2_3) Cert.SlotSumsIdeal.Facts₀.shapeCasts_S2x4x640x2048_S8x640x2048

/-- Device `y`'s block of the reference's result, at an entry: all the parts of it. -/
theorem block_entry [Cert.SlotSumsIdeal.Facts₀] (c : Fin 2) (A B : (⟨2, ![4, 1024]⟩ : Shape).Idx → BitVec 32) (X Y : (⟨2, ![4096, 2048]⟩ : Shape).Idx → EReal)
    (ht : Layout.Tiles ⟨3, ![4, 640, 2048]⟩ ⟨3, ![8, 640, 2048]⟩ 0 2) (e : Fin 4) (j : Fin 640) (d : Fin 2048) :
    Layout.block ⟨3, ![4, 640, 2048]⟩ ⟨3, ![8, 640, 2048]⟩ 0 2 c (result A B X Y) ht (ix3 e j d)
      = ∑ k : Fin 4, Cert.GatherArray.part A B X Y c.val e k j d := by
  rw [Layout.block_apply]
  have hi : ht.idx c (ix3 e j d) = ix3 ⟨c.val * 4 + e.val, by omega⟩ j d := by
    funext a
    refine Fin.ext ?_
    match a with
    | ⟨0, _⟩ => exact Halves.idx_first ht c (ix3 e j d)
    | ⟨1, _⟩ => exact Halves.idx_other ht c (ix3 e j d) 0
    | ⟨2, _⟩ => exact Halves.idx_other ht c (ix3 e j d) 1
  rw [hi]
  refine (Cert.SlotSums.regroup _ ⟨c.val * 4 + e.val, by omega⟩ j d).trans ?_
  have hn : (⟨(c.val * 4 + e.val) % 4 * 1280 + (c.val * 4 + e.val) / 4 * 640 + j.val, by omega⟩ : Fin 5120)
      = ⟨e.val * 1280 + c.val * 640 + j.val, by omega⟩ := Fin.ext (show (c.val * 4 + e.val) % 4 * 1280 + (c.val * 4 + e.val) / 4 * 640 + j.val = e.val * 1280 + c.val * 640 + j.val by omega)
  refine (congrArg (fun n : Fin 5120 => _) hn).trans ?_
  rw [hn]
  exact Cert.SlotSums.slot_sum A B X Y ⟨e.val * 1280 + c.val * 640 + j.val, by omega⟩ d

/-- Each device's result is its block of the reference's. -/
theorem values : Cert.algebraic_GatherIdeal_SlotSumsIdeal := by
  intro m g m' g' _ hm
  refine ⟨_, (θ_run Cert.GatherIdeal.defs _ _).mono (fun r h c => ⟨?_, (h c).2⟩) (Cert.GatherIdeal.Value.run_blocks m g),
    (θ_run Cert.SlotSumsIdeal.defs _ _).mono (fun r h => h 0) (Cert.SlotSumsIdeal.Value.run m' g')⟩
  refine (h c).1.trans (funext fun i => ?_)
  obtain ⟨h0, h1, h2, h3⟩ := hm c
  refine (Cert.GatherArray.array m c i).trans ?_
  unfold Cert.GatherArray.total Cert.GatherArray.partOf
  rw [h0, h1, h2, h3]
  obtain ⟨e, j, d, rfl⟩ : ∃ (e : Fin 4) (j : Fin 640) (d : Fin 2048), i = ix3 e j d := ⟨i 0, i 1, i 2, eq_ix3 i⟩
  exact (block_entry c _ _ _ _ _ e j d).symm

end Cert.ClaimsGather

end
-- ==== Proof.ScatterPoint.lean ====
/-
# One step of the scatter

What the scatter's body leaves in its block at a grid point, entry by entry: the rows of the point's expert whose slot is
the token's, added up, on top of what the block held when the point is not the first of its block.
-/
module

public import proofs.«01_k».proof.Proof.Gen.ScatterIdeal.Value
public import proofs.«01_k».proof.Proof.OneHot
public import Idealize.ShloMosaic.Lib.WholeRead
public import Idealize.ShloMosaic.Lib.Pointwise

@[expose] public section

noncomputable section

namespace Cert.ScatterPoint

open Cert.ScatterIdeal Cert.ScatterIdeal.Gen Idealize.ShloMosaic.TcCoe Idealize.ShloMosaic.ValueIdx
open Idealize.ShloMosaic hiding ix1 ix2 ix3 ix4 eq_ix2 eq_ix3
open scoped BigOperators

variable {F : FTy → Type} [FloatOps F]

/-- The row of slots the body reads at a grid point. -/
abbrev row (i : grid0.Coords) : Rect S8x1024 := Rect.unit (s := S8x1024) (k0_off1 i) S1x1024.size (k0_off1_inb i)

theorem zero2 : (![0, 0] : Fin 2 → ℕ) = fun _ => 0 := by funext a; fin_cases a <;> rfl
theorem zero3 : (![0, 0, 0] : Fin 3 → ℕ) = fun _ => 0 := by funext a; fin_cases a <;> rfl

/-- What the first point of a block leaves. -/
theorem out_first (c : Dev nD) (i : grid0.Coords) (arg2 : Memref sig .tc .vmem S8x1024 .i32) (harg2 : arg2.IsWhole) (arg3 : Memref sig .tc .vmem S1x640x2048 .bf16) (harg3 : arg3.IsWhole) (arg4 : Memref sig .tc .vmem S1x640x2048 .bf16) (harg4 : arg4.IsWhole) (arg5 : Memref sig .tc .vmem S1024x2048 .bf16) (harg5 : arg5.IsWhole) (hc0 : cond0_0 i) (hc1 : ¬cond0_1 i)
    (x0 : Vec F S8x1024 .i32) (x1 : Vec F S1x640x2048 .bf16) (x2 : Vec F S1x640x2048 .bf16) :
    out0_A_3 c i arg2 harg2 arg3 harg3 arg4 harg4 arg5 harg5 hc0 hc1 x0 x1 x2
      = k0_pay1 (k0_pay3 i c (View.ld x0 (row i)) x1 x2) := by
  have e0 : View.readAt (Elt F) arg2.view (row i).toLoadRect (harg2.unread x0) = View.ld x0 (row i) := funext fun y => harg2.readAt_unread x0 _ y
  have e1 : View.readAt (Elt F) arg3.view (Rect.unit (s := S1x640x2048) ![0, 0, 0] S1x640x2048.size inb_S1x640x2048_S1x640x2048_0_0_0).toLoadRect (harg3.unread x1) = x1 :=
    (funext fun y => harg3.readAt_unread x1 _ y).trans (View.ld_unit_zero zero3 inb_S1x640x2048_S1x640x2048_0_0_0 x1)
  have e2 : View.readAt (Elt F) arg4.view (Rect.unit (s := S1x640x2048) ![0, 0, 0] S1x640x2048.size inb_S1x640x2048_S1x640x2048_0_0_0).toLoadRect (harg4.unread x2) = x2 :=
    (funext fun y => harg4.readAt_unread x2 _ y).trans (View.ld_unit_zero zero3 inb_S1x640x2048_S1x640x2048_0_0_0 x2)
  unfold out0_A_3
  rw [View.read_writes_eq_canon _ _ _ (cover0_A_3 c i arg2 harg2 arg3 harg3 arg4 harg4 arg5 harg5 hc0 hc1 x0 x1 x2)]
  unfold kernelRun0_A
  dsimp only
  refine (View.canon_unit_zero zero2 inb_S1024x2048_S1024x2048_0_0 _).trans ?_
  try unfold kernelRun0_A.sl.r
  rw [e0, e1, e2]

/-- What any other point leaves. -/
theorem out_next (c : Dev nD) (i : grid0.Coords) (arg2 : Memref sig .tc .vmem S8x1024 .i32) (harg2 : arg2.IsWhole) (arg3 : Memref sig .tc .vmem S1x640x2048 .bf16) (harg3 : arg3.IsWhole) (arg4 : Memref sig .tc .vmem S1x640x2048 .bf16) (harg4 : arg4.IsWhole) (arg5 : Memref sig .tc .vmem S1024x2048 .bf16) (harg5 : arg5.IsWhole) (hc0 : ¬cond0_0 i) (hc1 : cond0_1 i)
    (x0 : Vec F S8x1024 .i32) (x1 : Vec F S1x640x2048 .bf16) (x2 : Vec F S1x640x2048 .bf16) (xo3 : Vec F S1024x2048 .bf16) :
    out0_B_3 c i arg2 harg2 arg3 harg3 arg4 harg4 arg5 harg5 hc0 hc1 x0 x1 x2 xo3
      = k0_pay2 (k0_pay3 i c (View.ld x0 (row i)) x1 x2) xo3 := by
  have e0 : View.readAt (Elt F) arg2.view (row i).toLoadRect (harg2.unread x0) = View.ld x0 (row i) := funext fun y => harg2.readAt_unread x0 _ y
  have e1 : View.readAt (Elt F) arg3.view (Rect.unit (s := S1x640x2048) ![0, 0, 0] S1x640x2048.size inb_S1x640x2048_S1x640x2048_0_0_0).toLoadRect (harg3.unread x1) = x1 :=
    (funext fun y => harg3.readAt_unread x1 _ y).trans (View.ld_unit_zero zero3 inb_S1x640x2048_S1x640x2048_0_0_0 x1)
  have e2 : View.readAt (Elt F) arg4.view (Rect.unit (s := S1x640x2048) ![0, 0, 0] S1x640x2048.size inb_S1x640x2048_S1x640x2048_0_0_0).toLoadRect (harg4.unread x2) = x2 :=
    (funext fun y => harg4.readAt_unread x2 _ y).trans (View.ld_unit_zero zero3 inb_S1x640x2048_S1x640x2048_0_0_0 x2)
  have e3 : View.readAt (Elt F) arg5.view (Rect.unit (s := S1024x2048) ![0, 0] S1024x2048.size inb_S1024x2048_S1024x2048_0_0).toLoadRect (harg5.unread xo3) = xo3 :=
    (funext fun y => harg5.readAt_unread xo3 _ y).trans (View.ld_unit_zero zero2 inb_S1024x2048_S1024x2048_0_0 xo3)
  unfold out0_B_3
  rw [View.read_writes_eq_canon _ _ _ (cover0_B_3 c i arg2 harg2 arg3 harg3 arg4 harg4 arg5 harg5 hc0 hc1 x0 x1 x2 xo3)]
  unfold kernelRun0_B
  dsimp only
  refine (View.canon_unit_zero zero2 inb_S1024x2048_S1024x2048_0_0 _).trans ?_
  try unfold kernelRun0_B.sl.r
  rw [e0, e1, e2, e3]

/-- The first slot of a device's own half of an expert's slots, and of the other half, as the program works them out. -/
theorem own_word : ∀ (c : Fin 2) (e : Fin 4), Scalar.addi (Scalar.muli (BitVec.ofNat 32 e.val) 1280#32)
    (Scalar.muli (Scalar.remsi (Scalar.divsi (BitVec.ofNat 32 c.val) 1#32) 2#32) 640#32) = BitVec.ofNat 32 (e.val * 1280 + c.val * 640) := by decide
theorem recv_word : ∀ (c : Fin 2) (e : Fin 4), Scalar.addi (Scalar.muli (BitVec.ofNat 32 e.val) 1280#32)
    (Scalar.muli (Scalar.subi 1#32 (Scalar.remsi (Scalar.divsi (BitVec.ofNat 32 c.val) 1#32) 2#32)) 640#32)
      = BitVec.ofNat 32 (e.val * 1280 + (1 - c.val) * 640) := by decide

/-- A row of slots, read along the rows. -/
theorem slots_apply (v : Vec Ideal S1x1024 .i32) (a : Fin 1024) (k : Fin 640) :
    broadcastTo S1024x640 (shapeCast S1024x1 (shapeCast S1024 v shapeCasts_S1x1024_S1024) shapeCasts_S1024_S1024x1) broadcasts_S1024x1_S1024x640 (ix2 a k)
      = v (ix2 0 a) := by
  refine (broadcastTo_apply _ _ _ (ix2 a 0) fun b => ?_).trans ?_
  · match b with
    | ⟨0, _⟩ => rfl
    | ⟨1, _⟩ => rfl
  refine (shapeCast_apply _ _ _ (ix1 a) ?_).trans (shapeCast_apply _ _ _ (ix2 0 a) ?_)
  · rw [rowMajor_val1, rowMajor_val2 _ 1 rfl]
    show a.val = a.val * 1 + 0
    omega
  · rw [rowMajor_val1, rowMajor_val2 _ 1024 rfl]
    show 0 * 1024 + a.val = a.val
    omega

/-- A block of rows without its leading axis. -/
theorem rows_apply (x : Vec Ideal S1x640x2048 .bf16) (k : Fin 640) (d : Fin 2048) :
    shapeCast S640x2048 x shapeCasts_S1x640x2048_S640x2048 (ix2 k d) = x (ix3 0 k d) := by
  refine (shapeCast_dropUnit_apply ![640, 2048] x shapeCasts_S1x640x2048_S640x2048 (ix2 k d)).trans (congrArg x ?_)
  funext a
  match a with
  | ⟨0, _⟩ => rfl
  | ⟨1, _⟩ => rfl
  | ⟨2, _⟩ => rfl

/-- The point's contribution at an entry. -/
theorem pay3_apply (i : grid0.Coords) (c : Dev nD) (e : Fin 4) (he : (i 1).val = e.val) (v4 : Vec Ideal S1x1024 .i32) (v29 v32 : Vec Ideal S1x640x2048 .bf16)
    (a : Fin 1024) (d : Fin 2048) :
    k0_pay3 (F := Ideal) i c v4 v29 v32 (ix2 a d)
      = (∑ k : Fin 640, if v4 (ix2 0 a) = BitVec.ofNat 32 (e.val * 1280 + c.val * 640 + k.val) then v29 (ix3 0 k d) else 0)
        + ∑ k : Fin 640, if v4 (ix2 0 a) = BitVec.ofNat 32 (e.val * 1280 + (1 - c.val) * 640 + k.val) then v32 (ix3 0 k d) else 0 := by
  have hw : ∀ (w : BitVec 32) (n : ℕ), w = BitVec.ofNat 32 n → ∀ k : Fin 640,
      addi (broadcast S1024x640 w) (iota .tc S1024x640 32 [1] iota_S1024x640_d1_w32) (ix2 a k) = BitVec.ofNat 32 (n + k.val) := fun w n h k => by
    show w + iota .tc S1024x640 32 [1] iota_S1024x640_d1_w32 (ix2 a k) = _
    rw [h, iota_single_apply, BitVec.ofNat_add n k.val]
  have w1 : Scalar.addi (Scalar.muli (BitVec.ofNat 32 (i 1).val) 1280#32) (Scalar.muli (Scalar.remsi (Scalar.divsi c.word 1#32) 2#32) 640#32)
      = BitVec.ofNat 32 (e.val * 1280 + c.val * 640) := by rw [he]; exact own_word c e
  have w2 : Scalar.addi (Scalar.muli (BitVec.ofNat 32 (i 1).val) 1280#32) (Scalar.muli (Scalar.subi 1#32 (Scalar.remsi (Scalar.divsi c.word 1#32) 2#32)) 640#32)
      = BitVec.ofNat 32 (e.val * 1280 + (1 - c.val) * 640) := by rw [he]; exact recv_word c e
  have h1 := hw _ _ w1
  have h2 := hw _ _ w2
  unfold k0_pay3
  dsimp only
  refine congr (congrArg (fun (a b : EReal) => a + b) ?_) ?_
  · refine (OneHot.pick (M := 1024) (K := 640) (N := 2048) _ rfl _ _ _ natLt_1_32 bitsLt_bf16_f32 a d).trans (Finset.sum_congr rfl fun k _ => ?_)
    rw [slots_apply, rows_apply]
    exact if_congr (Eq.congr_right (h1 k)) rfl rfl
  · refine (OneHot.pick (M := 1024) (K := 640) (N := 2048) _ rfl _ _ _ natLt_1_32 bitsLt_bf16_f32 a d).trans (Finset.sum_congr rfl fun k _ => ?_)
    rw [slots_apply, rows_apply]
    exact if_congr (Eq.congr_right (h2 k)) rfl rfl

end Cert.ScatterPoint

end
-- ==== Proof.ScatterArray.lean ====
/-
# The scatter's array

After the run the array holds, at row `q` and column `d`, the column's entries of the rows of both halves whose slot is the
token's, added up expert by expert.
-/
module

public import proofs.«01_k».proof.Proof.ScatterPoint
public import Idealize.ShloMosaic.Lib.Pipeline.ValueKit.Geometry

@[expose] public section

noncomputable section

namespace Cert.ScatterArray

open Cert.ScatterIdeal Cert.ScatterIdeal.Gen Idealize.ShloMosaic.TcCoe Idealize.ShloMosaic.ValueIdx
open Idealize.ShloMosaic hiding ix1 ix2 ix3 ix4 eq_ix2 eq_ix3
open Cert.ScatterPoint
open scoped BigOperators

/-- What expert `e` gives to a token whose slot is `s` in column `d` on device `c`. -/
def part (s : BitVec 32) (X Y : S4x640x2048.Idx → EReal) (c : ℕ) (e : Fin 4) (d : Fin 2048) : EReal :=
  (∑ k : Fin 640, if s = BitVec.ofNat 32 (e.val * 1280 + c * 640 + k.val) then X (ix3 e k d) else 0)
    + ∑ k : Fin 640, if s = BitVec.ofNat 32 (e.val * 1280 + (1 - c) * 640 + k.val) then Y (ix3 e k d) else 0

variable (m : (ℓ : Loc nD τ sig) → Buf (Elt Ideal) ℓ)

/-- The part of a device's operands, for row `a` of block `r`. -/
abbrev partOf (c : Dev nD) (r : Fin 8) (e : Fin 4) (a : Fin 1024) (d : Fin 2048) : EReal :=
  part ((m ((c : Thread nD τ).loc main_arg0) : S8x1024.Idx → BitVec 32) (ix2 r a)) (m ((c : Thread nD τ).loc main_arg1)) (m ((c : Thread nD τ).loc main_arg2)) c.val e d

theorem lt32 (t : Fin cfg0.N) : t.val < 32 := lt_of_lt_of_eq t.isLt N_0
/-- The block a grid point works on, and the expert it reads. -/
abbrev blockNo (t : Fin cfg0.N) : Fin 8 := ⟨t.val / 4, by have := lt32 t; omega⟩
abbrev expertNo (t : Fin cfg0.N) : Fin 4 := ⟨t.val % 4, Nat.mod_lt _ (by norm_num)⟩

theorem coord0 (t : Fin cfg0.N) : ((grid0.coords t) 0).val = t.val / 4 :=
  (Pipeline.Grid.coords_val t 0 (by decide) rfl).trans (Nat.mod_eq_of_lt (blockNo t).isLt)
theorem coord1 (t : Fin cfg0.N) : ((grid0.coords t) 1).val = t.val % 4 :=
  (Pipeline.Grid.coords_val t 1 (by decide) rfl).trans (congrArg (· % 4) (Nat.div_one _))

theorem word4 : ∀ k : Fin 4, (BitVec.ofNat 32 k.val).toNat = k.val := by decide
theorem word8 : ∀ k : Fin 8, (BitVec.ofNat 32 k.val).toNat = k.val := by decide

theorem off_row (t : Fin cfg0.N) : k0_off1 (grid0.coords t) = ![t.val / 4, 0] := by
  show ![(BitVec.ofNat 32 ((grid0.coords t) 0).val).toNat, 0] = _
  rw [coord0, word8 (blockNo t)]

/-- The row of slots read at a point is the block's. -/
theorem slots0 (c : Dev nD) (t : Fin cfg0.N) (a : Fin 1024) :
    View.ld (iblk m c 0 t) (row (grid0.coords t)) (ix2 0 a) = m ((c : Thread nD τ).loc main_arg0) (ix2 (blockNo t) a) := by
  show m ((c : Thread nD τ).loc main_arg0) (((cfg0.win 0).blk t).view.emb ((row (grid0.coords t)).idx (ix2 0 a))) = _
  refine congrArg _ (funext fun b => Fin.ext ?_)
  refine (Pipeline.Window.rect_emb_val_of_index_zero win0_0 t b (by match b with | ⟨0, _⟩ => rfl | ⟨1, _⟩ => rfl) _).trans ?_
  show k0_off1 (grid0.coords t) b + 1 * ((ix2 0 a : S1x1024.Idx) b).val = _
  rw [off_row]
  match b with
  | ⟨0, _⟩ => show t.val / 4 + 1 * 0 = t.val / 4; omega
  | ⟨1, _⟩ => show 0 + 1 * a.val = a.val; omega

/-- The rows read at a point are the expert's. -/
theorem rows1 (c : Dev nD) (t : Fin cfg0.N) (k : Fin 640) (d : Fin 2048) :
    iblk m c 1 t (ix3 0 k d) = m ((c : Thread nD τ).loc main_arg1) (ix3 (expertNo t) k d) := by
  show m ((c : Thread nD τ).loc main_arg1) (((cfg0.win 1).blk t).view.emb (ix3 0 k d)) = _
  refine congrArg _ (funext fun b => Fin.ext ?_)
  refine (Pipeline.Window.rect_emb_val win0_1 t (ix3 0 k d) b).trans ?_
  match b with
  | ⟨0, _⟩ =>
    show (BitVec.ofNat 32 ((grid0.coords t) 1).val).toNat * 1 + 0 = t.val % 4
    rw [coord1, word4 (expertNo t)]
    exact Nat.mul_one (t.val % 4)
  | ⟨1, _⟩ => show 0 * 640 + k.val = k.val; omega
  | ⟨2, _⟩ => show 0 * 2048 + d.val = d.val; omega

theorem rows2 (c : Dev nD) (t : Fin cfg0.N) (k : Fin 640) (d : Fin 2048) :
    iblk m c 2 t (ix3 0 k d) = m ((c : Thread nD τ).loc main_arg2) (ix3 (expertNo t) k d) := by
  show m ((c : Thread nD τ).loc main_arg2) (((cfg0.win 2).blk t).view.emb (ix3 0 k d)) = _
  refine congrArg _ (funext fun b => Fin.ext ?_)
  refine (Pipeline.Window.rect_emb_val win0_2 t (ix3 0 k d) b).trans ?_
  match b with
  | ⟨0, _⟩ =>
    show (BitVec.ofNat 32 ((grid0.coords t) 1).val).toNat * 1 + 0 = t.val % 4
    rw [coord1, word4 (expertNo t)]
    exact Nat.mul_one (t.val % 4)
  | ⟨1, _⟩ => show 0 * 640 + k.val = k.val; omega
  | ⟨2, _⟩ => show 0 * 2048 + d.val = d.val; omega

/-- The contribution of a point. -/
theorem pay3_part (c : Dev nD) (t : Fin cfg0.N) (a : Fin 1024) (d : Fin 2048) :
    k0_pay3 (F := Ideal) (grid0.coords t) c (View.ld (iblk m c 0 t) (row (grid0.coords t))) (iblk m c 1 t) (iblk m c 2 t) (ix2 a d)
      = partOf m c (blockNo t) (expertNo t) a d := by
  refine (pay3_apply (grid0.coords t) c (expertNo t) (coord1 t) _ _ _ a d).trans ?_
  unfold partOf part
  rw [slots0]
  refine congr (congrArg (fun (a b : EReal) => a + b) ?_) ?_
  · exact Finset.sum_congr rfl fun k _ => by rw [rows1]
  · exact Finset.sum_congr rfl fun k _ => by rw [rows2]

theorem first_point (c : Dev nD) (t : Fin cfg0.N) (h : t.val % 4 = 0) (a : Fin 1024) (d : Fin 2048) :
    outsAt0 m c t.val t.isLt (ix2 a d) = partOf m c (blockNo t) (expertNo t) a d := by
  rw [outsAt0_A m c t h (by omega), out_first]
  exact pay3_part m c t a d

theorem next_point (c : Dev nD) (t : Fin cfg0.N) (h : ¬t.val % 4 = 0) (a : Fin 1024) (d : Fin 2048) :
    outsAt0 m c t.val t.isLt (ix2 a d)
      = outsAt0 m c (t.val - 1) (Nat.lt_of_le_of_lt (Nat.sub_le _ _) t.isLt) (ix2 a d) + partOf m c (blockNo t) (expertNo t) a d := by
  rw [outsAt0_B m c t h (by omega), out_next]
  unfold k0_pay2
  rw [shapeCast_self]
  exact congrArg (fun b : EReal => outsAt0 m c (t.val - 1) (Nat.lt_of_le_of_lt (Nat.sub_le _ _) t.isLt) (ix2 a d) + b) (pay3_part m c t a d)

/-- What a block holds once all the experts are in. -/
theorem last_point (c : Dev nD) (t : Fin cfg0.N) (h : t.val % 4 = 3) (a : Fin 1024) (d : Fin 2048) :
    outsAt0 m c t.val t.isLt (ix2 a d) = ∑ e : Fin 4, partOf m c (blockNo t) e a d := by
  have hN := lt32 t
  have e : cfg0.N = 32 := N_0
  have h0 := first_point m c ⟨t.val - 3, by omega⟩ (show (t.val - 3) % 4 = 0 by omega) a d
  have h1 := next_point m c ⟨t.val - 2, by omega⟩ (show ¬(t.val - 2) % 4 = 0 by omega) a d
  have h2 := next_point m c ⟨t.val - 1, by omega⟩ (show ¬(t.val - 1) % 4 = 0 by omega) a d
  have h3 := next_point m c t (by omega) a d
  have b0 : blockNo ⟨t.val - 3, by omega⟩ = blockNo t := Fin.ext (show (t.val - 3) / 4 = t.val / 4 by omega)
  have b1 : blockNo ⟨t.val - 2, by omega⟩ = blockNo t := Fin.ext (show (t.val - 2) / 4 = t.val / 4 by omega)
  have b2 : blockNo ⟨t.val - 1, by omega⟩ = blockNo t := Fin.ext (show (t.val - 1) / 4 = t.val / 4 by omega)
  have p0 : expertNo ⟨t.val - 3, by omega⟩ = 0 := Fin.ext (show (t.val - 3) % 4 = 0 by omega)
  have p1 : expertNo ⟨t.val - 2, by omega⟩ = 1 := Fin.ext (show (t.val - 2) % 4 = 1 by omega)
  have p2 : expertNo ⟨t.val - 1, by omega⟩ = 2 := Fin.ext (show (t.val - 1) % 4 = 2 by omega)
  have p3 : expertNo t = 3 := Fin.ext h
  rw [b0, p0] at h0
  rw [b1, p1] at h1
  rw [b2, p2] at h2
  rw [p3] at h3
  rw [Fin.sum_univ_four, h3]
  refine congrArg (fun a : EReal => a + _) (h2.trans (congrArg (fun a : EReal => a + _) (Eq.trans ?_ (h1.trans (congrArg (fun a : EReal => a + _) (Eq.trans ?_ h0))))))
  · exact congr_fun (by congr 1) _
  · exact congr_fun (by congr 1) _

/-- All the experts' parts of an entry. -/
def total (c : Dev nD) (i : S8192x2048.Idx) : EReal :=
  ∑ e : Fin 4, partOf m c ⟨(i 0).val / 1024, by have h : (i 0).val < 8192 := (i 0).isLt; omega⟩ e ⟨(i 0).val % 1024, Nat.mod_lt _ (by norm_num)⟩ (i 1)

/-- The array after the run. -/
theorem array (c : Dev nD) (i : S8192x2048.Idx) :
    (dats m 0 c).arrAt 3 cfg0.N i = total m c i := by
  refine congrFun ((dats m 0 c).arrAt_eq_of_covers 3 (total m c) (by decide +kernel) fun t hf y => ?_) i
  have hm : t.val % 4 = 3 := (flush0_3 t).1 hf
  have hN := lt32 t
  rw [after0_3]
  obtain ⟨a, d, rfl⟩ : ∃ (a : Fin 1024) (d : Fin 2048), y = ix2 a d := ⟨y 0, y 1, eq_ix2 y⟩
  refine (last_point m c t hm a d).trans ?_
  have key : ((cfg0.win 3).blk t).view.emb (ix2 a d) = ix2 ⟨t.val / 4 * 1024 + a.val, by omega⟩ d := by
    refine funext fun b => Fin.ext ((Pipeline.Window.rect_emb_val win0_3 t (ix2 a d) b).trans ?_)
    match b with
    | ⟨0, _⟩ =>
      show (BitVec.ofNat 32 ((grid0.coords t) 0).val).toNat * 1024 + a.val = t.val / 4 * 1024 + a.val
      rw [coord0, word8 (blockNo t)]
    | ⟨1, _⟩ => show 0 * 2048 + d.val = d.val; omega
  refine Eq.trans ?_ (congrArg (total m c) key).symm
  have hb : (⟨(t.val / 4 * 1024 + a.val) / 1024, by omega⟩ : Fin 8) = blockNo t := Fin.ext (show (t.val / 4 * 1024 + a.val) / 1024 = t.val / 4 by omega)
  have ha : (⟨(t.val / 4 * 1024 + a.val) % 1024, by omega⟩ : Fin 1024) = a := Fin.ext (show (t.val / 4 * 1024 + a.val) % 1024 = a.val by omega)
  show _ = ∑ e : Fin 4, partOf m c ⟨(t.val / 4 * 1024 + a.val) / 1024, _⟩ e ⟨(t.val / 4 * 1024 + a.val) % 1024, _⟩ d
  rw [hb, ha]

end Cert.ScatterArray

end
-- ==== Proof.SlotReads.lean ====
/-
# Reading the slots

The reference of the scatter, entry by entry: the row of the token's slot when the token has one, and nothing when it has
none.
-/
module

public import proofs.«01_k».proof.Proof.Gen.SlotReadsIdeal.Run
public import Idealize.ShloMosaic.Lib.Pointwise

@[expose] public section

noncomputable section

namespace Cert.SlotReads

open Cert.SlotReadsIdeal Idealize.ShloMosaic.TcCoe Idealize.ShloMosaic.ValueIdx
open Idealize.ShloMosaic hiding ix1 ix2 ix3 ix4 eq_ix2 eq_ix3

/-- The axes of a read of rows: of each of `A` pages of `N` rows, the rows numbered by a column of `R` numbers. -/
abbrev rowDims (A N R C : ℕ) (wf : GatherDims.WF ⟨3, ![A, N, C]⟩ ⟨2, ![R, 1]⟩ ⟨3, ![A, R, C]⟩ [0, 2] [1] [] [1] [] 1 ![A, 1, C]) :
    GatherDims ⟨3, ![A, N, C]⟩ ⟨2, ![R, 1]⟩ ⟨3, ![A, R, C]⟩ where
  offsetDims := [0, 2]
  collapsedSliceDims := [1]
  operandBatchingDims := []
  startIndicesBatchingDims := []
  startIndexMap := [1]
  indexVectorDim := 1
  sliceSizes := ![A, 1, C]
  wf := wf

theorem two_ne_one : (2 : Fin 3) ≠ 1 := by decide

/-- Such a read, at an entry. -/
theorem rows_read {α : Type} {A N R C : ℕ} (hN : 0 < N)
    (wf : GatherDims.WF ⟨3, ![A, N, C]⟩ ⟨2, ![R, 1]⟩ ⟨3, ![A, R, C]⟩ [0, 2] [1] [] [1] [] 1 ![A, 1, C])
    (x : (⟨3, ![A, N, C]⟩ : Shape).Idx → α) (s : IVec ⟨2, ![R, 1]⟩ 32) (b : Fin A) (q : Fin R) (d : Fin C) :
    Host.gather (rowDims A N R C wf) x s (ix3 b q d) = x (ix3 b ⟨min (s (ix2 q 0)).toInt.toNat (N - 1), by omega⟩ d) := by
  unfold Host.gather
  congr 1
  funext a
  refine Fin.ext ?_
  show (rowDims A N R C wf).start (ix3 b q d) s a + (rowDims A N R C wf).batchCoord (ix3 b q d) a
      + (rowDims A N R C wf).offCoord (ix3 b q d) a = _
  rw [GatherDims.batchCoord_eq_zero _ _ _ (fun h => absurd h List.not_mem_nil), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hs : (rowDims A N R C wf).start (ix3 b q d) s 0 = 0 := by
      unfold GatherDims.start
      exact dif_neg fun h => absurd (List.mem_singleton.1 h) zero_ne_one
    rw [hs, Nat.zero_add]
    unfold GatherDims.offCoord
    rw [dif_pos ((GatherDims.mem_sKept _ _).2 ⟨fun h => absurd (List.mem_singleton.1 h) zero_ne_one, fun h => absurd h List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ (rowDims A N R C wf).startIndexMap from List.mem_singleton.mpr rfl)]
    have hsi : (rowDims A N R C wf).siIdx (ix3 b q d) ⟨List.idxOf (1 : Fin 3) (rowDims A N R C wf).startIndexMap,
        List.idxOf_lt_length_iff.2 (List.mem_singleton.mpr rfl)⟩ = ix2 q 0 := by
      funext e; refine Fin.ext ?_
      match e with
      | ⟨0, _⟩ => rfl
      | ⟨1, _⟩ => rfl
    rw [hsi]
    rfl
  · have hs : (rowDims A N R C wf).start (ix3 b q d) s 2 = 0 := by
      unfold GatherDims.start
      exact dif_neg fun h => absurd (List.mem_singleton.1 h) two_ne_one
    rw [hs, Nat.zero_add]
    unfold GatherDims.offCoord
    rw [dif_pos ((GatherDims.mem_sKept _ _).2 ⟨fun h => absurd (List.mem_singleton.1 h) two_ne_one, fun h => absurd h List.not_mem_nil⟩)]
    rfl

section
variable [Facts₀]
open Facts₀

/-- The first page of a pair of pages of rows, and the second. -/
abbrev first (P : S8x640x2048.Idx → EReal) : S1x4x640x2048.Idx → EReal :=
  broadcastInDim S1x4x640x2048 ![1, 2, 3] bcast_S4x640x2048_S1x4x640x2048_1_2_3 (shapeCast S4x640x2048 (extractStridedSlice S1x4x640x2048 ![0, 0, 0, 0] (shapeCast S2x4x640x2048 P shapeCasts_S8x640x2048_S2x4x640x2048) slices_S2x4x640x2048_S1x4x640x2048_0_0_0_0) shapeCasts_S1x4x640x2048_S4x640x2048)
abbrev second (P : S8x640x2048.Idx → EReal) : S1x4x640x2048.Idx → EReal :=
  broadcastInDim S1x4x640x2048 ![1, 2, 3] bcast_S4x640x2048_S1x4x640x2048_1_2_3 (shapeCast S4x640x2048 (extractStridedSlice S1x4x640x2048 ![1, 0, 0, 0] (shapeCast S2x4x640x2048 P shapeCasts_S8x640x2048_S2x4x640x2048) slices_S2x4x640x2048_S1x4x640x2048_1_0_0_0) shapeCasts_S1x4x640x2048_S4x640x2048)

theorem page_apply (P : S8x640x2048.Idx → EReal) (b : Fin 2) (e : Fin 4) (k : Fin 640) (d : Fin 2048) :
    shapeCast S2x4x640x2048 P shapeCasts_S8x640x2048_S2x4x640x2048 (ix4 b e k d) = P (ix3 ⟨b.val * 4 + e.val, by omega⟩ k d) := by
  refine shapeCast_apply P _ _ _ ?_
  rw [rowMajor_val4 _ 5242880 1310720 2048 (by decide) (by decide) (by decide), rowMajor_val3 _ 1310720 2048 (by decide) (by decide)]
  show (b.val * 4 + e.val) * _ + k.val * _ + d.val = b.val * _ + e.val * _ + k.val * _ + d.val
  omega

theorem drop_apply (Z : S1x4x640x2048.Idx → EReal) (e : Fin 4) (k : Fin 640) (d : Fin 2048) :
    broadcastInDim S1x4x640x2048 ![1, 2, 3] bcast_S4x640x2048_S1x4x640x2048_1_2_3 (shapeCast S4x640x2048 Z shapeCasts_S1x4x640x2048_S4x640x2048) (ix4 0 e k d)
      = Z (ix4 0 e k d) := by
  refine (broadcastInDim_apply _ _ _ _ (ix3 e k d) fun a => ?_).trans (shapeCast_apply Z _ _ (ix4 0 e k d) ?_)
  · match a with
    | ⟨0, _⟩ => rfl
    | ⟨1, _⟩ => rfl
    | ⟨2, _⟩ => rfl
  · rw [rowMajor_val4 _ 5242880 1310720 2048 (by decide) (by decide) (by decide), rowMajor_val3 _ 1310720 2048 (by decide) (by decide)]
    show 0 * _ + e.val * _ + k.val * _ + d.val = e.val * _ + k.val * _ + d.val
    omega

theorem first_apply (P : S8x640x2048.Idx → EReal) (e : Fin 4) (k : Fin 640) (d : Fin 2048) :
    first P (ix4 0 e k d) = P (ix3 ⟨e.val, by omega⟩ k d) := by
  refine (drop_apply _ e k d).trans ((extractStridedSlice_apply _ _ _ _ (ix4 0 e k d) fun a => ?_).trans ((page_apply P 0 e k d).trans ?_))
  · match a with
    | ⟨0, _⟩ => rfl
    | ⟨1, _⟩ => exact (Nat.zero_add _).symm
    | ⟨2, _⟩ => exact (Nat.zero_add _).symm
    | ⟨3, _⟩ => exact (Nat.zero_add _).symm
  · have h : (⟨(0 : Fin 2).val * 4 + e.val, by show 0 * 4 + e.val < 8; omega⟩ : Fin 8) = ⟨e.val, by omega⟩ := Fin.ext (show 0 * 4 + e.val = e.val by omega)
    rw [h]

theorem second_apply (P : S8x640x2048.Idx → EReal) (e : Fin 4) (k : Fin 640) (d : Fin 2048) :
    second P (ix4 0 e k d) = P (ix3 ⟨4 + e.val, by omega⟩ k d) := by
  refine (drop_apply _ e k d).trans ((extractStridedSlice_apply _ _ _ _ (ix4 1 e k d) fun a => ?_).trans (page_apply P 1 e k d))
  match a with
  | ⟨0, _⟩ => rfl
  | ⟨1, _⟩ => exact (Nat.zero_add _).symm
  | ⟨2, _⟩ => exact (Nat.zero_add _).symm
  | ⟨3, _⟩ => exact (Nat.zero_add _).symm

/-- One half of the rows of every expert, for both pages. -/
abbrev pages (P Q : S8x640x2048.Idx → EReal) : S2x4x1x640x2048.Idx → EReal :=
  broadcastInDim S2x4x1x640x2048 ![0, 1, 3, 4] bcast_S2x4x640x2048_S2x4x1x640x2048_0_1_3_4 (concatenate S2x4x640x2048 0 [⟨S1x4x640x2048, first P⟩, ⟨S1x4x640x2048, second Q⟩] concatenates_S1x4x640x2048_S1x4x640x2048_S2x4x640x2048_d0)

theorem ix5_0 (b : Fin 2) (e : Fin 4) (k : Fin 640) (d : Fin 2048) (P Q : S8x640x2048.Idx → EReal) (i : S2x4x1x640x2048.Idx)
    (h0 : (i 0).val = b.val) (h1 : (i 1).val = e.val) (h3 : (i 3).val = k.val) (h4 : (i 4).val = d.val) :
    pages P Q i = (if b.val = 0 then P else Q) (ix3 ⟨b.val * 4 + e.val, by omega⟩ k d) := by
  refine (broadcastInDim_apply _ _ _ _ (ix4 b e k d) fun a => ?_).trans ?_
  · match a with
    | ⟨0, _⟩ => exact h0.symm
    | ⟨1, _⟩ => exact h1.symm
    | ⟨2, _⟩ => exact h3.symm
    | ⟨3, _⟩ => exact h4.symm
  match b with
  | ⟨0, _⟩ =>
    refine (concatenate_pair_apply_left (t := S2x4x640x2048) (s₁ := S1x4x640x2048) (s₂ := S1x4x640x2048) 0 _ _ _ _ rfl (ix4 0 e k d) fun a => ?_).trans ((first_apply P e k d).trans ?_)
    · match a with
      | ⟨0, _⟩ => rfl
      | ⟨1, _⟩ => rfl
      | ⟨2, _⟩ => rfl
      | ⟨3, _⟩ => rfl
    · have h : (⟨0 * 4 + e.val, by omega⟩ : Fin 8) = ⟨e.val, by omega⟩ := Fin.ext (show 0 * 4 + e.val = e.val by omega)
      rw [if_pos rfl, h]
  | ⟨1, _⟩ =>
    refine (concatenate_pair_apply_right (t := S2x4x640x2048) (s₁ := S1x4x640x2048) (s₂ := S1x4x640x2048) 0 _ _ _ _ rfl rfl (ix4 0 e k d) (fun a ha => ?_) rfl).trans ((second_apply Q e k d).trans ?_)
    · match a with
      | ⟨0, _⟩ => exact absurd rfl ha
      | ⟨1, _⟩ => rfl
      | ⟨2, _⟩ => rfl
      | ⟨3, _⟩ => rfl
    · have h : (⟨1 * 4 + e.val, by omega⟩ : Fin 8) = ⟨4 + e.val, by omega⟩ := Fin.ext (show 1 * 4 + e.val = 4 + e.val by omega)
      rw [if_neg (show ¬(1 : ℕ) = 0 from one_ne_zero), h]

/-- All slots of both pages. -/
abbrev table (X Y : S8x640x2048.Idx → EReal) : S2x5120x2048.Idx → EReal :=
  shapeCast S2x5120x2048 (concatenate S2x4x2x640x2048 2 [⟨S2x4x1x640x2048, pages X Y⟩, ⟨S2x4x1x640x2048, pages Y X⟩] concatenates_S2x4x1x640x2048_S2x4x1x640x2048_S2x4x2x640x2048_d2) shapeCasts_S2x4x2x640x2048_S2x5120x2048

theorem table_apply (X Y : S8x640x2048.Idx → EReal) (b : Fin 2) (n : Fin 5120) (d : Fin 2048) :
    table X Y (ix3 b n d)
      = (if n.val / 640 % 2 = b.val then X else Y) (ix3 ⟨b.val * 4 + n.val / 1280, by omega⟩ ⟨n.val % 640, Nat.mod_lt _ (by norm_num)⟩ d) := by
  let j (h : Fin 2) : S2x4x2x640x2048.Idx := fun a => match a with
    | ⟨0, _⟩ => b
    | ⟨1, _⟩ => (⟨n.val / 1280, by omega⟩ : Fin 4)
    | ⟨2, _⟩ => h
    | ⟨3, _⟩ => (⟨n.val % 640, Nat.mod_lt _ (by norm_num)⟩ : Fin 640)
    | ⟨4, _⟩ => d
  let l : S2x4x1x640x2048.Idx := fun a => match a with
    | ⟨0, _⟩ => b
    | ⟨1, _⟩ => (⟨n.val / 1280, by omega⟩ : Fin 4)
    | ⟨2, _⟩ => (0 : Fin 1)
    | ⟨3, _⟩ => (⟨n.val % 640, Nat.mod_lt _ (by norm_num)⟩ : Fin 640)
    | ⟨4, _⟩ => d
  have hb := b.isLt
  refine (shapeCast_apply _ _ _ (j ⟨n.val / 640 % 2, Nat.mod_lt _ (by norm_num)⟩) ?_).trans ?_
  · rw [rowMajor_val5 _ 10485760 2621440 1310720 2048 (by decide) (by decide) (by decide) (by decide), rowMajor_val3 _ 10485760 2048 (by decide) (by decide)]
    show b.val * _ + n.val / 1280 * _ + n.val / 640 % 2 * _ + n.val % 640 * _ + d.val = b.val * _ + n.val * _ + d.val
    omega
  rcases Nat.mod_two_eq_zero_or_one (n.val / 640) with h | h
  · refine (concatenate_pair_apply_left (t := S2x4x2x640x2048) (s₁ := S2x4x1x640x2048) (s₂ := S2x4x1x640x2048) 2 _ _ _ _ rfl l fun a => ?_).trans
      ((ix5_0 b ⟨n.val / 1280, by omega⟩ ⟨n.val % 640, Nat.mod_lt _ (by norm_num)⟩ d X Y l rfl rfl rfl rfl).trans ?_)
    · match a with
      | ⟨0, _⟩ => rfl
      | ⟨1, _⟩ => rfl
      | ⟨2, _⟩ => exact h.symm
      | ⟨3, _⟩ => rfl
      | ⟨4, _⟩ => rfl
    · rw [h]
      by_cases hz : b.val = 0
      · rw [if_pos hz, if_pos hz.symm]
      · rw [if_neg hz, if_neg fun e => hz e.symm]
  · refine (concatenate_pair_apply_right (t := S2x4x2x640x2048) (s₁ := S2x4x1x640x2048) (s₂ := S2x4x1x640x2048) 2 _ _ _ _ rfl rfl l (fun a ha => ?_) ?_).trans
      ((ix5_0 b ⟨n.val / 1280, by omega⟩ ⟨n.val % 640, Nat.mod_lt _ (by norm_num)⟩ d Y X l rfl rfl rfl rfl).trans ?_)
    · match a with
      | ⟨0, _⟩ => rfl
      | ⟨1, _⟩ => rfl
      | ⟨2, _⟩ => exact absurd rfl ha
      | ⟨3, _⟩ => rfl
      | ⟨4, _⟩ => rfl
    · exact h.symm
    · rw [h]
      by_cases hz : b.val = 0
      · rw [if_pos hz, if_neg (by omega)]
      · rw [if_neg hz, if_pos (by omega)]

/-- The slots of the tokens, in one line. -/
abbrev line (A : S8x1024.Idx → BitVec 32) : S8192.Idx → BitVec 32 := shapeCast S8192 A shapeCasts_S8x1024_S8192

theorem line_apply (A : S8x1024.Idx → BitVec 32) (q : Fin 8192) :
    line A (ix1 q) = A (ix2 ⟨q.val / 1024, by omega⟩ ⟨q.val % 1024, Nat.mod_lt _ (by norm_num)⟩) := by
  refine shapeCast_apply A _ _ _ ?_
  rw [rowMajor_val1, rowMajor_val2 _ 1024 rfl]
  show q.val / 1024 * 1024 + q.val % 1024 = q.val
  omega

/-- Whether a word, read signed, is a slot's number. -/
theorem valid_iff (s : BitVec 32) : IntOp.andi (IntOp.cmpi .sge s 0#32) (IntOp.cmpi .slt s 5120#32) = 1 ↔ 0 ≤ s.toInt ∧ s.toInt < 5120 := by
  have e0 : (0#32).toInt = 0 := by decide
  have e1 : (5120#32).toInt = 5120 := by decide
  have h0 : (0#32).sle s = true ↔ 0 ≤ s.toInt := by rw [BitVec.sle_iff_toInt_le, e0]
  have h1 : s.slt 5120#32 = true ↔ s.toInt < 5120 := by rw [BitVec.slt_iff_toInt_lt, e1]
  rw [← h0, ← h1]
  show BitVec.ofBool ((0#32).sle s) &&& BitVec.ofBool (s.slt 5120#32) = 1 ↔ _
  cases (0#32).sle s <;> cases s.slt 5120#32 <;> decide

/-- A choice by a one-bit word. -/
theorem choose (w : BitVec 1) (p : Prop) [Decidable p] (h : w = 1 ↔ p) (a a' b b' : EReal) (ha : a = a') (hb : b = b') :
    Scalar.select w a b = if p then a' else b' := if_congr h ha hb

/-- The reference's result as a function of its operands. -/
abbrev result (A : S8x1024.Idx → BitVec 32) (X Y : S8x640x2048.Idx → EReal) : S16384x2048.Idx → EReal :=
  shapeCast S16384x2048 (select (broadcastInDim S2x8192x2048 ![0, 1, 2] bcast_S1x8192x1_S2x8192x2048_0_1_2 (broadcastInDim S1x8192x1 ![1] bcast_S8192_S1x8192x1_1
      (andi (cmpi .sge (line A) (broadcastInDim S8192 ![] bcast_S_S8192 (constantI S_ 32 0#32))) (cmpi .slt (line A) (broadcastInDim S8192 ![] bcast_S_S8192 (constantI S_ 32 5120#32))))))
    (Host.gather gather_S2x5120x2048_S8192x1_S2x8192x2048_02_1_n_n_1_1_212048 (table X Y) (broadcastInDim S8192x1 ![0] bcast_S8192_S8192x1_0 (line A)))
    (broadcastInDim S2x8192x2048 ![] bcast_S_S2x8192x2048 (constant (F := Ideal) S_ .bf16 0x0000#16) : S2x8192x2048.Idx → EReal)) shapeCasts_S2x8192x2048_S16384x2048

/-- The result at row `q` of page `b`. -/
theorem result_apply (A : S8x1024.Idx → BitVec 32) (X Y : S8x640x2048.Idx → EReal) (b : Fin 2) (q : Fin 8192) (d : Fin 2048) :
    result A X Y (ix2 ⟨b.val * 8192 + q.val, by omega⟩ d)
      = if 0 ≤ (line A (ix1 q)).toInt ∧ (line A (ix1 q)).toInt < 5120 then table X Y (ix3 b ⟨min (line A (ix1 q)).toInt.toNat 5119, by omega⟩ d) else 0 := by
  refine (shapeCast_apply _ _ _ (ix3 b q d) ?_).trans ?_
  · rw [rowMajor_val2 _ 2048 rfl, rowMajor_val3 _ 16777216 2048 (by decide) (by decide)]
    show b.val * _ + q.val * _ + d.val = (b.val * 8192 + q.val) * _ + d.val
    omega
  refine choose _ _ ?_ _ _ _ _ ?_ ?_
  · refine (Eq.to_iff (congrArg (fun w : BitVec 1 => w = 1) ?_)).trans (valid_iff (line A (ix1 q)))
    refine (broadcastInDim_apply _ _ _ _ (ix3 0 q 0) fun a => ?_).trans ((broadcastInDim_apply _ _ _ _ (ix1 q) fun a => ?_).trans rfl)
    · match a with
      | ⟨0, _⟩ => rfl
      | ⟨1, _⟩ => rfl
      | ⟨2, _⟩ => rfl
    · match a with | ⟨0, _⟩ => rfl
  · have e : broadcastInDim S8192x1 ![0] bcast_S8192_S8192x1_0 (line A) (ix2 q 0) = line A (ix1 q) :=
      broadcastInDim_apply _ _ _ _ (ix1 q) fun a => by match a with | ⟨0, _⟩ => rfl
    refine (rows_read (A := 2) (N := 5120) (R := 8192) (C := 2048) (by norm_num) gather_S2x5120x2048_S8192x1_S2x8192x2048_02_1_n_n_1_1_212048_wf (table X Y) _ b q d).trans ?_
    simp only [e]
  · exact Ideal.ofBits_zero_bf16

/-- The same, with the token's slot named. -/
theorem result_at (A : S8x1024.Idx → BitVec 32) (X Y : S8x640x2048.Idx → EReal) (b : Fin 2) (q : Fin 8192) (d : Fin 2048) (w : BitVec 32)
    (hw : line A (ix1 q) = w) :
    result A X Y (ix2 ⟨b.val * 8192 + q.val, by omega⟩ d)
      = if 0 ≤ w.toInt ∧ w.toInt < 5120 then table X Y (ix3 b ⟨min w.toInt.toNat 5119, by omega⟩ d) else 0 := by
  subst hw
  exact result_apply A X Y b q d

end

end Cert.SlotReads

end
-- ==== Proof.ClaimsScatter.lean ====
/-
# The scatter: the claims

The frames of the program, of its twin and of the reference, and the value: device `y` ends with the rows of its tokens'
slots, read from its own half of each expert's rows or from the half it was sent.
-/
module

public import proofs.«01_k».proof.Defs
public import proofs.«01_k».proof.Proof.Halves
public import proofs.«01_k».proof.Proof.ScatterArray
public import proofs.«01_k».proof.Proof.SlotReads
public import proofs.«01_k».proof.Proof.SlotSums
public import proofs.«01_k».proof.Proof.Gen.Scatter.Frame

@[expose] public section

noncomputable section

namespace Cert.ClaimsScatter

open Idealize.ShloMosaic.TcCoe Idealize.SL.Sem Idealize.ShloMosaic.ValueIdx
open Idealize.ShloMosaic hiding ix1 ix2 ix3 ix4 eq_ix2 eq_ix3
open scoped BigOperators

theorem frame_program : Cert.quiescent_Scatter := fun m ρ _ => Cert.Scatter.Gen.frame m ρ
theorem frame_twin : Cert.quiescent_ScatterIdeal := fun m ρ _ => Cert.ScatterIdeal.Gen.frame m ρ
theorem frame_reference : Cert.quiescent_SlotReadsIdeal := fun m ρ _ =>
  (θ_run Cert.SlotReadsIdeal.defs _ _).mono (fun r h => ⟨fun c => (h c).2, sem_eq_zero_of_no_sems (by decide) r.2⟩)
    (Cert.SlotReadsIdeal.Value.run m ρ)

/-- The number a word stands for, cut off at the last slot. -/
abbrev slotNo (s : BitVec 32) : Fin 5120 := ⟨min s.toInt.toNat 5119, by omega⟩

/-- A sum over the rows of a half picks the row whose slot is the token's, and is nothing when there is none. -/
theorem sum_hit (s : BitVec 32) (n a : ℕ) (U : Fin 640 → EReal) (hs : ∀ k : Fin 640, s = BitVec.ofNat 32 (a + k.val) ↔ n = a + k.val)
    (k : Fin 640) (hk : n = a + k.val) : (∑ j : Fin 640, if s = BitVec.ofNat 32 (a + j.val) then U j else 0) = U k := by
  rw [Finset.sum_eq_single k (fun j _ hj => if_neg fun h => hj (Fin.ext (by have := (hs j).1 h; omega))) (fun h => absurd (Finset.mem_univ k) h)]
  exact if_pos ((hs k).2 hk)
theorem sum_miss (s : BitVec 32) (a : ℕ) (U : Fin 640 → EReal) (hs : ∀ k : Fin 640, ¬s = BitVec.ofNat 32 (a + k.val)) :
    (∑ j : Fin 640, if s = BitVec.ofNat 32 (a + j.val) then U j else 0) = 0 := Finset.sum_eq_zero fun j _ => if_neg (hs j)

/-- The row of a slot, in one half or the other. -/
abbrev rowAt (c : Fin 2) (U V : Fin 4 → Fin 640 → EReal) (n : Fin 5120) : EReal :=
  (if n.val / 640 % 2 = c.val then U else V) ⟨n.val / 1280, by omega⟩ ⟨n.val % 640, Nat.mod_lt _ (by norm_num)⟩

/-- All the experts' parts of an entry are the one row of the token's slot. -/
theorem collapse (s : BitVec 32) (c : Fin 2) (U V : Fin 4 → Fin 640 → EReal) :
    (∑ e : Fin 4, ((∑ k : Fin 640, if s = BitVec.ofNat 32 (e.val * 1280 + c.val * 640 + k.val) then U e k else 0)
        + ∑ k : Fin 640, if s = BitVec.ofNat 32 (e.val * 1280 + (1 - c.val) * 640 + k.val) then V e k else 0))
      = if 0 ≤ s.toInt ∧ s.toInt < 5120 then rowAt c U V (slotNo s) else 0 := by
  have hc := c.isLt
  by_cases h : 0 ≤ s.toInt ∧ s.toInt < 5120
  · rw [if_pos h]
    obtain ⟨n, hn⟩ : ∃ n : Fin 5120, n = slotNo s := ⟨_, rfl⟩
    rw [← hn]
    have hv : s.toInt = (n.val : ℤ) := by
      have : n.val = min s.toInt.toNat 5119 := congrArg Fin.val hn
      omega
    have key : ∀ m : ℕ, m < 5120 → (s = BitVec.ofNat 32 m ↔ n.val = m) := fun m hm => by
      rw [eq_comm, ← Cert.SlotSums.word_iff s m hm, hv]
      exact Int.ofNat_inj
    have hn5 := n.isLt
    unfold rowAt
    rw [Finset.sum_eq_single (⟨n.val / 1280, by omega⟩ : Fin 4) (fun e _ he => ?_) (fun h => absurd (Finset.mem_univ _) h)]
    · by_cases hp : n.val / 640 % 2 = c.val
      · rw [if_pos hp, sum_hit s n.val _ (U ⟨n.val / 1280, by omega⟩) (fun k => key _ (by show n.val / 1280 * 1280 + _ + _ < 5120; omega)) ⟨n.val % 640, Nat.mod_lt _ (by norm_num)⟩
            (show n.val = n.val / 1280 * 1280 + c.val * 640 + n.val % 640 by omega),
          sum_miss s _ (V ⟨n.val / 1280, by omega⟩) (fun k hk => ?_), add_zero]
        have := (key _ (show n.val / 1280 * 1280 + (1 - c.val) * 640 + k.val < 5120 by omega)).1 hk
        omega
      · rw [if_neg hp, sum_hit s n.val _ (V ⟨n.val / 1280, by omega⟩) (fun k => key _ (by show n.val / 1280 * 1280 + _ + _ < 5120; omega)) ⟨n.val % 640, Nat.mod_lt _ (by norm_num)⟩
            (show n.val = n.val / 1280 * 1280 + (1 - c.val) * 640 + n.val % 640 by omega),
          sum_miss s _ (U ⟨n.val / 1280, by omega⟩) (fun k hk => ?_), zero_add]
        have := (key _ (show n.val / 1280 * 1280 + c.val * 640 + k.val < 5120 by omega)).1 hk
        omega
    · have hne : ¬e.val = n.val / 1280 := fun h => he (Fin.ext h)
      rw [sum_miss s _ (U e) (fun k hk => ?_), sum_miss s _ (V e) (fun k hk => ?_), add_zero]
      · have := (key _ (show e.val * 1280 + (1 - c.val) * 640 + k.val < 5120 by omega)).1 hk
        omega
      · have := (key _ (show e.val * 1280 + c.val * 640 + k.val < 5120 by omega)).1 hk
        omega
  · rw [if_neg h]
    have none : ∀ m : ℕ, m < 5120 → ¬s = BitVec.ofNat 32 m := fun m hm e => by
      have := (Cert.SlotSums.word_iff s m hm).2 e.symm
      omega
    refine Finset.sum_eq_zero fun e _ => ?_
    rw [sum_miss s _ (U e) (fun k => none _ (by omega)), sum_miss s _ (V e) (fun k => none _ (by omega)), add_zero]

/-- A device's block of a pair of pages is its page. -/
theorem page (c : Fin 2) (P : (⟨3, ![8, 640, 2048]⟩ : Shape).Idx → EReal) (ht : Layout.Tiles ⟨3, ![4, 640, 2048]⟩ ⟨3, ![8, 640, 2048]⟩ 0 2)
    (e : Fin 4) (k : Fin 640) (d : Fin 2048) :
    Layout.block ⟨3, ![4, 640, 2048]⟩ ⟨3, ![8, 640, 2048]⟩ 0 2 c P ht (ix3 e k d) = P (ix3 ⟨c.val * 4 + e.val, by omega⟩ k d) := by
  rw [Layout.block_apply]
  refine congrArg P (funext fun a => Fin.ext ?_)
  match a with
  | ⟨0, _⟩ => exact Halves.idx_first ht c (ix3 e k d)
  | ⟨1, _⟩ => exact Halves.idx_other ht c (ix3 e k d) 0
  | ⟨2, _⟩ => exact Halves.idx_other ht c (ix3 e k d) 1

/-- Device `y`'s block of the reference's result, at an entry: all the experts' parts of it. -/
theorem block_entry [Cert.SlotReadsIdeal.Facts₀] (c : Fin 2) (A : (⟨2, ![8, 1024]⟩ : Shape).Idx → BitVec 32) (P Q : (⟨3, ![8, 640, 2048]⟩ : Shape).Idx → EReal)
    (ht : Layout.Tiles ⟨2, ![8192, 2048]⟩ ⟨2, ![16384, 2048]⟩ 0 2) (hp : Layout.Tiles ⟨3, ![4, 640, 2048]⟩ ⟨3, ![8, 640, 2048]⟩ 0 2) (q : Fin 8192) (d : Fin 2048) :
    Layout.block ⟨2, ![8192, 2048]⟩ ⟨2, ![16384, 2048]⟩ 0 2 c (Cert.SlotReads.result A P Q) ht (ix2 q d)
      = ∑ e : Fin 4, Cert.ScatterArray.part (A (ix2 ⟨q.val / 1024, by omega⟩ ⟨q.val % 1024, Nat.mod_lt _ (by norm_num)⟩))
          (Layout.block ⟨3, ![4, 640, 2048]⟩ ⟨3, ![8, 640, 2048]⟩ 0 2 c P hp) (Layout.block ⟨3, ![4, 640, 2048]⟩ ⟨3, ![8, 640, 2048]⟩ 0 2 c Q hp) c.val e d := by
  rw [Layout.block_apply]
  have hi : ht.idx c (ix2 q d) = ix2 ⟨c.val * 8192 + q.val, by omega⟩ d := by
    funext a
    refine Fin.ext ?_
    match a with
    | ⟨0, _⟩ => exact Halves.idx_first ht c (ix2 q d)
    | ⟨1, _⟩ => exact Halves.idx_other ht c (ix2 q d) 0
  rw [hi]
  refine (Cert.SlotReads.result_at A P Q c q d _ (Cert.SlotReads.line_apply A q)).trans ?_
  refine Eq.symm ((collapse _ c (fun e k => Layout.block ⟨3, ![4, 640, 2048]⟩ ⟨3, ![8, 640, 2048]⟩ 0 2 c P hp (ix3 e k d))
    (fun e k => Layout.block ⟨3, ![4, 640, 2048]⟩ ⟨3, ![8, 640, 2048]⟩ 0 2 c Q hp (ix3 e k d))).trans (if_congr Iff.rfl ?_ rfl))
  refine Eq.trans ?_ (Cert.SlotReads.table_apply P Q c (slotNo _) d).symm
  unfold rowAt
  split
  · exact page c P hp _ _ d
  · exact page c Q hp _ _ d

/-- Each device's result is its block of the reference's. -/
theorem values : Cert.algebraic_ScatterIdeal_SlotReadsIdeal := by
  intro m g m' g' _ hm
  refine ⟨_, (θ_run Cert.ScatterIdeal.defs _ _).mono (fun r h c => ⟨?_, (h c).2⟩) (Cert.ScatterIdeal.Value.run_blocks m g),
    (θ_run Cert.SlotReadsIdeal.defs _ _).mono (fun r h => h 0) (Cert.SlotReadsIdeal.Value.run m' g')⟩
  refine (h c).1.trans (funext fun i => ?_)
  obtain ⟨h0, h1, h2⟩ := hm c
  refine (Cert.ScatterArray.array m c i).trans ?_
  unfold Cert.ScatterArray.total Cert.ScatterArray.partOf
  rw [h0, h1, h2]
  obtain ⟨q, d, rfl⟩ : ∃ (q : Fin 8192) (d : Fin 2048), i = ix2 q d := ⟨i 0, i 1, eq_ix2 i⟩
  exact (block_entry c _ _ _ _ _ q d).symm

end Cert.ClaimsScatter

end
-- ==== Proof.EndScatter.lean ====
/-
# The scatter inside the layer's end

The first call of the program: at each grid point the body multiplies the two one-hot matrices of its block of tokens with
the expert's two halves of rows, and stores the product's rounding over the block, or adds it to what the block holds. The
block keeps its total between the four points of an expert axis, and is written back after the last of them.
-/
module

public import proofs.«01_k».proof.Proof.Swap
public import proofs.«01_k».proof.Proof.Gen.LayerEnd.Launch
public import proofs.«01_k».proof.Proof.Gen.LayerEnd.Skeleton
public import proofs.«01_k».proof.Proof.Gen.LayerEnd.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WholeRead

@[expose] public section

set_option maxRecDepth 16384

noncomputable section

namespace Cert.EndScatter

open Cert.LayerEnd Cert.LayerEnd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Swap.UU nD τ sig) ℕ

/-! ## The body, run -/

/-- The row of slots the body reads at a grid point. -/
abbrev row (i : grid0.Coords) : Rect S8x1024 := Rect.unit (s := S8x1024) (k0_off1 i) S1x1024.size (k0_off1_inb i)

section Runs

variable (c : Dev nD) (i : grid0.Coords) (arg2 : Memref sig .tc .vmem S8x1024 .i32) (harg2 : arg2.IsWhole) (arg3 : Memref sig .tc .vmem S1x640x2048 .bf16) (harg3 : arg3.IsWhole)
  (arg4 : Memref sig .tc .vmem S1x640x2048 .bf16) (harg4 : arg4.IsWhole) (arg5 : Memref sig .tc .vmem S1024x2048 .bf16) (harg5 : arg5.IsWhole)
  (x0 : Vec F S8x1024 .i32) (x1 x2 : Vec F S1x640x2048 .bf16)

set_option maxHeartbeats 1000000 in
/-- The first point of a block. -/
theorem run_first (h1 : k0_cond1 i = 1#1) (h2 : ¬k0_cond2 i = 1#1) (y : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
      ∗ (iprop(owns (c : Thread nD τ) arg2 fullShare x0 ∗ owns (c : Thread nD τ) arg3 fullShare x1 ∗ owns (c : Thread nD τ) arg4 fullShare x2
          ∗ owns (c : Thread nD τ) arg5 fullShare (k0_pay1 (k0_pay3 i c (View.ld x0 (row i)) x1 x2))) -∗ K ⟨⟩))
      ⊢ wp frame (wpE (defs₀ (F := F)) Variants.none c none) E (cc0_body i arg2 harg2 arg3 harg3 arg4 harg4 arg5 harg5) K := by
  have e2 : View.readAt (Elt F) arg2.view (row i).toLoadRect (harg2.unread x0) = View.ld x0 (row i) := funext fun y => harg2.readAt_unread x0 _ y
  have e3 : View.readAt (Elt F) arg3.view (Rect.unit (s := S1x640x2048) ![0, 0, 0] S1x640x2048.size inb_S1x640x2048_S1x640x2048_0_0_0).toLoadRect (harg3.unread x1) = x1 := by
    rw [View.readAt_full, harg3.read_unread]
  have e4 : View.readAt (Elt F) arg4.view (Rect.unit (s := S1x640x2048) ![0, 0, 0] S1x640x2048.size inb_S1x640x2048_S1x640x2048_0_0_0).toLoadRect (harg4.unread x2) = x2 := by
    rw [View.readAt_full, harg4.read_unread]
  simp only [cc0_body_eq_skeleton]; unfold cc0_body_skel
  simp only [k0_part1_eq_skeleton]
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  refine (View.read_writes_full _ _ _ _ _).trans ?_
  rfl

set_option maxHeartbeats 1000000 in
/-- Any other point. -/
theorem run_next (h1 : ¬k0_cond1 i = 1#1) (h2 : k0_cond2 i = 1#1) (y : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
      ∗ (iprop(owns (c : Thread nD τ) arg2 fullShare x0 ∗ owns (c : Thread nD τ) arg3 fullShare x1 ∗ owns (c : Thread nD τ) arg4 fullShare x2
          ∗ owns (c : Thread nD τ) arg5 fullShare (k0_pay2 (k0_pay3 i c (View.ld x0 (row i)) x1 x2) y)) -∗ K ⟨⟩))
      ⊢ wp frame (wpE (defs₀ (F := F)) Variants.none c none) E (cc0_body i arg2 harg2 arg3 harg3 arg4 harg4 arg5 harg5) K := by
  have e2 : View.readAt (Elt F) arg2.view (row i).toLoadRect (harg2.unread x0) = View.ld x0 (row i) := funext fun y => harg2.readAt_unread x0 _ y
  have e3 : View.readAt (Elt F) arg3.view (Rect.unit (s := S1x640x2048) ![0, 0, 0] S1x640x2048.size inb_S1x640x2048_S1x640x2048_0_0_0).toLoadRect (harg3.unread x1) = x1 := by
    rw [View.readAt_full, harg3.read_unread]
  have e4 : View.readAt (Elt F) arg4.view (Rect.unit (s := S1x640x2048) ![0, 0, 0] S1x640x2048.size inb_S1x640x2048_S1x640x2048_0_0_0).toLoadRect (harg4.unread x2) = x2 := by
    rw [View.readAt_full, harg4.read_unread]
  have e5 : View.readAt (Elt F) arg5.view (Rect.unit (s := S1024x2048) ![0, 0] S1024x2048.size inb_S1024x2048_S1024x2048_0_0).toLoadRect (harg5.unread y) = y := by
    rw [View.readAt_full, harg5.read_unread]
  simp only [cc0_body_eq_skeleton]; unfold cc0_body_skel
  simp only [k0_part1_eq_skeleton]
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  refine (View.read_writes_full _ _ _ _ _).trans ?_
  rfl

end Runs

/-! ## The conditions, by the number of the point -/

theorem cond1_iff : ∀ t : Fin cfg0.N, k0_cond1 (grid0.coords t) = 1#1 ↔ t.val % 4 = 0 := by decide +kernel
theorem cond2_iff : ∀ t : Fin cfg0.N, k0_cond2 (grid0.coords t) = 1#1 ↔ ¬t.val % 4 = 0 := by decide +kernel
theorem live : ∀ (w : Fin cfg0.W) (t : Fin cfg0.N), cfg0.idle w (grid0.coords t) = false := by decide +kernel
theorem not_fresh : ∀ t : Fin cfg0.N, ¬t.val % 4 = 0 → cfg0.fresh 3 t.val = false := by decide +kernel

/-! ## The pipeline's proof data -/

section Data

variable (V : Dev nD → Valuation τ sig (Elt F)) (D : Dev nD → CellTallies nD τ sig Unit)

/-- Window `w`'s block at point `t`, read off its array. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What point `t` contributes. -/
def part (c : Dev nD) (t : Fin cfg0.N) : FVec F S1024x2048 .f32 :=
  k0_pay3 (grid0.coords t) c (View.ld (show Vec F S8x1024 .i32 from blk V c 0 t) (row (grid0.coords t))) (blk V c 1 t) (blk V c 2 t)

/-- The point numbered `n`, counted around the grid. -/
def pt (n : ℕ) : Fin cfg0.N := ⟨n % 32, lt_of_lt_of_eq (Nat.mod_lt n (by omega)) (show cfg0.N = 32 from N_0).symm⟩

theorem pt_val (t : Fin cfg0.N) : pt t.val = t :=
  Fin.ext (Nat.mod_eq_of_lt (lt_of_lt_of_eq t.isLt (show cfg0.N = 32 from N_0)))

/-- What the block holds after the point numbered `n`. -/
def acc (c : Dev nD) : ℕ → Vec F S1024x2048 .bf16
  | 0 => k0_pay1 (part V c (pt 0))
  | n + 1 => if (n + 1) % 4 = 0 then k0_pay1 (part V c (pt (n + 1))) else k0_pay2 (part V c (pt (n + 1))) (acc c n)

theorem acc_first (c : Dev nD) (t : Fin cfg0.N) (h : t.val % 4 = 0) : acc V c t.val = k0_pay1 (part V c t) := by
  rw [show part V c t = part V c (pt t.val) from by rw [pt_val]]
  generalize t.val = n at h ⊢
  cases n with
  | zero => rfl
  | succ n => exact if_pos h
theorem acc_next (c : Dev nD) (t : Fin cfg0.N) (h : ¬t.val % 4 = 0) : acc V c t.val = k0_pay2 (part V c t) (acc V c (t.val - 1)) := by
  rw [show part V c t = part V c (pt t.val) from by rw [pt_val]]
  generalize t.val = n at h ⊢
  cases n with
  | zero => exact absurd rfl h
  | succ n => exact if_neg h

def dat (c : Dev nD) : Dat τ (Elt F) Unit ℕ (Swap.UU nD τ sig) ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => acc V c t.val
  Φ _ := Pipeline.scopedRest spec0 c
  q _ := fullShare
  owed _ := D c

theorem A_eq (c : Dev nD) (w : Fin cfg0.W) : (dat V D c).A w = V c (Proc.devRef .tc (Pipeline.arrRef spec0 w)) := by dsimp only [dat]
theorem after_0 (c : Dev nD) (t : Fin cfg0.N) : (dat V D c).after 0 t = blk V c 0 t := by dsimp only [dat]
theorem after_1 (c : Dev nD) (t : Fin cfg0.N) : (dat V D c).after 1 t = blk V c 1 t := by dsimp only [dat]
theorem after_2 (c : Dev nD) (t : Fin cfg0.N) : (dat V D c).after 2 t = blk V c 2 t := by dsimp only [dat]
theorem after_3 (c : Dev nD) (t : Fin cfg0.N) : (dat V D c).after 3 t = acc V c t.val := by dsimp only [dat]

theorem before_0 (c : Dev nD) (t : Fin cfg0.N) (d) : (dat V D c).before 0 t d = blk V c 0 t :=
  ((dat V D c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V D c).before 1 t d = blk V c 1 t :=
  ((dat V D c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dat V D c).before 2 t d = blk V c 2 t :=
  ((dat V D c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg0.N) (h : ¬t.val % 4 = 0) (d) : (dat V D c).before 3 t d = acc V c (t.val - 1) := by
  rw [Dat.before_out_traj _ 3 rfl (fun _ _ => rfl) (fun t _ hi _ => absurd (hi.symm.trans (live 3 t)) Bool.noConfusion) t.val t rfl d,
    if_neg (by rw [not_fresh t h]; exact Bool.false_ne_true)]
  dsimp only [dat]

theorem leaves (c : Dev nD) (w : Fin cfg0.W) (t : Fin cfg0.N) :
    (dat V D c).leavesExact w t = owns (c : Thread nD τ) ((cfg0.win w).stage (cfg0.slots t w)) fullShare ((dat V D c).after w t) := by
  unfold Dat.leavesExact
  rw [show cfg0.idle w (cfg0.grid.coords t) = false from live w t]

/-! ## The body at a point -/

def bodyPre (c : Dev nD) (t : Fin cfg0.N) : sProp 𝕄 :=
  iprop((dat V D c).Φ t.castSucc ∗ (dat V D c).owesAt () t.castSucc
    ∗ (∃ d, owns (c : Thread nD τ) (st0_0 t) fullShare ((dat V D c).before 0 t d))
    ∗ (∃ d, owns (c : Thread nD τ) (st0_1 t) fullShare ((dat V D c).before 1 t d))
    ∗ (∃ d, owns (c : Thread nD τ) (st0_2 t) fullShare ((dat V D c).before 2 t d))
    ∗ (∃ d, owns (c : Thread nD τ) (st0_3 t) fullShare ((dat V D c).before 3 t d)))

def bodyPost (c : Dev nD) (t : Fin cfg0.N) : sProp 𝕄 :=
  iprop((dat V D c).Φ t.succ ∗ (dat V D c).owesAt () t.succ
    ∗ (dat V D c).leavesExact 0 t ∗ (dat V D c).leavesExact 1 t ∗ (dat V D c).leavesExact 2 t ∗ (dat V D c).leavesExact 3 t)

theorem sound_body (c : Dev nD) (t : Fin cfg0.N) :
    bodyPre V D c t ⊢ wp frame (wpE (defs₀ (F := F)) Variants.none c none) Set.univ (bodyAt0 t) (fun _ => bodyPost V D c t) := by
  unfold bodyPre bodyPost bodyAt0
  simp only [before_0, before_1, before_2, leaves, after_0, after_1, after_2, after_3]
  rw [show (dat V D c).Φ t.succ = (dat V D c).Φ t.castSucc from rfl,
    show (dat V D c).owesAt () t.succ = (dat V D c).owesAt () t.castSucc from rfl]
  by_cases h : t.val % 4 = 0
  · rw [acc_first V c t h]
    iintro ⟨HΦ, Ho, ⟨%d0, H0⟩, ⟨%d1, H1⟩, ⟨%d2, H2⟩, ⟨%d3, H3⟩⟩
    iapply (run_first c (grid0.coords t) _ _ _ _ _ _ _ _ (blk V c 0 t) (blk V c 1 t) (blk V c 2 t)
      ((cond1_iff t).2 h) (fun h' => (cond2_iff t).1 h' h) ((dat V D c).before 3 t d3) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_3 V D c t h]
    rw [acc_next V c t h]
    iintro ⟨HΦ, Ho, ⟨%d0, H0⟩, ⟨%d1, H1⟩, ⟨%d2, H2⟩, ⟨%d3, H3⟩⟩
    iapply (run_next c (grid0.coords t) _ _ _ _ _ _ _ _ (blk V c 0 t) (blk V c 1 t) (blk V c 2 t)
      (fun h' => h ((cond1_iff t).1 h')) ((cond2_iff t).2 h) (acc V c (t.val - 1)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_obligation (c : Dev nD) : BodyObligation (dat V D c) (defs₀ (F := F)) Variants.none () Set.univ := fun t => by
  rw [bigSep_W0, bigSep_W0]
  exact sound_body V D c t

end Data

end Cert.EndScatter

end
-- ==== Proof.EndArray.lean ====
/-
# The scatter's array inside the layer's end

The first call of `LayerEnd` over the extended reals, from whatever its operands' buffers hold: row `q`, column `d` of its
result is the column's entries of the rows whose slot is the token's, added up expert by expert. The half of the slots that
is a device's own goes by its place along the mesh's second axis.
-/
module

public import proofs.«01_k».proof.Proof.EndScatter
public import proofs.«01_k».proof.Proof.ScatterArray

@[expose] public section

noncomputable section

namespace Cert.EndArray

open Cert.LayerEnd Cert.LayerEnd.Gen Idealize.ShloMosaic.TcCoe Idealize.ShloMosaic.ValueIdx
open Idealize.ShloMosaic hiding ix1 ix2 ix3 ix4 eq_ix2 eq_ix3
open Cert.ScatterArray (part)
open Cert.EndScatter (row blk acc dat)
open scoped BigOperators

theorem own_word : ∀ (c e : Fin 4), Scalar.addi (Scalar.muli (BitVec.ofNat 32 e.val) 1280#32)
    (Scalar.muli (Scalar.remsi (Scalar.divsi (BitVec.ofNat 32 c.val) 1#32) 2#32) 640#32) = BitVec.ofNat 32 (e.val * 1280 + c.val % 2 * 640) := by decide
theorem recv_word : ∀ (c e : Fin 4), Scalar.addi (Scalar.muli (BitVec.ofNat 32 e.val) 1280#32)
    (Scalar.muli (Scalar.subi 1#32 (Scalar.remsi (Scalar.divsi (BitVec.ofNat 32 c.val) 1#32) 2#32)) 640#32)
      = BitVec.ofNat 32 (e.val * 1280 + (1 - c.val % 2) * 640) := by decide

/-- A point's contribution at an entry. -/
theorem pay3_apply (i : grid0.Coords) (c : Dev nD) (e : Fin 4) (he : (i 1).val = e.val) (v4 : Vec Ideal S1x1024 .i32) (v29 v32 : Vec Ideal S1x640x2048 .bf16)
    (a : Fin 1024) (d : Fin 2048) :
    k0_pay3 (F := Ideal) i c v4 v29 v32 (ix2 a d)
      = (∑ k : Fin 640, if v4 (ix2 0 a) = BitVec.ofNat 32 (e.val * 1280 + c.val % 2 * 640 + k.val) then v29 (ix3 0 k d) else 0)
        + ∑ k : Fin 640, if v4 (ix2 0 a) = BitVec.ofNat 32 (e.val * 1280 + (1 - c.val % 2) * 640 + k.val) then v32 (ix3 0 k d) else 0 := by
  have hw : ∀ (w : BitVec 32) (n : ℕ), w = BitVec.ofNat 32 n → ∀ k : Fin 640,
      addi (broadcast S1024x640 w) (iota .tc S1024x640 32 [1] iota_S1024x640_d1_w32) (ix2 a k) = BitVec.ofNat 32 (n + k.val) := fun w n h k => by
    show w + iota .tc S1024x640 32 [1] iota_S1024x640_d1_w32 (ix2 a k) = _
    rw [h, iota_single_apply, BitVec.ofNat_add n k.val]
  have w1 : Scalar.addi (Scalar.muli (BitVec.ofNat 32 (i 1).val) 1280#32) (Scalar.muli (Scalar.remsi (Scalar.divsi c.word 1#32) 2#32) 640#32)
      = BitVec.ofNat 32 (e.val * 1280 + c.val % 2 * 640) := by rw [he]; exact own_word c e
  have w2 : Scalar.addi (Scalar.muli (BitVec.ofNat 32 (i 1).val) 1280#32) (Scalar.muli (Scalar.subi 1#32 (Scalar.remsi (Scalar.divsi c.word 1#32) 2#32)) 640#32)
      = BitVec.ofNat 32 (e.val * 1280 + (1 - c.val % 2) * 640) := by rw [he]; exact recv_word c e
  have h1 := hw _ _ w1
  have h2 := hw _ _ w2
  unfold k0_pay3
  dsimp only
  refine congr (congrArg (fun (a b : EReal) => a + b) ?_) ?_
  · refine (OneHot.pick (M := 1024) (K := 640) (N := 2048) _ rfl _ _ _ natLt_1_32 bitsLt_bf16_f32 a d).trans (Finset.sum_congr rfl fun k _ => ?_)
    refine if_congr ((Eq.congr_left (Cert.ScatterPoint.slots_apply v4 a k)).trans (Eq.congr_right (h1 k))) (Cert.ScatterPoint.rows_apply v29 k d) rfl
  · refine (OneHot.pick (M := 1024) (K := 640) (N := 2048) _ rfl _ _ _ natLt_1_32 bitsLt_bf16_f32 a d).trans (Finset.sum_congr rfl fun k _ => ?_)
    refine if_congr ((Eq.congr_left (Cert.ScatterPoint.slots_apply v4 a k)).trans (Eq.congr_right (h2 k))) (Cert.ScatterPoint.rows_apply v32 k d) rfl

variable (V : Dev nD → Valuation τ sig (Elt Ideal)) (D : Dev nD → CellTallies nD τ sig Unit)

/-- The operands of a device's call. -/
abbrev slotsOf (c : Dev nD) : S8x1024.Idx → BitVec 32 := V c (Proc.devRef .tc main_arg0)
abbrev ownOf (c : Dev nD) : S4x640x2048.Idx → EReal := V c (Proc.devRef .tc main_arg1)
abbrev recvOf (c : Dev nD) : S4x640x2048.Idx → EReal := V c (Proc.devRef .tc main_arg2)

/-- What expert `e` gives to row `a` of block `r`. -/
abbrev partOf (c : Dev nD) (r : Fin 8) (e : Fin 4) (a : Fin 1024) (d : Fin 2048) : EReal :=
  part (slotsOf V c (ix2 r a)) (ownOf V c) (recvOf V c) (c.val % 2) e d

theorem lt32 (t : Fin cfg0.N) : t.val < 32 := lt_of_lt_of_eq t.isLt N_0
/-- The block a grid point works on, and the expert it reads. -/
abbrev blockNo (t : Fin cfg0.N) : Fin 8 := ⟨t.val / 4, by have := lt32 t; omega⟩
abbrev expertNo (t : Fin cfg0.N) : Fin 4 := ⟨t.val % 4, Nat.mod_lt _ (by norm_num)⟩

theorem coord0 (t : Fin cfg0.N) : ((grid0.coords t) 0).val = t.val / 4 :=
  (Pipeline.Grid.coords_val t 0 (by decide) rfl).trans (Nat.mod_eq_of_lt (blockNo t).isLt)
theorem coord1 (t : Fin cfg0.N) : ((grid0.coords t) 1).val = t.val % 4 :=
  (Pipeline.Grid.coords_val t 1 (by decide) rfl).trans (congrArg (· % 4) (Nat.div_one _))

theorem off_row (t : Fin cfg0.N) : k0_off1 (grid0.coords t) = ![t.val / 4, 0] := by
  show ![(BitVec.ofNat 32 ((grid0.coords t) 0).val).toNat, 0] = _
  rw [coord0, Cert.ScatterArray.word8 (blockNo t)]

/-- The row of slots read at a point is the block's. -/
theorem slots0 (c : Dev nD) (t : Fin cfg0.N) (a : Fin 1024) :
    View.ld (show Vec Ideal S8x1024 .i32 from blk V c 0 t) (row (grid0.coords t)) (ix2 0 a) = slotsOf V c (ix2 (blockNo t) a) := by
  show slotsOf V c (((cfg0.win 0).blk t).view.emb ((row (grid0.coords t)).idx (ix2 0 a))) = _
  refine congrArg _ (funext fun b => Fin.ext ?_)
  refine (Pipeline.Window.rect_emb_val_of_index_zero win0_0 t b (by match b with | ⟨0, _⟩ => rfl | ⟨1, _⟩ => rfl) _).trans ?_
  show k0_off1 (grid0.coords t) b + 1 * ((ix2 0 a : S1x1024.Idx) b).val = _
  rw [off_row]
  match b with
  | ⟨0, _⟩ => show t.val / 4 + 1 * 0 = t.val / 4; omega
  | ⟨1, _⟩ => show 0 + 1 * a.val = a.val; omega

/-- The rows read at a point are the expert's. -/
theorem rows1 (c : Dev nD) (t : Fin cfg0.N) (k : Fin 640) (d : Fin 2048) :
    blk V c 1 t (ix3 0 k d) = ownOf V c (ix3 (expertNo t) k d) := by
  show ownOf V c (((cfg0.win 1).blk t).view.emb (ix3 0 k d)) = _
  refine congrArg _ (funext fun b => Fin.ext ((Pipeline.Window.rect_emb_val win0_1 t (ix3 0 k d) b).trans ?_))
  match b with
  | ⟨0, _⟩ =>
    show (BitVec.ofNat 32 ((grid0.coords t) 1).val).toNat * 1 + 0 = t.val % 4
    rw [coord1, Cert.ScatterArray.word4 (expertNo t)]
    exact Nat.mul_one (t.val % 4)
  | ⟨1, _⟩ => show 0 * 640 + k.val = k.val; omega
  | ⟨2, _⟩ => show 0 * 2048 + d.val = d.val; omega

theorem rows2 (c : Dev nD) (t : Fin cfg0.N) (k : Fin 640) (d : Fin 2048) :
    blk V c 2 t (ix3 0 k d) = recvOf V c (ix3 (expertNo t) k d) := by
  show recvOf V c (((cfg0.win 2).blk t).view.emb (ix3 0 k d)) = _
  refine congrArg _ (funext fun b => Fin.ext ((Pipeline.Window.rect_emb_val win0_2 t (ix3 0 k d) b).trans ?_))
  match b with
  | ⟨0, _⟩ =>
    show (BitVec.ofNat 32 ((grid0.coords t) 1).val).toNat * 1 + 0 = t.val % 4
    rw [coord1, Cert.ScatterArray.word4 (expertNo t)]
    exact Nat.mul_one (t.val % 4)
  | ⟨1, _⟩ => show 0 * 640 + k.val = k.val; omega
  | ⟨2, _⟩ => show 0 * 2048 + d.val = d.val; omega

/-- The contribution of a point. -/
theorem pay3_part (c : Dev nD) (t : Fin cfg0.N) (a : Fin 1024) (d : Fin 2048) :
    EndScatter.part V c t (ix2 a d) = partOf V c (blockNo t) (expertNo t) a d := by
  refine (pay3_apply (grid0.coords t) c (expertNo t) (coord1 t) _ _ _ a d).trans ?_
  unfold partOf part
  rw [slots0]
  refine congr (congrArg (fun (a b : EReal) => a + b) ?_) ?_
  · exact Finset.sum_congr rfl fun k _ => by rw [rows1]
  · exact Finset.sum_congr rfl fun k _ => by rw [rows2]

theorem first_point (c : Dev nD) (t : Fin cfg0.N) (h : t.val % 4 = 0) (a : Fin 1024) (d : Fin 2048) :
    acc V c t.val (ix2 a d) = partOf V c (blockNo t) (expertNo t) a d := by
  rw [EndScatter.acc_first V c t h]
  exact pay3_part V c t a d

theorem next_point (c : Dev nD) (t : Fin cfg0.N) (h : ¬t.val % 4 = 0) (a : Fin 1024) (d : Fin 2048) :
    acc V c t.val (ix2 a d) = acc V c (t.val - 1) (ix2 a d) + partOf V c (blockNo t) (expertNo t) a d := by
  rw [EndScatter.acc_next V c t h]
  unfold k0_pay2
  rw [shapeCast_self]
  exact congrArg (fun b : EReal => acc V c (t.val - 1) (ix2 a d) + b) (pay3_part V c t a d)

/-- What a block holds once all the experts are in. -/
theorem last_point (c : Dev nD) (t : Fin cfg0.N) (h : t.val % 4 = 3) (a : Fin 1024) (d : Fin 2048) :
    acc V c t.val (ix2 a d) = ∑ e : Fin 4, partOf V c (blockNo t) e a d := by
  have hN := lt32 t
  have e : cfg0.N = 32 := N_0
  have step : ∀ (n : ℕ) (hn : n < 32) (x : Fin 4), n / 4 = t.val / 4 → n % 4 = x.val →
      partOf V c (blockNo ⟨n, e ▸ hn⟩) (expertNo ⟨n, e ▸ hn⟩) a d = partOf V c (blockNo t) x a d := fun n hn x h1 h2 => by
    have e1 : blockNo ⟨n, e ▸ hn⟩ = blockNo t := Fin.ext h1
    have e2 : expertNo ⟨n, e ▸ hn⟩ = x := Fin.ext h2
    rw [e1, e2]
  have h0 := (first_point V c ⟨t.val - 3, by omega⟩ (show (t.val - 3) % 4 = 0 by omega) a d).trans (step (t.val - 3) (by omega) 0 (by omega) (show (t.val - 3) % 4 = 0 by omega))
  have h1 := (next_point V c ⟨t.val - 2, by omega⟩ (show ¬(t.val - 2) % 4 = 0 by omega) a d)
  have h2 := (next_point V c ⟨t.val - 1, by omega⟩ (show ¬(t.val - 1) % 4 = 0 by omega) a d)
  have h3 := next_point V c t (by omega) a d
  rw [step (t.val - 2) (by omega) 1 (by omega) (show (t.val - 2) % 4 = 1 by omega)] at h1
  rw [step (t.val - 1) (by omega) 2 (by omega) (show (t.val - 1) % 4 = 2 by omega)] at h2
  have p3 : expertNo t = 3 := Fin.ext h
  rw [p3] at h3
  have s1 : t.val - 2 - 1 = t.val - 3 := by omega
  have s2 : t.val - 1 - 1 = t.val - 2 := by omega
  dsimp only at h0 h1 h2
  rw [s1, h0] at h1
  rw [s2, h1] at h2
  rw [h2] at h3
  rw [Fin.sum_univ_four, h3]

/-- All the experts' parts of an entry. -/
def total (c : Dev nD) (i : S8192x2048.Idx) : EReal :=
  ∑ e : Fin 4, partOf V c ⟨(i 0).val / 1024, by have h : (i 0).val < 8192 := (i 0).isLt; omega⟩ e ⟨(i 0).val % 1024, Nat.mod_lt _ (by norm_num)⟩ (i 1)

/-- The array after the call. -/
theorem array (c : Dev nD) (i : S8192x2048.Idx) : (dat V D c).arrAt 3 cfg0.N i = total V c i := by
  refine congrFun ((dat V D c).arrAt_eq_of_covers 3 (total V c) (by decide +kernel) fun t hf y => ?_) i
  have hm : t.val % 4 = 3 := (flush0_3 t).1 hf
  have hN := lt32 t
  rw [EndScatter.after_3]
  obtain ⟨a, d, rfl⟩ : ∃ (a : Fin 1024) (d : Fin 2048), y = ix2 a d := ⟨y 0, y 1, eq_ix2 y⟩
  refine (last_point V c t hm a d).trans ?_
  have key : ((cfg0.win 3).blk t).view.emb (ix2 a d) = ix2 ⟨t.val / 4 * 1024 + a.val, by omega⟩ d := by
    refine funext fun b => Fin.ext ((Pipeline.Window.rect_emb_val win0_3 t (ix2 a d) b).trans ?_)
    match b with
    | ⟨0, _⟩ =>
      show (BitVec.ofNat 32 ((grid0.coords t) 0).val).toNat * 1024 + a.val = t.val / 4 * 1024 + a.val
      rw [coord0, Cert.ScatterArray.word8 (blockNo t)]
    | ⟨1, _⟩ => show 0 * 2048 + d.val = d.val; omega
  refine Eq.trans ?_ (congrArg (total V c) key).symm
  have hb : (⟨(t.val / 4 * 1024 + a.val) / 1024, by omega⟩ : Fin 8) = blockNo t := Fin.ext (show (t.val / 4 * 1024 + a.val) / 1024 = t.val / 4 by omega)
  have ha : (⟨(t.val / 4 * 1024 + a.val) % 1024, by omega⟩ : Fin 1024) = a := Fin.ext (show (t.val / 4 * 1024 + a.val) % 1024 = a.val by omega)
  show _ = ∑ e : Fin 4, partOf V c ⟨(t.val / 4 * 1024 + a.val) / 1024, _⟩ e ⟨(t.val / 4 * 1024 + a.val) % 1024, _⟩ d
  rw [hb, ha]

end Cert.EndArray

end
-- ==== Proof.Dormant.lean ====
/-
# A swap inside a larger program

`Swap.lean`'s exchange as a later call of a program of several. Its send and receive semaphores belong to that call
alone: their counters are handed out only when the call begins. At the launch every cell gets its invariant, but only
the barriers are live; each device keeps the right to open its own send and receive cells (`dormant`), and does so on
entry (`open_cells`). A device learns that its peer's receive cell is open from the barrier, whose payload says so: the
kernel's `lands` has to carry it.
-/
module

public import proofs.«01_k».proof.Proof.Swap

@[expose] public section

noncomputable section

namespace Cert.Dormant

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Swap (Spec Pays Cell UU ER Rd)

variable {nD : Nat} {τ : Topo} {sig : RefSig} {Val : EltTy → Type} {J : Type} [Fintype J] [DecidableEq J]

local notation "𝕄" => MT nD τ sig Unit Val ℕ (UU nD τ sig) ℕ

variable (S : Spec nD sig J) (P : Pays nD τ sig Val J)

/-! ## The records -/

/-- Every cell's invariant, and that every barrier's first round is reached. -/
def records (κ : GSem nD τ sig → ℕ) : sProp 𝕄 :=
  iprop((bigSep Finset.univ fun ck : Dev nD × Cell J => cellInv ER (Rd S P) (κ (S.at_ ck.1 ck.2)) (S.at_ ck.1 ck.2))
    ∗ bigSep Finset.univ fun c : Dev nD => reached ER (S.at_ c (.inl ())) 0)
instance records_persistent (κ : GSem nD τ sig → ℕ) : BI.Persistent (records S P κ) := by unfold records; infer_instance

theorem records_inv (κ : GSem nD τ sig → ℕ) (c : Dev nD) (k : Cell J) :
    records S P κ ⊢ cellInv ER (Rd S P) (κ (S.at_ c k)) (S.at_ c k) := by
  unfold records
  iintro ⟨H, -⟩
  iapply (show (bigSep Finset.univ fun ck : Dev nD × Cell J => (cellInv ER (Rd S P) (κ (S.at_ ck.1 ck.2)) (S.at_ ck.1 ck.2) : sProp 𝕄))
      ⊢ cellInv ER (Rd S P) (κ (S.at_ c k)) (S.at_ c k) from bigSep_elim (Finset.mem_univ (c, k)))
  iexact H
theorem records_bar (κ : GSem nD τ sig → ℕ) (c : Dev nD) : records S P κ ⊢ reached ER (S.at_ c (.inl ())) 0 := by
  unfold records
  iintro ⟨-, H⟩
  iapply (show (bigSep Finset.univ fun c : Dev nD => (reached ER (S.at_ c (.inl ())) 0 : sProp 𝕄))
      ⊢ reached ER (S.at_ c (.inl ())) 0 from bigSep_elim (Finset.mem_univ c))
  iexact H

/-- What a device keeps until the call: its position at its barrier, the right to open its other cells, and the tokens
    it pays with. -/
def dormant (c : Dev nD) : sProp 𝕄 :=
  iprop(∃ κ, records S P κ ∗ atPos ER (S.at_ c (.inl ())) 0 ∅ 0 ∗ (bigSep Finset.univ fun k : J ⊕ J => openTok ER (S.at_ c (.inr k)))
    ∗ Swap.payToks S c)

/-- That a device's send and receive cells are open. -/
def opened (c : Dev nD) : sProp 𝕄 := bigSep Finset.univ fun k : J ⊕ J => reached ER (S.at_ c (.inr k)) 0
instance opened_persistent (c : Dev nD) : BI.Persistent (opened (τ := τ) (Val := Val) S c) := by unfold opened; infer_instance

theorem opened_at (c : Dev nD) (k : J ⊕ J) : (opened S c : sProp 𝕄) ⊢ reached ER (S.at_ c (.inr k)) 0 := by
  unfold opened
  exact bigSep_elim (Finset.mem_univ k)

/-- What it works from in the call. -/
def awake (c : Dev nD) : sProp 𝕄 :=
  iprop(∃ κ, records S P κ ∗ opened S c ∗ Swap.posns S c ∗ Swap.payToks S c)

theorem posns_split (c : Dev nD) : (Swap.posns S c : sProp 𝕄)
    = iprop(atPos ER (S.at_ c (.inl ())) 0 ∅ 0 ∗ bigSep Finset.univ fun k : J ⊕ J => atPos ER (S.at_ c (.inr k)) 0 ∅ 0) := by
  unfold Swap.posns
  rw [bigSep_univ_sum, Finset.univ_unique (α := Unit), bigSep_singleton]; rfl

theorem open_cells (c : Dev nD) :
    iprop(dormant S P c ∗ bigSep Finset.univ fun k : J ⊕ J => semVal (S.at_ c (.inr k)) 0) ⊢ (|={Set.univ}=> awake S P c : sProp 𝕄) := by
  unfold dormant awake
  iintro ⟨⟨%κ, #HR, Hb, Ho, Ht⟩, Hs⟩
  ihave Hk := (show iprop(records S P κ ∗ bigSep Finset.univ fun k : J ⊕ J => iprop(openTok ER (S.at_ c (.inr k)) ∗ semVal (S.at_ c (.inr k)) 0))
      ⊢ (|={Set.univ}=> bigSep Finset.univ fun k : J ⊕ J => iprop(atPos ER (S.at_ c (.inr k)) 0 ∅ 0 ∗ reached ER (S.at_ c (.inr k)) 0) : sProp 𝕄) from
    (Swap.share_out (Ψ := fun k : J ⊕ J => iprop(|={Set.univ}=> (atPos ER (S.at_ c (.inr k)) 0 ∅ 0 ∗ reached ER (S.at_ c (.inr k)) 0 : sProp 𝕄))) fun k _ => by
      iintro ⟨#HR, Ho, Hs⟩
      iapply (Rounds.cell_open ER (Rd S P) (Set.mem_univ (κ (S.at_ c (.inr k)))))
      isplitr; · iapply (records_inv S P κ c (.inr k)); iexact HR
      isplitl [Ho] <;> iassumption).trans (bigSep_fupd _ _)) $$ [Ho Hs]
  · isplitr; · iexact HR
    rw [bigSep_sep']
    isplitl [Ho] <;> iassumption
  imod Hk with Hk
  ihave Hk := (Entails.of_eq (bigSep_sep' ..)) $$ Hk
  icases Hk with ⟨Hp, #Hr⟩
  imodintro
  iexists κ
  isplitr; · iexact HR
  isplitr; · unfold opened; iexact Hr
  isplitl [Hb Hp]
  · rw [posns_split]
    isplitl [Hb]; · iexact Hb
    iexact Hp
  iexact Ht

/-! ## The steps of a body -/

section Steps

variable {Λ : Labels} (defs : Defs nD τ sig Val Λ) (𝒱 : Variants) (κ : GSem nD τ sig → ℕ) (c : Dev nD)
variable {W : Waits sig Unit}

/-- The signal to the peer's barrier hands over this device's landing buffers. -/
theorem wp_signal_peer {α : Type} {Q : α → sProp 𝕄} {k : PUnit → Prog (TpuEff nD τ sig Val Λ .tc) α}
    {n : Dev nD} (hn : n = S.peer c) :
    iprop(records S P κ ∗ owes (c : Thread nD τ) (Swap.O₀ S c) W ∗ dutyTok ER (S.at_ (S.peer c) (.inl ())) 0 ()
        ∗ bigSep Finset.univ fun j : J => P.lands j c)
      ⊢ iprop((owes (c : Thread nD τ) (Swap.dues S Finset.univ c) W -∗ wp frame (wpE defs 𝒱 (c : Thread nD τ) none) Set.univ (k ⟨⟩) Q)
          -∗ wp frame (wpE defs 𝒱 (c : Thread nD τ) none) Set.univ (.op (.semSignal (n : Thread nD τ) S.bar 1) k) Q) := by
  subst hn
  iintro ⟨#HR, HO, Ht, HL⟩ Hk
  iapply (Rounds.wp_signal 𝒱 ER (Rd S P) (c : Thread nD τ) none (dst := (S.peer c : Thread nD τ)) (κ := κ (S.at_ (S.peer c) (.inl ())))
      (Swap.mem_duties S P (S.peer c) (.inl ())) (Swap.amount_eq S P (S.peer c) (.inl ()) 0 ()) () (Swap.dues S Finset.univ c) rfl) $$ [HO Ht HL]
  · isplitr; · iapply (records_inv S P κ (S.peer c) (.inl ())); iexact HR
    isplitl [HO]; · iexact HO
    isplitl [Ht]; · iexact Ht
    isplitl [HL]
    · rw [show ((((S.peer c : Dev nD) : Thread nD τ), SemLoc.reg S.bar) : GSem nD τ sig) = S.at_ (S.peer c) (.inl ()) from rfl, Swap.payload_eq]
      unfold Swap.pay; rw [S.peer_peer]; iexact HL
    · iapply (records_bar S P κ (S.peer c)); iexact HR
  iexact Hk

/-- The wait at a cell of this device, of its whole round, by a device that may wait there. -/
theorem wp_wait_cell {α : Type} {Q : α → sProp 𝕄} {k : PUnit → Prog (TpuEff nD τ sig Val Λ .tc) α}
    (x : Cell J) {w : TpuEff nD τ sig Val Λ .tc PUnit} {n : ℕ} (hn : n = S.amt x)
    (hw : ∀ Kt : PUnit → sProp 𝕄, wpE defs 𝒱 (c : Thread nD τ) none Set.univ w Kt = waitSpec (c : Thread nD τ) Set.univ (S.sem x) n Kt)
    {O : CellTallies nD τ sig Unit} :
    iprop(records S P κ ∗ cred (tallyAt (S.at_ c x) () (S.amt x)) ∗ owes (c : Thread nD τ) O W ∗ MayWait (c : Thread nD τ) (S.sem x) () O
        ∗ atPos ER (S.at_ c x) 0 ∅ 0)
      ⊢ iprop(((owes (c : Thread nD τ) O (insert (S.sem x, ()) W) ∗ semVal (S.at_ c x) 0 ∗ Swap.pay S P x c)
            -∗ wp frame (wpE defs 𝒱 (c : Thread nD τ) none) Set.univ (k ⟨⟩) Q)
          -∗ wp frame (wpE defs 𝒱 (c : Thread nD τ) none) Set.univ (.op w k) Q) := by
  subst hn
  iintro ⟨#HR, Hc, HO, HM, Hat⟩ Hk
  iapply (Rounds.wp_wait_rest_token 𝒱 ER (Rd S P) (c : Thread nD τ) none (κ := κ (S.at_ c x)) hw (Set.mem_univ _) () (O := O) (W := W)
      (R := 0) (m := 0) (T := ∅) (by rw [Nat.zero_add]; exact (Swap.expect_eq S P c x).symm)) $$ [Hc HO HM Hat]
  · isplitr; · iapply (records_inv S P κ c x); iexact HR
    isplitl [Hc]; · iexact Hc
    isplitl [HO]; · iexact HO
    isplitl [HM]; · iexact HM
    iexact Hat
  iintro ⟨HO, Hat, -, Hp⟩
  ihave Hp := (Entails.of_eq (Swap.rest_eq S P c x)) $$ Hp
  imod (Rounds.cell_close ER (Rd S P) (Set.mem_univ (κ (S.at_ c x))) (fun h => h) (R := 0 + 1) (Swap.duties_later S P (S.at_ c x))) $$ [Hat] with Hz
  · isplitr; · iapply (records_inv S P κ c x); iexact HR
    iexact Hat
  iapply Hk
  isplitl [HO]; · iexact HO
  isplitl [Hz] <;> iassumption

/-- The transfer `j` to the peer, one of those still due, once the peer's receive cell is known to be open. -/
theorem wp_send_peer {α : Type} {Q : α → sProp 𝕄} {k : PUnit → Prog (TpuEff nD τ sig Val Λ .tc) α}
    {n : Dev nD} (hn : n = S.peer c) (j : J) {s : Finset J} (hj : j ∈ s) {sp sp' : Space} {sh : Shape} {e : EltTy}
    {src : Memref sig .tc sp sh e} {dst : Memref sig .tc sp' sh e}
    {hsc : (dst : Memref sig (Dev.tc n : Thread nD τ).2.kind sp' sh e).view.ref.isScScratch = false}
    {hsrc : src.view.WordExact} {hdst : dst.view.WordExact}
    {hsem : DmaTarget.Typed sp (.dma (S.rcv j)) (.remote (Dev.tc n : Thread nD τ) dst (.dma (S.snd j)) hsc)}
    (hN : dst.view.amount (.dma (S.rcv j)) = S.N j)
    {q : PosShare TreeShare} {fs : Buf Val (src.view.loc (c : Thread nD τ))} {fd : Buf Val (dst.view.loc ((S.peer c : Dev nD) : Thread nD τ))}
    (hs : (src.view.loc (c : Thread nD τ) ↦[src.view.set]{q} fs : sProp 𝕄) ⊢ P.sent j c)
    (hg : (dst.view.loc ((S.peer c : Dev nD) : Thread nD τ) ↦[dst.view.set]{fullShare} (dst.view.write Val fd (src.view.read Val fs) Finset.univ) : sProp 𝕄)
      ⊢ P.got j (S.peer c)) :
    iprop(records S P κ ∗ opened S c ∗ reached ER (S.at_ (S.peer c) (.inr (.inr j))) 0
        ∗ (src.view.loc (c : Thread nD τ) ↦[src.view.set]{q} fs)
        ∗ (dst.view.loc ((S.peer c : Dev nD) : Thread nD τ) ↦[dst.view.set]{fullShare} fd)
        ∗ owes (c : Thread nD τ) (Swap.dues S s c) W
        ∗ dutyTok ER (S.at_ c (.inr (.inl j))) 0 () ∗ dutyTok ER (S.at_ (S.peer c) (.inr (.inr j))) 0 ())
      ⊢ iprop(((cred (tallyAt (S.at_ c (.inr (.inl j))) () (S.N j)) ∗ owes (c : Thread nD τ) (Swap.dues S (s.erase j) c) W)
            -∗ wp frame (wpE defs 𝒱 (c : Thread nD τ) none) Set.univ (k ⟨⟩) Q)
          -∗ wp frame (wpE defs 𝒱 (c : Thread nD τ) none) Set.univ
            (.op (.enqueueDma src (.remote (Dev.tc n : Thread nD τ) dst (.dma (S.snd j)) hsc) (.dma (S.rcv j)) hsrc hdst hsem) k) Q) := by
  subst hn
  iintro ⟨#HR, #Hop, #Hpeer, Hs, Hd, HO, Ht, Ht'⟩ Hk
  iapply (Rounds.wp_send_pointsTo 𝒱 ER (Rd S P) (c : Thread nD τ) none (κ₁ := κ (S.at_ c (.inr (.inl j)))) (κ₂ := κ (S.at_ (S.peer c) (.inr (.inr j))))
      (r₁ := 0) (r₂ := 0) (d₁ := ()) (d₂ := ()) (fs := fs) (fd := fd) (q := q)
      (Swap.mem_duties S P c (.inr (.inl j))) (Swap.mem_duties S P (S.peer c) (.inr (.inr j))) () () (S.N j) hN
      (Swap.amount_eq S P c (.inr (.inl j)) 0 ()) (Swap.amount_eq S P (S.peer c) (.inr (.inr j)) 0 ()) (Swap.dues S (s.erase j) c) (Swap.dues_erase S hj c)
      (hs.trans (Entails.of_eq (Swap.payload_eq S P c (.inr (.inl j)) 0 ()).symm))
      (hg.trans (Entails.of_eq (Swap.payload_eq S P (S.peer c) (.inr (.inr j)) 0 ()).symm))) $$ [Hs Hd HO Ht Ht']
  · isplitr; · iapply (records_inv S P κ c (.inr (.inl j))); iexact HR
    isplitr; · iapply (records_inv S P κ (S.peer c) (.inr (.inr j))); iexact HR
    isplitl [Hs]; · iexact Hs
    isplitl [Hd]; · iexact Hd
    isplitl [HO]; · iexact HO
    isplitl [Ht]; · iexact Ht
    isplitr; · iapply (opened_at S c (.inl j)); iexact Hop
    isplitl [Ht']; · iexact Ht'
    iexact Hpeer
  iexact Hk

end Steps

/-! ## The launch -/

/-- The barriers, funded from their counters. -/
def bars : Finset (GSem nD τ sig) :=
  Finset.univ.map ⟨fun c : Dev nD => S.at_ c (.inl ()), fun _ _ h => congrArg (fun g : GSem nD τ sig => g.1.1) h⟩
/-- The send and receive cells, funded without their counters. -/
def asleep : Finset (GSem nD τ sig) :=
  Finset.univ.map ⟨fun ck : Dev nD × (J ⊕ J) => S.at_ ck.1 (.inr ck.2), fun a b h => by
    have h1 : a.1 = b.1 := congrArg (fun g : GSem nD τ sig => g.1.1) h
    have h2 : (.inr a.2 : Cell J) = .inr b.2 := S.sem_inj (congrArg Prod.snd h)
    exact Prod.ext h1 (Sum.inr.inj h2)⟩

theorem disjoint_cells : Disjoint (bars (τ := τ) S) (asleep S) := by
  rw [Finset.disjoint_left]
  intro g h₁ h₂
  obtain ⟨c, -, rfl⟩ := Finset.mem_map.mp h₁
  obtain ⟨ck, -, h⟩ := Finset.mem_map.mp h₂
  have h2 : (.inr ck.2 : Cell J) = .inl () := S.sem_inj (congrArg Prod.snd h)
  exact nomatch h2

/-- The exchange's part of the launch's resources. -/
def u : UR sig nD τ := launchOf (bars S) (asleep S) (Swap.tokens S)

theorem bars_sep (Φ : GSem nD τ sig → sProp 𝕄) : bigSep (bars S) Φ = bigSep Finset.univ fun c : Dev nD => Φ (S.at_ c (.inl ())) := by
  unfold bars; rw [bigSep_map]; rfl
theorem asleep_sep (Φ : GSem nD τ sig → sProp 𝕄) :
    bigSep (asleep S) Φ = bigSep Finset.univ fun c : Dev nD => bigSep Finset.univ fun k : J ⊕ J => Φ (S.at_ c (.inr k)) := by
  unfold asleep; rw [bigSep_map, bigSep_univ_prod]; rfl

theorem invs_intro (κ : GSem nD τ sig → ℕ) :
    (bigSep (bars S ∪ asleep S) fun g => (cellInv ER (Rd S P) (κ g) g : sProp 𝕄))
      ⊢ bigSep Finset.univ fun ck : Dev nD × Cell J => cellInv ER (Rd S P) (κ (S.at_ ck.1 ck.2)) (S.at_ ck.1 ck.2) := by
  refine BI.bigSep_intro_persistent fun ck _ => ?_
  refine bigSep_elim (Φ := fun g => (cellInv ER (Rd S P) (κ g) g : sProp 𝕄)) (i := S.at_ ck.1 ck.2) ?_
  rcases ck with ⟨c, _ | k⟩
  · exact Finset.mem_union_left _ (Finset.mem_map.mpr ⟨c, Finset.mem_univ _, rfl⟩)
  · exact Finset.mem_union_right _ (Finset.mem_map.mpr ⟨(c, k), Finset.mem_univ _, rfl⟩)

/-- From every barrier's counter at zero, the exchange's resources are dealt to the devices. -/
theorem deal :
    iprop((bigSep Finset.univ fun c : Dev nD => semVal (S.at_ c (.inl ())) 0) ∗ BI.own (ER (u S)))
      ⊢ (|={Set.univ}=> bigSep Finset.univ (dormant S P) : sProp 𝕄) := by
  have hT : bigSep (Swap.tokens S) (fun x => (dutyTok ER x.1 x.2.1 x.2.2 : sProp 𝕄)) = bigSep Finset.univ fun c : Dev nD => Swap.toks S c := by
    unfold Swap.tokens; rw [bigSep_map, bigSep_univ_prod]; rfl
  iintro ⟨Hv, Hu⟩
  imod (Rounds.fund_launch ER (Rd S P) (disjoint_cells S) (fun g _ h => h) (Swap.tokens S)) $$ [Hv Hu] with ⟨%κ, -, #Hinv, #Hr, Hat, Hopen, Htok⟩
  · isplitl [Hv]
    · iapply (Entails.of_eq (bars_sep S fun g => semVal g 0).symm); iexact Hv
    · unfold u; iexact Hu
  imodintro
  ihave Hat := (Entails.of_eq (bars_sep S fun g => atPos ER g 0 ∅ 0)) $$ Hat
  ihave Hopen := (Entails.of_eq (asleep_sep S fun g => openTok ER g)) $$ Hopen
  ihave Htok := (Entails.of_eq hT) $$ Htok
  ihave Htok := (Swap.toks_around S) $$ Htok
  iapply (Swap.share_out (R := records S P κ) (Φ := fun c => iprop(atPos ER (S.at_ c (.inl ())) 0 ∅ 0
      ∗ (bigSep Finset.univ fun k : J ⊕ J => openTok ER (S.at_ c (.inr k))) ∗ Swap.payToks S c)) fun c _ => by
    unfold dormant
    iintro ⟨#H, H'⟩
    iexists κ
    isplitr; · iexact H
    iexact H')
  isplitr
  · unfold records
    isplitr; · iapply (invs_intro S P κ); iexact Hinv
    iapply (Entails.of_eq (bars_sep S fun g => reached ER g 0)); iexact Hr
  · rw [bigSep_sep', bigSep_sep']
    isplitl [Hat]; · iexact Hat
    isplitl [Hopen] <;> iassumption

end Cert.Dormant

end
-- ==== Proof.EndExchange.lean ====
/-
# The exchange back inside the layer's end

The second call of the program: device `(i, j)` sends the second half of its scatter's output to device `(1 - i, j)` and
receives that device's. One transfer of the protocol of `Swap.lean`, asleep until the call begins (`Dormant.lean`).
-/
module

public import proofs.«01_k».proof.Proof.Dormant
public import proofs.«01_k».proof.Proof.Gen.LayerEnd
public import proofs.«01_k».proof.Proof.Gen.LayerEnd.Skeleton
public import proofs.«01_k».proof.Proof.Gen.LayerEnd.Launch
public import Idealize.ShloMosaic.Lib.Pipeline.CollectiveSegs

@[expose] public section

noncomputable section

namespace Cert.EndExchange

open Cert.LayerEnd Cert.LayerEnd.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (initOf reached)
open Idealize.ShloMosaic.Pipeline (Dat BodyObligation)

variable {F : FTy → Type} [FloatOps F]

local notation "𝕄" => MT nD τ sig Unit (Elt F) ℕ (Swap.UU nD τ sig) ℕ

/-! ## The exchange -/

/-- Device `(i, j)` exchanges with `(1 - i, j)`. -/
def peer (c : Dev nD) : Dev nD := ⟨k1_dev1 c, k1_dev1_lt c⟩

theorem peer_val : ∀ c : Dev nD, (peer c).val = c.val % 2 + 2 - 2 * (c.val / 2) := by decide +kernel
theorem dev1_eq (c : Dev nD) : (⟨k1_dev1 c, k1_dev1_lt c⟩ : Dev nD) = peer c := rfl
theorem dev2_eq : ∀ c : Dev nD, (⟨k1_dev2 c, k1_dev2_lt c⟩ : Dev nD) = peer c := by decide +kernel
theorem peer_peer (c : Dev nD) : peer (peer c) = c := by
  refine Fin.ext ?_
  have h : c.val < 4 := c.isLt
  rw [peer_val, peer_val]
  omega

abbrev barS : Sem sig := (SemArray.scalar (sig.barrier 1 rfl) : Sems sig S_).sem
abbrev sndS : DmaSem sig := (cc1_scratch0 : DmaSems sig S_).sem
abbrev rcvS : DmaSem sig := (cc1_scratch1 : DmaSems sig S_).sem

abbrev src : Memref sig .tc .vmem S4096x2048 .bf16 := Memref.whole cc1_stg0_0
abbrev dst : Memref sig .tc .vmem S4096x2048 .bf16 := Memref.whole cc1_stg1_0

def S : Swap.Spec nD sig (Fin 1) where
  peer := peer
  peer_peer := peer_peer
  bar := barS
  snd _ := sndS
  rcv _ := rcvS
  snd_inj _ _ _ := Subsingleton.elim _ _
  rcv_inj _ _ _ := Subsingleton.elim _ _
  snd_ne_rcv _ _ := by decide
  N _ := dst.view.dmaCredit
  N_pos _ := View.dmaCredit_pos _ (by decide)

/-- The two buffers of the transfer are credited alike. -/
theorem src_credit : src.view.dmaCredit = S.amt (.inr (.inl 0)) := (rfl : src.view.dmaCredit = dst.view.dmaCredit)

variable (V : Dev nD → Valuation τ sig (Elt F))

/-- The block a device sends: the call's operand, as staged. -/
def sentBlk (c : Dev nD) : (cc1_stg0_0 : Ref sig .tc).ty.Contents (Elt F) :=
  (win1_0.blk (0 : Fin 1)).view.read (Elt F) (V c (Proc.devRef .tc main_v2))

def srcPts (c : Dev nD) : sProp 𝕄 := ((c : Thread nD τ).loc cc1_stg0_0) ↦{fullShare} sentBlk V c
def dstPts (c : Dev nD) (f : (cc1_stg1_0 : Ref sig .tc).ty.Contents (Elt F)) : sProp 𝕄 := ((c : Thread nD τ).loc cc1_stg1_0) ↦{fullShare} f
def recvOpen (c : Dev nD) : sProp 𝕄 := reached Swap.ER (S.at_ c (.inr (.inr (0 : Fin 1)))) 0
instance recvOpen_persistent (c : Dev nD) : BI.Persistent (recvOpen (F := F) c) := by unfold recvOpen; infer_instance

def P : Swap.Pays nD τ sig (Elt F) (Fin 1) where
  lands _ c := iprop((∃ f, dstPts c f) ∗ recvOpen c)
  sent _ c := srcPts V c
  got _ c := dstPts c (sentBlk V (peer c))
  lands_storable _ c := by unfold dstPts recvOpen; infer_instance
  sent_storable _ c := by unfold srcPts; infer_instance
  got_storable _ c := by unfold dstPts; infer_instance

/-! ## The pipeline's proof data -/

/-- The scoped buffers no window of the call stages, and the generator register. -/
def spare (c : Dev nD) : sProp 𝕄 := iprop(Pipeline.scopedRest spec1 c ∗ ∃ r, prngReg c r)

/-- What the body works from besides. -/
def ready (c : Dev nD) : sProp 𝕄 :=
  iprop(Dormant.awake S (P V) c
    ∗ (cred (tallyAt (S.at_ c (.inl ())) () 1) ∗ bigSep Finset.univ fun j : Fin 1 => cred (tallyAt (S.at_ c (.inr (.inr j))) () (S.N j)))
    ∗ levAts Swap.L (Swap.lv S))

def dat (c : Dev nD) : Dat τ (Elt F) Unit ℕ (Swap.UU nD τ sig) ℕ cfg1 c where
  A w := V c (Proc.devRef .tc (Pipeline.arrRef spec1 w))
  after w _ := match w with
    | ⟨0, _⟩ => sentBlk V c
    | ⟨1, _⟩ => sentBlk V (peer c)
  Φ t := match t with
    | ⟨0, _⟩ => iprop(spare c ∗ ready V c)
    | ⟨_ + 1, _⟩ => iprop(spare c ∗ Swap.zeros S c)
  q _ := fullShare
  owed t := match t with
    | ⟨0, _⟩ => Swap.O₀ S c
    | ⟨_ + 1, _⟩ => 0

theorem owns_whole_eq (c : Dev nD) (b : Ref sig .tc) (X : b.ty.Contents (Elt F)) :
    (owns (Ix := Unit) (Name := ℕ) (U := Swap.UU nD τ sig) (Lvl := ℕ) (c : Thread nD τ) (Memref.whole b) fullShare X : sProp 𝕄)
      = (((c : Thread nD τ).loc b) ↦{fullShare} X) := by
  have h : (owns (Ix := Unit) (Name := ℕ) (U := Swap.UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [h]
  refine BI.Entails.antisymm (show _ ⊢ (_ : sProp 𝕄) from ?_) (show _ ⊢ (_ : sProp 𝕄) from ?_)
  · iintro ⟨%f, %hf, H⟩; subst hf; iexact H
  · iintro H; iexists X; isplitr; · (ipureintro; rfl)
    iexact H

/-! ## The body -/

section Body

def bodyPre (c : Dev nD) : sProp 𝕄 :=
  iprop((spare c ∗ ready V c) ∗ (dat V c).owesAt () t1_0.castSucc
    ∗ (∃ d, ((c : Thread nD τ).loc cc1_stg0_0) ↦{fullShare} (dat V c).before (0 : Fin 2) t1_0 d)
    ∗ (∃ d, ((c : Thread nD τ).loc cc1_stg1_0) ↦{fullShare} (dat V c).before (1 : Fin 2) t1_0 d))
def bodyPost (c : Dev nD) : sProp 𝕄 :=
  iprop((spare c ∗ Swap.zeros S c) ∗ (dat V c).owesAt () t1_0.succ ∗ srcPts V c ∗ dstPts c (sentBlk V (peer c)))

theorem got_eq (c : Dev nD) (fd : Buf (Elt F) (dst.view.loc ((c : Dev nD) : Thread nD τ))) (fs : (cc1_stg0_0 : Ref sig .tc).ty.Contents (Elt F)) :
    dst.view.write (Elt F) fd (src.view.read (Elt F) fs) Finset.univ = fs := by
  show (View.whole cc1_stg1_0).write (Elt F) fd ((View.whole cc1_stg0_0).read (Elt F) fs) Finset.univ = fs
  rw [View.read_whole]; exact View.write_whole_univ _ _ _

theorem lands_eq (c : Dev nD) : (P V).lands 0 c = iprop((∃ f, dstPts c f) ∗ recvOpen c) := rfl
theorem bar_pay (c : Dev nD) : Swap.pay S (P V) (.inl ()) c = iprop((∃ f, dstPts (peer c) f) ∗ recvOpen (peer c)) := Swap.fin1 _
theorem src_pts (c : Dev nD) : (src.view.loc (c : Thread nD τ) ↦[src.view.set]{fullShare} sentBlk V c : sProp 𝕄) = srcPts V c := by
  unfold srcPts; rw [View.set_whole]
theorem dst_pts (c : Dev nD) (f : (cc1_stg1_0 : Ref sig .tc).ty.Contents (Elt F)) :
    (dst.view.loc (c : Thread nD τ) ↦[dst.view.set]{fullShare} f : sProp 𝕄) = dstPts c f := by
  unfold dstPts; rw [View.set_whole]
theorem sent_ok (c : Dev nD) : (src.view.loc (c : Thread nD τ) ↦[src.view.set]{fullShare} sentBlk V c : sProp 𝕄) ⊢ (P V).sent 0 c :=
  Entails.of_eq (src_pts V c)
theorem got_ok (c : Dev nD) (fd : Buf (Elt F) (dst.view.loc ((S.peer c : Dev nD) : Thread nD τ))) :
    (dst.view.loc ((S.peer c : Dev nD) : Thread nD τ) ↦[dst.view.set]{fullShare}
        (dst.view.write (Elt F) fd (src.view.read (Elt F) (sentBlk V c)) Finset.univ) : sProp 𝕄) ⊢ (P V).got 0 (S.peer c) := by
  rw [got_eq, dst_pts]
  exact Entails.of_eq (congrArg (fun d => dstPts (S.peer c) (sentBlk V d)) (peer_peer c).symm)

theorem body_spec (c : Dev nD) :
    bodyPre V c ⊢ wp frame (wpE (defs₀ (F := F)) Variants.none c none) Set.univ
      (cc1_body src (Memref.isWhole_whole _) dst (Memref.isWhole_whole _) cc1_scratch0 cc1_scratch1) fun _ => bodyPost V c := by
  rw [cc1_body_eq_skeleton]; unfold cc1_body_skel
  simp only [semSignalWord, semWaitWord, Prog.lift, Prog.bind_op, Prog.bind_ret, Prog.pure_eq_ret, wp_deviceId]
  unfold bodyPre ready Dormant.awake
  simp only [Swap.posns_eq, Swap.payToks, Swap.fin1]
  iintro ⟨⟨Hspare, ⟨%κ, #HR, #Hop, ⟨HaB, HaS, HaV⟩, HtB, HtS, HtV⟩, ⟨HcB, HcV⟩, #Hlev⟩, Ho, ⟨%d0, Hx⟩, ⟨%d1, Hout⟩⟩
  rw [show (dat V c).before (0 : Fin 2) t1_0 d0 = sentBlk V c from by unfold Dat.before; rw [if_pos (by decide)]; rfl]
  unfold Dat.owesAt Pipeline.owesWithin
  icases Ho with ⟨%W, %hW, HO⟩
  rw [show (dat V c).owed t1_0.castSucc = Swap.O₀ S c from rfl]
  iapply (Dormant.wp_signal_peer S (P V) defs₀ Variants.none κ c (dev1_eq c)) $$ [HO HtB Hout]
  · isplitr; · iexact HR
    isplitl [HO]; · iexact HO
    isplitl [HtB]; · iexact HtB
    rw [Swap.fin1]
    rw [lands_eq]; unfold dstPts recvOpen
    isplitl [Hout]
    · iexists _; iexact Hout
    iapply (Dormant.opened_at S c (.inr 0)); iexact Hop
  iintro HO
  iapply (Dormant.wp_wait_cell S (P V) defs₀ Variants.none κ c (.inl ()) rfl (wpE_semWait_eq Variants.none (c : Thread nD τ) none Set.univ)) $$ [HO HcB HaB]
  · isplitr; · iexact HR
    isplitl [HcB]; · iexact HcB
    isplitl [HO]; · iexact HO
    isplitr; · iapply (Swap.mayWait_bar S c Finset.univ); iexact Hlev
    iexact HaB
  iintro ⟨HO, HzB, Hp⟩
  ihave Hp := (Entails.of_eq (bar_pay V c)) $$ Hp
  icases Hp with ⟨⟨%fn, Hn⟩, #Hpeer⟩
  iapply (Dormant.wp_send_peer S (P V) defs₀ Variants.none κ c (dev2_eq c) (0 : Fin 1) (Finset.mem_univ _) (src := src) (dst := dst) (q := fullShare) rfl
      (fs := sentBlk V c) (fd := fn)
      (sent_ok V c) (got_ok V c fn)) $$ [Hx Hn HO HtS HtV]
  · isplitr; · iexact HR
    isplitr; · iexact Hop
    isplitr; · unfold recvOpen; iexact Hpeer
    isplitl [Hx]; · rw [src_pts]; unfold srcPts; iexact Hx
    isplitl [Hn]; · rw [dst_pts]; iexact Hn
    isplitl [HO]; · iexact HO
    isplitl [HtS]; · iexact HtS
    iexact HtV
  iintro ⟨HcS, HO⟩
  rw [show (Finset.univ : Finset (Fin 1)).erase 0 = ∅ from by decide, Swap.dues_empty]
  iapply (Dormant.wp_wait_cell S (P V) defs₀ Variants.none κ c (.inr (.inl 0)) (n := src.view.dmaCredit) src_credit
      (wpE_waitDma2_eq Variants.none (c : Thread nD τ) none Set.univ (src := dst) (dst := src))) $$ [HO HcS HaS]
  · isplitr; · iexact HR
    isplitl [HcS]; · iexact HcS
    isplitl [HO]; · iexact HO
    isplitr; · rw [MayWait_zero]; iempintro
    iexact HaS
  iintro ⟨HO, HzS, Hx⟩
  iapply (Dormant.wp_wait_cell S (P V) defs₀ Variants.none κ c (.inr (.inr 0)) (n := dst.view.dmaCredit) rfl
      (wpE_waitDma2_eq Variants.none (c : Thread nD τ) none Set.univ (src := src) (dst := dst))) $$ [HO HcV HaV]
  · isplitr; · iexact HR
    isplitl [HcV]; · iexact HcV
    isplitl [HO]; · iexact HO
    isplitr; · rw [MayWait_zero]; iempintro
    iexact HaV
  iintro ⟨HO, HzV, Hout⟩
  rw [wp_ret]; imodintro
  unfold bodyPost Dat.owesAt Pipeline.owesWithin
  rw [show (dat V c).owed t1_0.succ = 0 from rfl, Swap.zeros_eq]
  simp only [Swap.fin1]
  isplitl [Hspare HzB HzS HzV]
  · isplitl [Hspare]; · iexact Hspare
    isplitl [HzB]; · iexact HzB
    isplitl [HzS] <;> iassumption
  isplitl [HO]
  · iexists _
    isplitr
    rotate_left
    · iexact HO
    · ipureintro; exact fun _ _ => Or.inl trivial
  isplitl [Hx]
  · iapply (show Swap.pay S (P V) (.inr (.inl 0)) c ⊢ srcPts V c from Entails.of_eq rfl); iexact Hx
  · iapply (show Swap.pay S (P V) (.inr (.inr 0)) c ⊢ dstPts c (sentBlk V (peer c)) from Entails.of_eq rfl); iexact Hout

theorem body_obligation (c : Dev nD) : BodyObligation (dat V c) (defs₀ (F := F)) Variants.none () Set.univ := fun t => by
  rw [fin_N1 t, bigSep_W1, bigSep_W1]
  have h := body_spec V c
  unfold bodyPre bodyPost srcPts dstPts at h
  simp only [← owns_whole_eq] at h
  exact h

end Body

/-! ## What the arrays hold -/

theorem share_eq (c : Dev nD) (w : Fin cfg1.W) : (dat V c).share w = fullShare := by unfold Dat.share; split <;> rfl

/-- The staged block is the operand. -/
theorem sentBlk_eq (c : Dev nD) : sentBlk V c = V c (Proc.devRef .tc main_v2) := by
  have hz : (fun a => (win1_0.index (0 : Fin 1)) a * main_v2.ty.shape.size a) = fun _ => 0 := funext fun a => by fin_cases a <;> decide
  exact Memref.read_access_unit_zero (Elt F) main_v2 hz (fun a => by fin_cases a <;> decide) _

/-- The operand's array is as it was. -/
theorem final_arg (c : Dev nD) : (dat V c).arrAt (0 : Fin 2) cfg1.N = V c (Proc.devRef .tc main_v2) :=
  (dat V c).arrAt_in (0 : Fin 2) rfl _

/-- A device's result is its peer's operand. -/
theorem final_res (c : Dev nD) : (dat V c).arrAt (1 : Fin 2) cfg1.N = V (peer c) (Proc.devRef .tc main_v2) := by
  have h : (win1_1.blk (0 : Fin 1)).view.read (Elt F) ((dat V c).arrAt (1 : Fin 2) cfg1.N) = sentBlk V (peer c) := by
    rw [show cfg1.N = ((0 : Fin 1) : Fin cfg1.N).val + 1 from rfl, (dat V c).arrAt_succ (1 : Fin 2) (0 : Fin 1),
      show (cfg1.win (1 : Fin 2)).flush (0 : Fin 1) = true from by decide, if_pos rfl]
    exact View.read_write_univ _ _
  have hz : (fun a => (win1_1.index (0 : Fin 1)) a * main_v3.ty.shape.size a) = fun _ => 0 := funext fun a => by fin_cases a <;> decide
  rw [sentBlk_eq] at h
  exact (Memref.read_access_unit_zero (Elt F) main_v3 hz (fun a => by fin_cases a <;> decide) _).symm.trans h

end Cert.EndExchange

end
-- ==== Proof.RunEnd.lean ====
/-
# A run of the layer's end

The two calls of `LayerEnd` and the host's operations between and after them, put together: the scatter fills
`main_v1`, its second half is cut out, exchanged with the device across the mesh's first axis, and added to the first.
-/
module

public import proofs.«01_k».proof.Proof.EndScatter
public import proofs.«01_k».proof.Proof.EndExchange
public import proofs.«01_k».proof.Proof.Gen.LayerEnd.Regions
public import Idealize.ShloMosaic.Lib.Pipeline.RegionArrays
public import Idealize.ShloMosaic.Lib.Pipeline.RegionTalk

@[expose] public section

noncomputable section

namespace Cert.RunEnd

open Cert.LayerEnd Cert.LayerEnd.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat Seg HostSeg RegionSeg)
open Cert.EndExchange (S peer)

variable {F : FTy → Type} [FloatOps F]

local notation "𝕄" => MT nD τ sig Unit (Elt F) ℕ (Swap.UU nD τ sig) ℕ

variable (m : (ℓ : Loc nD τ sig) → Buf (Elt F) ℓ) (ρ : Dev nD → PrngReg)

/-! ## What the buffers hold along the run -/

def W0 (c : Dev nD) : Valuation τ sig (Elt F) := fun b => m (c, b)
/-- After the scatter. -/
def W1 (c : Dev nD) : Valuation τ sig (Elt F) :=
  Function.update (W0 m c) (Proc.devRef .tc main_v1) ((EndScatter.dat (W0 m) (Swap.O₀ S) c).arrAt (3 : Fin 4) cfg0.N)
/-- After its second half is cut out. -/
def W2 (c : Dev nD) : Valuation τ sig (Elt F) := StableHlo.after hostOps1 (W1 m c)
/-- After the exchange. -/
def W3 (c : Dev nD) : Valuation τ sig (Elt F) :=
  Function.update (W2 m c) (Proc.devRef .tc main_v3) (W2 m (peer c) (Proc.devRef .tc main_v2))
/-- At the end. -/
def W4 (c : Dev nD) : Valuation τ sig (Elt F) := StableHlo.after hostOps2 (W3 m c)

theorem W1_self (c : Dev nD) : W1 m c (Proc.devRef .tc main_v1) = (EndScatter.dat (W0 m) (Swap.O₀ S) c).arrAt (3 : Fin 4) cfg0.N := by
  unfold W1; exact Function.update_self _ _ _
theorem W1_of (c : Dev nD) {b : DevRef τ sig} (h : b ≠ Proc.devRef .tc main_v1) : W1 m c b = W0 m c b := by
  unfold W1; exact Function.update_of_ne h _ _
theorem W3_self (c : Dev nD) : W3 m c (Proc.devRef .tc main_v3) = W2 m (peer c) (Proc.devRef .tc main_v2) := by
  unfold W3; exact Function.update_self _ _ _
theorem W3_of (c : Dev nD) {b : DevRef τ sig} (h : b ≠ Proc.devRef .tc main_v3) : W3 m c b = W2 m c b := by
  unfold W3; exact Function.update_of_ne h _ _

/-! ## The calls' proof data -/

def pdats : (p : Fin 2) → (c : Dev nD) → Dat τ (Elt F) Unit ℕ (Swap.UU nD τ sig) ℕ (Pipeline.pin (pcfgs (F := F)) adm p) c
  | 0 => EndScatter.dat (W0 m) (Swap.O₀ S)
  | 1 => EndExchange.dat (W2 m)

local notation "ℍ" => HostSeg (Ix := Unit) (Name := ℕ) (U := Swap.UU nD τ sig) (Lvl := ℕ) (pcfgs (F := F)) defs₀ Variants.none Swap.L (Swap.lv S)
local notation "ℝ" => RegionSeg (pcfgs (F := F)) adm (pdats m) () defs₀ Variants.none Swap.L (Swap.lv S)

/-- What a device keeps for the exchange from the launch on. -/
def kept (c : Dev nD) : sProp 𝕄 :=
  iprop(Dormant.dormant S (EndExchange.P (W2 m)) c
    ∗ (cred (tallyAt (S.at_ c (.inl ())) () 1) ∗ bigSep Finset.univ fun j : Fin 1 => cred (tallyAt (S.at_ c (.inr (.inr j))) () (S.N j))))

/-- What goes along beside the buffers until the exchange. -/
def aside (c : Dev nD) : sProp 𝕄 :=
  iprop(kept m c ∗ (∃ r, prngReg c r) ∗ ∃ W, owes (c : Thread nD τ) (Swap.O₀ S c) W)
/-- And after it. -/
def rest (c : Dev nD) : sProp 𝕄 :=
  iprop(semVal (S.at_ c (.inl ())) 0 ∗ ∃ W, owes (c : Thread nD τ) (0 : CellTallies nD τ sig Unit) W)

/-! ## The scatter's region -/

theorem staging0 : ∀ (w : Fin 4) (s : Fin (spec0 w).nbuf), ∀ k, EndExchange.S.sem k ≠ .dma ((spec0 w).sem s) := by
  intro w s; fin_cases w <;> fin_cases s <;> decide
theorem staging1 : ∀ (w : Fin 2) (s : Fin (spec1 w).nbuf), ∀ k, EndExchange.S.sem k ≠ .dma ((spec1 w).sem s) := by
  intro w s; fin_cases w <;> fin_cases s <;> decide

theorem level_zero (c : Dev nD) (q : DmaSem sig) (h : ∀ k, EndExchange.S.sem k ≠ .dma q) : Swap.lv (τ := τ) S ((c : Thread nD τ), .dma q) () = 0 := by
  have hd : EndExchange.S.dec (.dma q) = none := dif_neg fun ⟨k, hk⟩ => h k hk
  unfold Swap.lv; rw [hd]; rfl

theorem owed_cut (c : Dev nD) (g : GSem nD τ sig) (i : Unit) (h : 0 < Swap.O₀ S c g i) : i ∈ Swap.L g ∧ 0 < Swap.lv (τ := τ) S g i := by
  rcases Swap.O₀_pos S h with ⟨j, rfl⟩ | rfl
  · exact ⟨by rw [Swap.L_tc]; exact Finset.mem_singleton_self _, by rw [Swap.lv_at]; exact Nat.succ_pos _⟩
  · exact ⟨by rw [Swap.L_tc]; exact Finset.mem_singleton_self _, by rw [Swap.lv_at]; exact Nat.succ_pos _⟩

theorem cut0 : Pipeline.LevelCut (τ := τ) (pcfgs (F := F)) adm () Swap.L (Swap.lv S) 0 (Swap.O₀ S) (fun _ : Dev nD => (0 : ℕ)) where
  hι c w s := by rw [Swap.L_tc]; exact Finset.mem_singleton_self _
  hιb c w s := (level_zero c _ (staging0 w s)).le
  hD c g i h := owed_cut c g i h

theorem arr0_mem : Proc.devRef .tc main_v1 ∈ Pipeline.arrRefs (τ := τ) spec0 := by decide
theorem arr1_mem : Proc.devRef .tc main_v3 ∈ Pipeline.arrRefs (τ := τ) spec1 := by decide
theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)

theorem before0 (c : Dev nD) (w : Fin 4) :
    (EndScatter.dat (W0 m) (Swap.O₀ S) c).arrAt w 0 = W0 m c (Proc.devRef .tc (Pipeline.arrRef spec0 w)) := rfl
theorem after0 (c : Dev nD) (w : Fin 4) :
    (EndScatter.dat (W0 m) (Swap.O₀ S) c).arrAt w cfg0.N = W1 m c (Proc.devRef .tc (Pipeline.arrRef spec0 w)) := by
  match w with
  | 0 => exact ((EndScatter.dat (W0 m) (Swap.O₀ S) c).arrAt_in (0 : Fin 4) rfl _).trans (W1_of m c (by decide)).symm
  | 1 => exact ((EndScatter.dat (W0 m) (Swap.O₀ S) c).arrAt_in (1 : Fin 4) rfl _).trans (W1_of m c (by decide)).symm
  | 2 => exact ((EndScatter.dat (W0 m) (Swap.O₀ S) c).arrAt_in (2 : Fin 4) rfl _).trans (W1_of m c (by decide)).symm
  | 3 => exact (W1_self m c).symm

set_option backward.isDefEq.respectTransparency.types false in
def reg0 : ℝ 0 :=
  RegionSeg.ofHeld (pcfgs (F := F)) adm (pdats m) () defs₀ Variants.none Swap.L (Swap.lv S) 0 (Swap.O₀ S)
    (fun _ => iprop(emp)) (fun _ => iprop(emp)) launch0.toP rfl
    (fun c => (EndScatter.body_obligation (W0 m) (Swap.O₀ S) c).loose)
    (fun _ _ => rfl) (fun _ => rfl) (fun c w => by show (EndScatter.dat (W0 m) (Swap.O₀ S) c).share w = _; unfold Dat.share; split <;> rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]; · iexact H
      iempintro)
    (fun _ => 0) cut0
    (fun c => iprop(StableHlo.held (c.tc : Thread nD τ) (Pipeline.ucRefs τ sig \ Pipeline.arrRefs spec0) (W0 m c) ∗ kept m c ∗ ∃ r, prngReg c r))
    (W0 m) (W1 m) (before0 m) (after0 m)

theorem reg0_pre (c : Dev nD) : iprop(StableHlo.held (c : Thread nD τ) (Pipeline.ucRefs τ sig) (W0 m c) ∗ aside m c) ⊢ (reg0 m).pre c := by
  show _ ⊢ iprop(StableHlo.held (c.tc : Thread nD τ) (Pipeline.arrRefs (τ := τ) spec0) (W0 m c) ∗ emp
    ∗ (StableHlo.held (c.tc : Thread nD τ) (Pipeline.ucRefs τ sig \ Pipeline.arrRefs spec0) (W0 m c) ∗ kept m c ∗ ∃ r, prngReg c r)
    ∗ ∃ Wd, owes (c : Thread nD τ) (Swap.O₀ S c) Wd)
  rw [StableHlo.held_sub_split (c.tc : Thread nD τ) arr0_sub]
  unfold aside
  iintro ⟨⟨Ha, Hr⟩, Hk, Hp, HO⟩
  isplitl [Ha]; · iexact Ha
  isplitr; · iempintro
  isplitl [Hr Hk Hp]
  · isplitl [Hr]; · iexact Hr
    isplitl [Hk] <;> iassumption
  iexact HO

theorem off0 (c : Dev nD) : (StableHlo.held (c.tc : Thread nD τ) (Pipeline.ucRefs τ sig \ Pipeline.arrRefs spec0) (W0 m c) : sProp 𝕄)
    = StableHlo.held (c.tc : Thread nD τ) (Pipeline.ucRefs τ sig \ Pipeline.arrRefs spec0) (W1 m c) :=
  StableHlo.held_congr (c.tc : Thread nD τ) fun b hb =>
    (W1_of m c fun h : b = Proc.devRef .tc main_v1 => (Finset.mem_sdiff.mp hb).2 (by rw [h]; exact arr0_mem)).symm

theorem reg0_post (c : Dev nD) : (reg0 m).post c ⊢ iprop(StableHlo.held (c : Thread nD τ) (Pipeline.ucRefs τ sig) (W1 m c) ∗ aside m c) := by
  show iprop(StableHlo.held (c.tc : Thread nD τ) (Pipeline.arrRefs (τ := τ) spec0) (W1 m c) ∗ emp
    ∗ (StableHlo.held (c.tc : Thread nD τ) (Pipeline.ucRefs τ sig \ Pipeline.arrRefs spec0) (W0 m c) ∗ kept m c ∗ ∃ r, prngReg c r)
    ∗ ∃ Wd, owes (c : Thread nD τ) (Swap.O₀ S c) Wd) ⊢ _
  rw [off0, StableHlo.held_sub_split (c.tc : Thread nD τ) arr0_sub (W1 m c)]
  unfold aside
  iintro ⟨Ha, -, ⟨Hr, Hk, Hp⟩, HO⟩
  isplitl [Ha Hr]; · isplitl [Ha] <;> iassumption
  isplitl [Hk]; · iexact Hk
  isplitl [Hp] <;> iassumption

/-! ## The exchange's region -/

theorem ownSemFacts : Pipeline.OwnSemFacts spec1 S.own := by decide

theorem cut1 : Pipeline.LevelCutOwed (pcfgs (F := F)) adm (pdats m) () Swap.L (Swap.lv S) 1 (fun _ : Dev nD => (0 : ℕ)) where
  hι c w s := by rw [Swap.L_tc]; exact Finset.mem_singleton_self _
  hιb c w s := (level_zero c _ (staging1 w s)).le
  hD c t g i h := by
    rcases t with ⟨_ | _, ht⟩
    · exact owed_cut c g i h
    · exact absurd h (Nat.lt_irrefl 0)

theorem before1 (c : Dev nD) (w : Fin 2) :
    (EndExchange.dat (W2 m) c).arrAt w 0 = W2 m c (Proc.devRef .tc (Pipeline.arrRef spec1 w)) := rfl
theorem after1 (c : Dev nD) (w : Fin 2) :
    (EndExchange.dat (W2 m) c).arrAt w cfg1.N = W3 m c (Proc.devRef .tc (Pipeline.arrRef spec1 w)) := by
  match w with
  | 0 => exact (EndExchange.final_arg (W2 m) c).trans (W3_of m c (by decide)).symm
  | 1 => exact (EndExchange.final_res (W2 m) c).trans (W3_self m c).symm

theorem open1 (c : Dev nD) : iprop(kept m c ∗ Pipeline.ownSems0 S.own c ∗ levAts Swap.L (Swap.lv S)) ⊢ (|={Set.univ}=> EndExchange.ready (W2 m) c : sProp 𝕄) := by
  unfold kept EndExchange.ready
  iintro ⟨⟨Hd, Hc⟩, Hs, #Hl⟩
  imod (Dormant.open_cells S (EndExchange.P (W2 m)) c) $$ [Hd Hs] with Ha
  · isplitl [Hd]; · iexact Hd
    iapply (show (Pipeline.ownSems0 S.own c : sProp 𝕄) ⊢ bigSep Finset.univ fun k : Fin 1 ⊕ Fin 1 => semVal (S.at_ c (.inr k)) 0 from Entails.of_eq rfl)
    iexact Hs
  imodintro
  isplitl [Ha]; · iexact Ha
  isplitl [Hc]; · iexact Hc
  iexact Hl

theorem held_none (c : Dev nD) (V : Valuation τ sig (Elt F)) : (StableHlo.held (c.tc : Thread nD τ) ∅ V : sProp 𝕄) = BI.emp := by
  unfold StableHlo.held; exact BI.bigSep_empty

theorem zeros_split (c : Dev nD) : (Swap.zeros S c : sProp 𝕄) = iprop(semVal (S.at_ c (.inl ())) 0 ∗ Pipeline.ownSems0 S.own c) := by
  unfold Swap.zeros
  rw [bigSep_univ_sum, Finset.univ_unique, bigSep_singleton]; rfl

theorem in1 (c : Dev nD) : iprop(Pipeline.scopedRest spec1 c ∗ (∃ r, prngReg c r) ∗ StableHlo.held (c.tc : Thread nD τ) ∅ (W2 m c) ∗ EndExchange.ready (W2 m) c)
    ⊢ iprop(EndExchange.spare c ∗ EndExchange.ready (W2 m) c) := by
  unfold EndExchange.spare
  iintro ⟨Hs, Hp, -, Hr⟩
  isplitl [Hs Hp]; · isplitl [Hs] <;> iassumption
  iexact Hr

theorem out1 (c : Dev nD) : iprop(EndExchange.spare c ∗ Swap.zeros S c)
    ⊢ iprop(Pipeline.scopedRest spec1 c ∗ (∃ r, prngReg c r) ∗ StableHlo.held (c.tc : Thread nD τ) ∅ (W3 m c) ∗ Pipeline.ownSems0 S.own c
      ∗ semVal (S.at_ c (.inl ())) 0) := by
  rw [held_none, zeros_split]
  unfold EndExchange.spare
  iintro ⟨⟨Hs, Hp⟩, Hb, Ho⟩
  isplitl [Hs]; · iexact Hs
  isplitl [Hp]; · iexact Hp
  isplitr; · iempintro
  isplitl [Ho] <;> iassumption

theorem off1 (c : Dev nD) : ∀ b ∈ (Pipeline.ucRefs τ sig \ Pipeline.arrRefs spec1) \ ∅, W3 m c b = W2 m c b := fun b hb =>
  W3_of m c fun h : b = Proc.devRef .tc main_v3 => (Finset.mem_sdiff.mp (Finset.mem_sdiff.mp hb).1).2 (by rw [h]; exact arr1_mem)

set_option backward.isDefEq.respectTransparency.types false in
def reg1 : ℝ 1 :=
  RegionSeg.ofTalk (pcfgs (F := F)) adm (pdats m) () defs₀ Variants.none Swap.L (Swap.lv S) 1 S.own ownSemFacts
    ∅ (Pipeline.ucRefs τ sig \ Pipeline.arrRefs spec1) (Finset.empty_subset _) launch1.toP rfl
    (fun c => (EndExchange.body_obligation (W2 m) c).loose)
    (fun _ => 0) (Swap.O₀ S) (fun c => (show Swap.O₀ S c = 0 + Swap.O₀ S c from (zero_add _).symm)) (fun _ => rfl) (fun _ => rfl)
    (fun c w => EndExchange.share_eq (W2 m) c w)
    (W2 m) (W3 m) (off1 m)
    (kept m) (fun c => semVal (S.at_ c (.inl ())) 0) (EndExchange.ready (W2 m)) (fun c => semVal (S.at_ c (.inl ())) 0)
    (open1 m) (in1 m) (out1 m)
    (fun c => by iintro H; imodintro; iexact H)
    (fun _ => 0) (cut1 m)
    (fun _ => iprop(emp))
    (before1 m) (after1 m)

theorem reg1_pre (c : Dev nD) : iprop(StableHlo.held (c : Thread nD τ) (Pipeline.ucRefs τ sig) (W2 m c) ∗ aside m c) ⊢ (reg1 m).pre c := by
  show _ ⊢ iprop(StableHlo.held (c.tc : Thread nD τ) (Pipeline.arrRefs (τ := τ) spec1) (W2 m c) ∗ (∃ r, prngReg c r)
    ∗ (StableHlo.held (c.tc : Thread nD τ) (Pipeline.ucRefs τ sig \ Pipeline.arrRefs spec1) (W2 m c) ∗ emp) ∗ kept m c
    ∗ ∃ Wd, owes (c : Thread nD τ) (0 + Swap.O₀ S c) Wd)
  rw [zero_add, StableHlo.held_sub_split (c.tc : Thread nD τ) arr1_sub]
  unfold aside
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem reg1_post (c : Dev nD) : (reg1 m).post c ⊢ iprop(StableHlo.held (c : Thread nD τ) (Pipeline.ucRefs τ sig) (W3 m c) ∗ rest c) := by
  show iprop(StableHlo.held (c.tc : Thread nD τ) (Pipeline.arrRefs (τ := τ) spec1) (W3 m c) ∗ (∃ r, prngReg c r)
    ∗ (StableHlo.held (c.tc : Thread nD τ) (Pipeline.ucRefs τ sig \ Pipeline.arrRefs spec1) (W3 m c) ∗ emp) ∗ semVal (S.at_ c (.inl ())) 0
    ∗ ∃ Wd, owes (c : Thread nD τ) (0 : CellTallies nD τ sig Unit) Wd) ⊢ _
  rw [StableHlo.held_sub_split (c.tc : Thread nD τ) arr1_sub (W3 m c)]
  unfold rest
  iintro ⟨Ha, -, ⟨Hr, -⟩, Hb, HO⟩
  isplitl [Ha Hr]; · isplitl [Ha] <;> iassumption
  isplitl [Hb] <;> iassumption

/-! ## The host's segments -/

def host1 : ℍ :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) (aside m)
def host2 : ℍ :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

def segs (_ : Dev nD) : List (Seg (pcfgs (F := F)) adm (pdats m) () defs₀ Variants.none Swap.L (Swap.lv S)) :=
  [.region (reg0 m), .host (host1 m), .region (reg1 m), .host (host2 m)]

/-! ## The launch -/

def u₀ : Swap.UU nD τ sig := (initOf (Pipeline.cells cfgs cellOf_inj) (Pipeline.launchToks cfgs cellOf_inj), Dormant.u S)

/-- The exchange's part of the launch's resources waits at the first device until every device's can be dealt. -/
def park (c : Dev nD) : sProp 𝕄 := if c = 0 then BI.own (Swap.ER (Dormant.u S)) else iprop(emp)

theorem park_eq : bigSep Finset.univ (park : Dev nD → sProp 𝕄) = BI.own (Swap.ER (Dormant.u S)) := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park
  rw [if_pos rfl]
  exact BI.Entails.antisymm (show _ ⊢ (_ : sProp 𝕄) from by iintro ⟨H, -⟩; iexact H)
    (show _ ⊢ (_ : sProp 𝕄) from by iintro H; isplitl [H]; · iexact H
                                    iempintro)

theorem unscoped_eq (c : Dev nD) : (unscopedSems0 c : sProp 𝕄) = semVal (S.at_ c (.inl ())) 0 := by
  unfold unscopedSems0; rw [bigSep_eq_bigSepL_of_eq [SemLoc.reg EndExchange.barS] (by decide) (by decide)]; rfl

theorem prepare :
    iprop((bigSep Finset.univ fun c : Dev nD => iprop(unscopedSems0 c ∗ owes (c : Thread nD τ) (Swap.O₀ S c) ∅ ∗ Pipeline.launchCred (Swap.O₀ S) c
        ∗ prngReg c (ρ c) ∗ park c)) ∗ levAts Swap.L (Swap.lv S))
      ⊢ (|={Set.univ}=> bigSep Finset.univ (aside m) : sProp 𝕄) := by
  simp only [bigSep_sep']
  iintro ⟨⟨Hs, HO, Hc, Hp, Hu⟩, -⟩
  ihave Hu := (Entails.of_eq park_eq) $$ Hu
  ihave Hs := (Entails.of_eq (bigSep_congr fun c _ => unscoped_eq c)) $$ Hs
  imod (Dormant.deal S (EndExchange.P (W2 m))) $$ [Hs Hu] with Hd
  · isplitl [Hs] <;> iassumption
  imodintro
  ihave H := (show iprop(bigSep Finset.univ (Dormant.dormant S (EndExchange.P (W2 m)))
      ∗ (bigSep Finset.univ fun c : Dev nD => owes (c : Thread nD τ) (Swap.O₀ S c) ∅)
      ∗ (bigSep Finset.univ fun c : Dev nD => Pipeline.launchCred (Swap.O₀ S) c)
      ∗ (bigSep Finset.univ fun c : Dev nD => prngReg c (ρ c)))
      ⊢ (bigSep Finset.univ (aside m) : sProp 𝕄) from by
    rw [← bigSep_sep', ← bigSep_sep', ← bigSep_sep']
    refine bigSep_mono fun c _ => show _ ⊢ (_ : sProp 𝕄) from ?_
    unfold aside kept
    iintro ⟨Hd, HO, Hc, Hp⟩
    isplitl [Hd Hc]
    · isplitl [Hd]; · iexact Hd
      iapply (Swap.creds S c); iexact Hc
    isplitl [Hp]
    · iexists _; iexact Hp
    iexists _; iexact HO) $$ [Hd HO Hc Hp]
  · isplitl [Hd]; · iexact Hd
    isplitl [HO]; · iexact HO
    isplitl [Hc] <;> iassumption
  iexact H

set_option maxRecDepth 8000 in
set_option backward.isDefEq.respectTransparency.types false in
/-- From any memory with zero counters every weakly fair execution of the four devices' programs terminates, each
    buffer holding its final contents and every counter at zero. -/
theorem run_main : θ_run defs (onTc (τ := τ) (main (F := F))) ⟨m, fun _ => 0, ρ⟩
    (fun r => (∀ (c : Dev nD) (b : DevRef τ sig), b ∈ Pipeline.ucRefs τ sig → r.2.mem (c, b) = W4 m c b) ∧ r.2.sem = fun _ => 0) :=
  Pipeline.θ_run_regions_kit_dev_sems (pcfgs (F := F)) adm (pdats m) () cellOf_inj Swap.EP defs₀ Variants.none Swap.L (Swap.lv S) m ρ main
    (segs m)
    (fun c Q => by
      rewrite [main_chain c, Seg.run_eq_chain,
        show (segs m c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (Swap.O₀ S) Swap.L_of_ne park u₀
    (by
      unfold u₀
      iintro Hu
      ihave H := (ownU_pair _ _) $$ Hu
      icases H with ⟨HP, HX⟩
      imodintro
      isplitl [HP]; · iexact HP
      iapply (Entails.of_eq park_eq.symm); iexact HX)
    (T₀ := fun c => iprop(StableHlo.held (c : Thread nD τ) (Pipeline.ucRefs τ sig) (W0 m c) ∗ aside m c))
    (Tₙ := fun c => iprop(StableHlo.held (c : Thread nD τ) (Pipeline.ucRefs τ sig) (W4 m c) ∗ semVal (S.at_ c (.inl ())) 0))
    (hch := fun c => ⟨reg0_pre m c, reg0_post m c, reg1_pre m c, reg1_post m c, by
      show iprop(StableHlo.held (c : Thread nD τ) (Pipeline.ucRefs τ sig) (W4 m c) ∗ rest c) ⊢ _
      unfold rest
      iintro ⟨Hh, Hb, HO⟩
      isplitl [Hh Hb]; · isplitl [Hh] <;> iassumption
      iexact HO⟩)
    (hinit := by
      have hsplit : (bigSep Finset.univ fun c : Dev nD => iprop(unscopedBufs c (fun b => m ((c.tc : Thread nD τ).loc b)) ∗ unscopedSems0 c
            ∗ owes (c.tc : Thread nD τ) (Swap.O₀ S c) ∅ ∗ Pipeline.launchCred (Swap.O₀ S) c ∗ prngReg c (ρ c) ∗ park c))
          ⊢ (iprop((bigSep Finset.univ fun c : Dev nD => StableHlo.held (c : Thread nD τ) (Pipeline.ucRefs τ sig) (W0 m c))
              ∗ bigSep Finset.univ fun c : Dev nD => iprop(unscopedSems0 c ∗ owes (c : Thread nD τ) (Swap.O₀ S c) ∅ ∗ Pipeline.launchCred (Swap.O₀ S) c ∗ prngReg c (ρ c) ∗ park c))
              : sProp 𝕄) := by
        rw [← bigSep_sep']
        exact bigSep_mono fun c _ => by rw [← Pipeline.unscopedBufs_held (Ix := Unit) (Name := ℕ) (U := Swap.UU nD τ sig) (Lvl := ℕ) c (W0 m c)]; exact BI.Entails.refl _
      iintro ⟨H, Hla⟩
      ihave H' := hsplit $$ H
      icases H' with ⟨Hh, Hr⟩
      imod (prepare m ρ) $$ [Hr Hla] with HE
      · isplitl [Hr]; · iexact Hr
        iexact Hla
      imodintro
      rw [bigSep_sep']
      isplitl [Hh]; · iexact Hh
      iexact HE)
    (QY := fun c s => (∀ b ∈ Pipeline.ucRefs τ sig, s.mem (c, b) = W4 m c b) ∧ ∀ sm : SemLoc sig, sm.isScoped .tc = false → s.sem ((c.tc : Thread nD τ), sm) = 0)
    (hfin := fun c s' => by
      unfold StableHlo.held
      iintro ⟨⟨Hh, Hb⟩, HSI⟩
      ihave Hr := (pointsTo_read_all (Pipeline.ucRefs τ sig) (fun b => ((c : Thread nD τ).1, b)) (W4 m c) s') $$ [Hh HSI]
      · isplitl [Hh] <;> iassumption
      icases Hr with ⟨%h, HSI⟩
      imod (Pipeline.unscopedSems0_read (X := semVal (S.at_ c (.inl ())) 0) (c := c) ((Entails.of_eq (unscoped_eq c).symm).trans fupd_intro) s') $$ [Hb HSI] with ⟨%h', HSI⟩
      · isplitl [Hb] <;> iassumption
      imodintro
      isplitr
      · ipureintro; exact ⟨h, h'⟩
      · iexact HSI)
    (hQ := fun s h hs => ⟨fun c => (h c).1, sem_eq_zero hs fun c => (h c).2⟩)

end Cert.RunEnd

end
-- ==== Proof.PairSums.lean ====
/-
# The sums of the rows read

The reference of the layer's end, entry by entry: the sum of two rows, one read on each side of the mesh's first axis, each
as all the experts' parts of it.
-/
module

public import proofs.«01_k».proof.Proof.ClaimsScatter
public import proofs.«01_k».proof.Proof.Gen.PairSumsIdeal.Run

@[expose] public section

noncomputable section

namespace Cert.PairSums

open Cert.PairSumsIdeal Cert.PairSumsIdeal.Facts₀ Idealize.ShloMosaic.TcCoe Idealize.ShloMosaic.ValueIdx
open Idealize.ShloMosaic hiding ix1 ix2 ix3 ix4 eq_ix2 eq_ix3
open scoped BigOperators

/-- The slots of the tokens of either side. -/
abbrev slots0 (S : S16x1024.Idx → BitVec 32) : S8x1024.Idx → BitVec 32 := extractStridedSlice S8x1024 ![0, 0] S slices_S16x1024_S8x1024_0_0
abbrev slots1 (S : S16x1024.Idx → BitVec 32) : S8x1024.Idx → BitVec 32 := extractStridedSlice S8x1024 ![8, 0] S slices_S16x1024_S8x1024_8_0
/-- The experts' rows of either side. -/
abbrev pages0 (P : S16x640x2048.Idx → EReal) : S8x640x2048.Idx → EReal :=
  shapeCast S8x640x2048 (extractStridedSlice S1x8x640x2048 ![0, 0, 0, 0] (shapeCast S2x8x640x2048 P shapeCasts_S16x640x2048_S2x8x640x2048) slices_S2x8x640x2048_S1x8x640x2048_0_0_0_0) shapeCasts_S1x8x640x2048_S8x640x2048
abbrev pages1 (P : S16x640x2048.Idx → EReal) : S8x640x2048.Idx → EReal :=
  shapeCast S8x640x2048 (extractStridedSlice S1x8x640x2048 ![1, 0, 0, 0] (shapeCast S2x8x640x2048 P shapeCasts_S16x640x2048_S2x8x640x2048) slices_S2x8x640x2048_S1x8x640x2048_1_0_0_0) shapeCasts_S1x8x640x2048_S8x640x2048

theorem slots0_apply (S : S16x1024.Idx → BitVec 32) (r : Fin 8) (a : Fin 1024) : slots0 S (ix2 r a) = S (ix2 ⟨0 + r.val, by omega⟩ a) :=
  extractStridedSlice_apply _ _ _ _ (ix2 ⟨0 + r.val, by omega⟩ a) fun b => by
    match b with
    | ⟨0, _⟩ => rfl
    | ⟨1, _⟩ => exact (Nat.zero_add _).symm
theorem slots1_apply (S : S16x1024.Idx → BitVec 32) (r : Fin 8) (a : Fin 1024) : slots1 S (ix2 r a) = S (ix2 ⟨8 + r.val, by omega⟩ a) :=
  extractStridedSlice_apply _ _ _ _ (ix2 ⟨8 + r.val, by omega⟩ a) fun b => by
    match b with
    | ⟨0, _⟩ => rfl
    | ⟨1, _⟩ => exact (Nat.zero_add _).symm

theorem drop_apply (Z : S1x8x640x2048.Idx → EReal) (g : Fin 8) (k : Fin 640) (d : Fin 2048) :
    shapeCast S8x640x2048 Z shapeCasts_S1x8x640x2048_S8x640x2048 (ix3 g k d) = Z (ix4 0 g k d) := by
  refine shapeCast_apply Z _ _ _ ?_
  rw [rowMajor_val4 _ 10485760 1310720 2048 (by decide) (by decide) (by decide), rowMajor_val3 _ 1310720 2048 (by decide) (by decide)]
  show 0 * _ + g.val * _ + k.val * _ + d.val = g.val * _ + k.val * _ + d.val
  omega
theorem side_apply (P : S16x640x2048.Idx → EReal) (x : Fin 2) (g : Fin 8) (k : Fin 640) (d : Fin 2048) :
    shapeCast S2x8x640x2048 P shapeCasts_S16x640x2048_S2x8x640x2048 (ix4 x g k d) = P (ix3 ⟨x.val * 8 + g.val, by omega⟩ k d) := by
  refine shapeCast_apply P _ _ _ ?_
  rw [rowMajor_val4 _ 10485760 1310720 2048 (by decide) (by decide) (by decide), rowMajor_val3 _ 1310720 2048 (by decide) (by decide)]
  show (x.val * 8 + g.val) * _ + k.val * _ + d.val = x.val * _ + g.val * _ + k.val * _ + d.val
  omega
theorem pages0_apply (P : S16x640x2048.Idx → EReal) (g : Fin 8) (k : Fin 640) (d : Fin 2048) : pages0 P (ix3 g k d) = P (ix3 ⟨0 * 8 + g.val, by omega⟩ k d) :=
  (drop_apply _ g k d).trans ((extractStridedSlice_apply _ _ _ _ (ix4 0 g k d) fun a => by
    match a with
    | ⟨0, _⟩ => rfl
    | ⟨1, _⟩ => exact (Nat.zero_add _).symm
    | ⟨2, _⟩ => exact (Nat.zero_add _).symm
    | ⟨3, _⟩ => exact (Nat.zero_add _).symm).trans (side_apply P 0 g k d))
theorem pages1_apply (P : S16x640x2048.Idx → EReal) (g : Fin 8) (k : Fin 640) (d : Fin 2048) : pages1 P (ix3 g k d) = P (ix3 ⟨1 * 8 + g.val, by omega⟩ k d) :=
  (drop_apply _ g k d).trans ((extractStridedSlice_apply _ _ _ _ (ix4 1 g k d) fun a => by
    match a with
    | ⟨0, _⟩ => rfl
    | ⟨1, _⟩ => exact (Nat.zero_add _).symm
    | ⟨2, _⟩ => exact (Nat.zero_add _).symm
    | ⟨3, _⟩ => exact (Nat.zero_add _).symm).trans (side_apply P 1 g k d))

/-- The rows read on one side, by device and by half of the tokens. -/
abbrev read (A : S8x1024.Idx → BitVec 32) (X Y : S8x640x2048.Idx → EReal) : S2x2x4096x2048.Idx → EReal :=
  shapeCast S2x2x4096x2048 (extf (F := Ideal) .f32 (Cert.SlotReads.result A X Y : Vec Ideal S16384x2048 .bf16) bitsLt_bf16_f32) shapeCasts_S16384x2048_S2x2x4096x2048

theorem read_apply (A : S8x1024.Idx → BitVec 32) (X Y : S8x640x2048.Idx → EReal) (y h : Fin 2) (q : Fin 4096) (d : Fin 2048) :
    read A X Y (ix4 y h q d) = Cert.SlotReads.result A X Y (ix2 ⟨y.val * 8192 + (h.val * 4096 + q.val), by omega⟩ d) := by
  refine (shapeCast_apply _ _ _ (ix2 ⟨y.val * 8192 + (h.val * 4096 + q.val), by omega⟩ d) ?_).trans rfl
  rw [rowMajor_val4 _ 16777216 8388608 2048 (by decide) (by decide) (by decide), rowMajor_val2 _ 2048 rfl]
  show (y.val * 8192 + (h.val * 4096 + q.val)) * _ + d.val = y.val * _ + h.val * _ + q.val * _ + d.val
  omega

/-- The first halves of one side's rows and the second halves of the other's, added. -/
abbrev cross (L H : S2x2x4096x2048.Idx → EReal) : S2x4096x2048.Idx → EReal :=
  addf (F := Ideal) (φ := .f32) (shapeCast S2x4096x2048 (extractStridedSlice S2x1x4096x2048 ![0, 0, 0, 0] L slices_S2x2x4096x2048_S2x1x4096x2048_0_0_0_0) shapeCasts_S2x1x4096x2048_S2x4096x2048)
    (shapeCast S2x4096x2048 (extractStridedSlice S2x1x4096x2048 ![0, 1, 0, 0] H slices_S2x2x4096x2048_S2x1x4096x2048_0_1_0_0) shapeCasts_S2x1x4096x2048_S2x4096x2048)

theorem half_apply (Z : S2x1x4096x2048.Idx → EReal) (y : Fin 2) (q : Fin 4096) (d : Fin 2048) :
    shapeCast S2x4096x2048 Z shapeCasts_S2x1x4096x2048_S2x4096x2048 (ix3 y q d) = Z (ix4 y 0 q d) := by
  refine shapeCast_apply Z _ _ _ ?_
  rw [rowMajor_val4 _ 8388608 8388608 2048 (by decide) (by decide) (by decide), rowMajor_val3 _ 8388608 2048 (by decide) (by decide)]
  show y.val * _ + 0 * _ + q.val * _ + d.val = y.val * _ + q.val * _ + d.val
  omega

theorem cross_apply (L H : S2x2x4096x2048.Idx → EReal) (y : Fin 2) (q : Fin 4096) (d : Fin 2048) :
    cross L H (ix3 y q d) = L (ix4 y 0 q d) + H (ix4 y 1 q d) := by
  refine congr (congrArg (fun (a b : EReal) => a + b) ?_) ?_
  · refine (half_apply _ y q d).trans (extractStridedSlice_apply _ _ _ _ (ix4 y 0 q d) fun a => ?_)
    match a with
    | ⟨0, _⟩ => exact (Nat.zero_add _).symm
    | ⟨1, _⟩ => rfl
    | ⟨2, _⟩ => exact (Nat.zero_add _).symm
    | ⟨3, _⟩ => exact (Nat.zero_add _).symm
  · refine (half_apply _ y q d).trans (extractStridedSlice_apply _ _ _ _ (ix4 y 1 q d) fun a => ?_)
    match a with
    | ⟨0, _⟩ => exact (Nat.zero_add _).symm
    | ⟨1, _⟩ => rfl
    | ⟨2, _⟩ => exact (Nat.zero_add _).symm
    | ⟨3, _⟩ => exact (Nat.zero_add _).symm

/-- Both sides' sums, in one array. -/
abbrev both (L H : S2x2x4096x2048.Idx → EReal) : S16384x2048.Idx → EReal :=
  shapeCast S16384x2048 (concatenate S2x2x4096x2048 0 [⟨S1x2x4096x2048, broadcastInDim S1x2x4096x2048 ![1, 2, 3] bcast_S2x4096x2048_S1x2x4096x2048_1_2_3 (cross L H)⟩,
    ⟨S1x2x4096x2048, broadcastInDim S1x2x4096x2048 ![1, 2, 3] bcast_S2x4096x2048_S1x2x4096x2048_1_2_3 (cross H L)⟩] concatenates_S1x2x4096x2048_S1x2x4096x2048_S2x2x4096x2048_d0) shapeCasts_S2x2x4096x2048_S16384x2048

theorem lift_apply (Z : S2x4096x2048.Idx → EReal) (y : Fin 2) (q : Fin 4096) (d : Fin 2048) :
    broadcastInDim S1x2x4096x2048 ![1, 2, 3] bcast_S2x4096x2048_S1x2x4096x2048_1_2_3 Z (ix4 0 y q d) = Z (ix3 y q d) :=
  broadcastInDim_apply _ _ _ _ (ix3 y q d) fun a => by
    match a with
    | ⟨0, _⟩ => rfl
    | ⟨1, _⟩ => rfl
    | ⟨2, _⟩ => rfl

theorem both_cast (Z : S2x2x4096x2048.Idx → EReal) (c : Fin 4) (x y : Fin 2) (hc : c.val = x.val * 2 + y.val) (q : Fin 4096) (d : Fin 2048) :
    shapeCast S16384x2048 Z shapeCasts_S2x2x4096x2048_S16384x2048 (ix2 ⟨c.val * 4096 + q.val, by omega⟩ d) = Z (ix4 x y q d) := by
  refine shapeCast_apply Z _ _ _ ?_
  rw [rowMajor_val4 _ 16777216 8388608 2048 (by decide) (by decide) (by decide), rowMajor_val2 _ 2048 rfl]
  show x.val * _ + y.val * _ + q.val * _ + d.val = (c.val * 4096 + q.val) * _ + d.val
  omega

theorem both_first (L H : S2x2x4096x2048.Idx → EReal) (c : Fin 4) (y : Fin 2) (hc : c.val = (0 : Fin 2).val * 2 + y.val) (q : Fin 4096) (d : Fin 2048) :
    both L H (ix2 ⟨c.val * 4096 + q.val, by omega⟩ d) = L (ix4 y 0 q d) + H (ix4 y 1 q d) := by
  refine (both_cast _ c 0 y hc q d).trans ((concatenate_pair_apply_left (t := S2x2x4096x2048) (s₁ := S1x2x4096x2048) (s₂ := S1x2x4096x2048) 0 _ _ _ _ rfl (ix4 0 y q d) fun a => ?_).trans
    ((lift_apply _ y q d).trans (cross_apply L H y q d)))
  match a with
  | ⟨0, _⟩ => rfl
  | ⟨1, _⟩ => rfl
  | ⟨2, _⟩ => rfl
  | ⟨3, _⟩ => rfl

theorem both_second (L H : S2x2x4096x2048.Idx → EReal) (c : Fin 4) (y : Fin 2) (hc : c.val = (1 : Fin 2).val * 2 + y.val) (q : Fin 4096) (d : Fin 2048) :
    both L H (ix2 ⟨c.val * 4096 + q.val, by omega⟩ d) = H (ix4 y 0 q d) + L (ix4 y 1 q d) := by
  refine (both_cast _ c 1 y hc q d).trans ((concatenate_pair_apply_right (t := S2x2x4096x2048) (s₁ := S1x2x4096x2048) (s₂ := S1x2x4096x2048) 0 _ _ _ _ rfl rfl (ix4 0 y q d) (fun a ha => ?_) rfl).trans
    ((lift_apply _ y q d).trans (cross_apply H L y q d)))
  match a with
  | ⟨0, _⟩ => exact absurd rfl ha
  | ⟨1, _⟩ => rfl
  | ⟨2, _⟩ => rfl
  | ⟨3, _⟩ => rfl

/-- The reference's result as a function of its operands. -/
def result (S : S16x1024.Idx → BitVec 32) (X Y : S16x640x2048.Idx → EReal) : S16384x2048.Idx → EReal :=
  both (read (slots0 S) (pages0 X) (pages0 Y)) (read (slots1 S) (pages1 X) (pages1 Y))

set_option maxRecDepth 8192 in
theorem res_eq (m : (ℓ : Loc nD τ sig) → Buf (Elt Ideal) ℓ) (c : Dev nD) :
    Value.res_main_v89 m c = result (m ((c.tc : Thread nD τ).loc main_arg0)) (m ((c.tc : Thread nD τ).loc main_arg1)) (m ((c.tc : Thread nD τ).loc main_arg2)) := by
  unfold Value.res_main_v89 result
  rfl

end Cert.PairSums

end
-- ==== Proof.ClaimsEnd.lean ====
/-
# The layer's end: the claims

The frames of the program, of its twin and of the reference, and the value: device `(i, j)` ends with, for each token of its
half, its own experts' row added to the row that device `(1 - i, j)` read for that token.
-/
module

public import proofs.«01_k».proof.Defs
public import proofs.«01_k».proof.Proof.EndArray
public import proofs.«01_k».proof.Proof.RunEnd
public import proofs.«01_k».proof.Proof.PairSums
public import proofs.«01_k».proof.Proof.Gen.LayerEndIdeal
public import Idealize.ShloMosaic.Lib.StableHlo.Run

@[expose] public section

noncomputable section

namespace Cert.ClaimsEnd

open Idealize.ShloMosaic.TcCoe Idealize.SL.Sem Idealize.ShloMosaic.ValueIdx
open Idealize.ShloMosaic hiding ix1 ix2 ix3 ix4 eq_ix2 eq_ix3
open scoped BigOperators

variable {F : FTy → Type} [FloatOps F]

set_option smartUnfolding false in
/-- The twin's table of bodies is the program's. -/
theorem defs_eq : Cert.LayerEndIdeal.defs (F := F) = Cert.LayerEnd.defs (F := F) := rfl

section Program

open Cert.LayerEnd Cert.LayerEnd.Gen Cert.RunEnd

variable (m : (ℓ : Loc nD τ sig) → Buf (Elt F) ℓ)

/-- The operands are where they were. -/
theorem W4_arg0 (c : Dev nD) : W4 m c (Proc.devRef .tc main_arg0) = m ((c.tc : Thread nD τ).loc main_arg0) := by
  unfold W4
  rw [StableHlo.after_of_writes_sub hostOps2 _ hostOps2_writes (by decide : main_arg0 ∉ hostOps2_W), W3_of m c (by decide)]
  unfold W2
  rw [StableHlo.after_of_writes_sub hostOps1 _ hostOps1_writes (by decide : main_arg0 ∉ hostOps1_W), W1_of m c (by decide)]
  rfl
theorem W4_arg1 (c : Dev nD) : W4 m c (Proc.devRef .tc main_arg1) = m ((c.tc : Thread nD τ).loc main_arg1) := by
  unfold W4
  rw [StableHlo.after_of_writes_sub hostOps2 _ hostOps2_writes (by decide : main_arg1 ∉ hostOps2_W), W3_of m c (by decide)]
  unfold W2
  rw [StableHlo.after_of_writes_sub hostOps1 _ hostOps1_writes (by decide : main_arg1 ∉ hostOps1_W), W1_of m c (by decide)]
  rfl
theorem W4_arg2 (c : Dev nD) : W4 m c (Proc.devRef .tc main_arg2) = m ((c.tc : Thread nD τ).loc main_arg2) := by
  unfold W4
  rw [StableHlo.after_of_writes_sub hostOps2 _ hostOps2_writes (by decide : main_arg2 ∉ hostOps2_W), W3_of m c (by decide)]
  unfold W2
  rw [StableHlo.after_of_writes_sub hostOps1 _ hostOps1_writes (by decide : main_arg2 ∉ hostOps1_W), W1_of m c (by decide)]
  rfl

/-- The rows a device's scatter leaves. -/
def rows (c : Dev nD) : (⟨S8192x2048, .bf16⟩ : BufTy).Contents (Elt F) := (EndScatter.dat (W0 m) (Swap.O₀ Cert.EndExchange.S) c).arrAt (3 : Fin 4) cfg0.N

/-- A device's sum, of its own rows and of its peer's. -/
def sums (c : Dev nD) : (⟨S4096x2048, .f32⟩ : BufTy).Contents (Elt F) :=
  addf (extf .f32 (extractStridedSlice S4096x2048 ![0, 0] (rows m c) slices_S8192x2048_S4096x2048_0_0 : (⟨S4096x2048, .bf16⟩ : BufTy).Contents (Elt F)) bitsLt_bf16_f32)
    (extf .f32 (extractStridedSlice S4096x2048 ![4096, 0] (rows m (Cert.EndExchange.peer c)) slices_S8192x2048_S4096x2048_4096_0 : (⟨S4096x2048, .bf16⟩ : BufTy).Contents (Elt F)) bitsLt_bf16_f32)

theorem W2_v1 (c : Dev nD) : W2 m c (Proc.devRef .tc main_v1) = rows m c := by
  unfold W2
  rw [StableHlo.after_of_writes_sub hostOps1 _ hostOps1_writes (by decide : main_v1 ∉ hostOps1_W), W1_self]
  rfl

theorem W2_v2 (c : Dev nD) : W2 m c (Proc.devRef .tc main_v2)
    = (extractStridedSlice S4096x2048 ![4096, 0] (rows m c) slices_S8192x2048_S4096x2048_4096_0 : (⟨S4096x2048, .bf16⟩ : BufTy).Contents (Elt F)) := by
  have h : W2 m c (Proc.devRef .tc main_v2)
      = (extractStridedSlice S4096x2048 ![4096, 0] (W1 m c (Proc.devRef .tc main_v1)) slices_S8192x2048_S4096x2048_4096_0 : (⟨S4096x2048, .bf16⟩ : BufTy).Contents (Elt F)) := by
    unfold W2
    after_results
  rw [h, W1_self]
  rfl

theorem W4_v7 (c : Dev nD) : W4 m c (Proc.devRef .tc main_v7) = sums m c := by
  have h : W4 m c (Proc.devRef .tc main_v7)
      = (addf (extf .f32 (extractStridedSlice S4096x2048 ![0, 0] (W3 m c (Proc.devRef .tc main_v1)) slices_S8192x2048_S4096x2048_0_0 : (⟨S4096x2048, .bf16⟩ : BufTy).Contents (Elt F)) bitsLt_bf16_f32)
        (extf .f32 (W3 m c (Proc.devRef .tc main_v3) : (⟨S4096x2048, .bf16⟩ : BufTy).Contents (Elt F)) bitsLt_bf16_f32) : (⟨S4096x2048, .f32⟩ : BufTy).Contents (Elt F)) := by
    unfold W4
    after_results
  rw [h, W3_self, W3_of m c (by decide), W2_v1, W2_v2]
  rfl

/-- After the run each device holds its sum, its operands unchanged, and every counter is zero. -/
theorem run_program (ρ : Dev nD → PrngReg) :
    θ_run defs (onTc (τ := τ) (main (F := F))) ⟨m, fun _ => 0, ρ⟩ fun r => (∀ c : Dev nD,
      r.2.mem ((c.tc : Thread nD τ).loc main_v7) = sums m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c =>
    ⟨(h.1 c (Proc.devRef .tc main_v7) (Finset.mem_filter.mpr ⟨StableHlo.devRef_mem_tcRefs main_v7, by decide⟩)).trans (W4_v7 m c),
      (h.1 c (Proc.devRef .tc main_arg0) (Finset.mem_filter.mpr ⟨StableHlo.devRef_mem_tcRefs main_arg0, by decide⟩)).trans (W4_arg0 m c),
      (h.1 c (Proc.devRef .tc main_arg1) (Finset.mem_filter.mpr ⟨StableHlo.devRef_mem_tcRefs main_arg1, by decide⟩)).trans (W4_arg1 m c),
      (h.1 c (Proc.devRef .tc main_arg2) (Finset.mem_filter.mpr ⟨StableHlo.devRef_mem_tcRefs main_arg2, by decide⟩)).trans (W4_arg2 m c)⟩, h.2⟩) (run_main m ρ)

end Program

section Twin

open Cert.LayerEndIdeal

set_option maxRecDepth 10000 in
/-- The same of the twin, whose text is the program's. -/
theorem run_twin (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v7) = sums (F := F) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 := by
  rw [defs_eq]
  exact run_program (F := F) m ρ

end Twin

theorem frame_program : Cert.quiescent_LayerEnd := fun m ρ _ =>
  (θ_run Cert.LayerEnd.defs _ _).mono (fun r h => ⟨fun c => (h.1 c).2, h.2⟩) (run_program m ρ)
theorem frame_twin : Cert.quiescent_LayerEndIdeal := fun m ρ _ =>
  (θ_run Cert.LayerEndIdeal.defs _ _).mono (fun r h => ⟨fun c => (h.1 c).2, h.2⟩) (run_twin m ρ)
theorem frame_reference : Cert.quiescent_PairSumsIdeal := fun m ρ _ =>
  (θ_run Cert.PairSumsIdeal.defs _ _).mono (fun r h => ⟨fun c => (h c).2, sem_eq_zero_of_no_sems (by decide) r.2⟩)
    (Cert.PairSumsIdeal.Value.run m ρ)

/-! ## The values -/

/-- A device's operands cut from the whole arrays. -/
abbrev slotsAt (S : (⟨2, ![16, 1024]⟩ : Shape).Idx → BitVec 32) (c : Fin 4) : (⟨2, ![8, 1024]⟩ : Shape).Idx → BitVec 32 :=
  Layout.blockN ⟨2, ![8, 1024]⟩ ⟨2, ![16, 1024]⟩ (Layout.meshBlock [2, 2] ![[0], []] c) S
abbrev rowsAt (P : (⟨3, ![16, 640, 2048]⟩ : Shape).Idx → EReal) (c : Fin 4) : (⟨3, ![4, 640, 2048]⟩ : Shape).Idx → EReal :=
  Layout.block ⟨3, ![4, 640, 2048]⟩ ⟨3, ![16, 640, 2048]⟩ 0 4 c P

theorem side_lin (c : Fin 4) : Layout.meshLin [2, 2] c.val [0] = c.val / 2 := by revert c; decide

theorem slotsAt_apply (S : (⟨2, ![16, 1024]⟩ : Shape).Idx → BitVec 32) (c : Fin 4) (r : Fin 8) (a : Fin 1024) :
    slotsAt S c (ix2 r a) = S (ix2 ⟨c.val / 2 * 8 + r.val, by omega⟩ a) := by
  unfold slotsAt
  rw [Layout.blockN_apply]
  refine congrArg S (funext fun b => Fin.ext ?_)
  match b with
  | ⟨0, _⟩ =>
    show Layout.meshLin [2, 2] c.val [0] * 8 + r.val = c.val / 2 * 8 + r.val
    rw [side_lin]
  | ⟨1, _⟩ => show 0 * 1024 + a.val = a.val; omega

theorem rowsAt_apply (P : (⟨3, ![16, 640, 2048]⟩ : Shape).Idx → EReal) (c : Fin 4) (e : Fin 4) (k : Fin 640) (d : Fin 2048) :
    rowsAt P c (ix3 e k d) = P (ix3 ⟨c.val * 4 + e.val, by omega⟩ k d) := by
  unfold rowsAt
  rw [Layout.block_apply]
  refine congrArg P (funext fun a => Fin.ext ?_)
  match a with
  | ⟨0, _⟩ => exact Halves.idx_first _ c (ix3 e k d)
  | ⟨1, _⟩ => exact Halves.idx_other _ c (ix3 e k d) 0
  | ⟨2, _⟩ => exact Halves.idx_other _ c (ix3 e k d) 1

/-- All the experts' parts of row `q` of a device's tokens. -/
def term (S : (⟨2, ![16, 1024]⟩ : Shape).Idx → BitVec 32) (X Y : (⟨3, ![16, 640, 2048]⟩ : Shape).Idx → EReal) (c : Fin 4) (q : Fin 8192) (d : Fin 2048) : EReal :=
  ∑ e : Fin 4, Cert.ScatterArray.part (slotsAt S c (ix2 ⟨q.val / 1024, by omega⟩ ⟨q.val % 1024, Nat.mod_lt _ (by norm_num)⟩)) (rowsAt X c) (rowsAt Y c) (c.val % 2) e d

/-- One side's rows, read for device `y` of it, are that device's. -/
theorem side_term (S : (⟨2, ![16, 1024]⟩ : Shape).Idx → BitVec 32) (X Y : (⟨3, ![16, 640, 2048]⟩ : Shape).Idx → EReal) (c : Fin 4) (y : Fin 2) (hy : y.val = c.val % 2)
    (A : (⟨2, ![8, 1024]⟩ : Shape).Idx → BitVec 32) (P Q : (⟨3, ![8, 640, 2048]⟩ : Shape).Idx → EReal)
    (hA : ∀ (r : Fin 8) (a : Fin 1024), A (ix2 r a) = slotsAt S c (ix2 r a))
    (hP : ∀ (e : Fin 4) (k : Fin 640) (d : Fin 2048), P (ix3 ⟨y.val * 4 + e.val, by omega⟩ k d) = rowsAt X c (ix3 e k d))
    (hQ : ∀ (e : Fin 4) (k : Fin 640) (d : Fin 2048), Q (ix3 ⟨y.val * 4 + e.val, by omega⟩ k d) = rowsAt Y c (ix3 e k d)) (q : Fin 8192) (d : Fin 2048) :
    Cert.SlotReads.result A P Q (ix2 ⟨y.val * 8192 + q.val, by omega⟩ d) = term S X Y c q d := by
  have ht : Layout.Tiles ⟨2, ![8192, 2048]⟩ ⟨2, ![16384, 2048]⟩ 0 2 := by decide
  have hp : Layout.Tiles ⟨3, ![4, 640, 2048]⟩ ⟨3, ![8, 640, 2048]⟩ 0 2 := by decide
  have hi : ht.idx y (ix2 q d) = ix2 ⟨y.val * 8192 + q.val, by omega⟩ d := by
    funext a
    refine Fin.ext ?_
    match a with
    | ⟨0, _⟩ => exact Halves.idx_first ht y (ix2 q d)
    | ⟨1, _⟩ => exact Halves.idx_other ht y (ix2 q d) 0
  have eP : Layout.block ⟨3, ![4, 640, 2048]⟩ ⟨3, ![8, 640, 2048]⟩ 0 2 y P hp = rowsAt X c := funext fun i => by
    obtain ⟨e, k, d, rfl⟩ : ∃ (e : Fin 4) (k : Fin 640) (d : Fin 2048), i = ix3 e k d := ⟨i 0, i 1, i 2, eq_ix3 i⟩
    exact (ClaimsScatter.page y P hp e k d).trans (hP e k d)
  have eQ : Layout.block ⟨3, ![4, 640, 2048]⟩ ⟨3, ![8, 640, 2048]⟩ 0 2 y Q hp = rowsAt Y c := funext fun i => by
    obtain ⟨e, k, d, rfl⟩ : ∃ (e : Fin 4) (k : Fin 640) (d : Fin 2048), i = ix3 e k d := ⟨i 0, i 1, i 2, eq_ix3 i⟩
    exact (ClaimsScatter.page y Q hp e k d).trans (hQ e k d)
  have h := ClaimsScatter.block_entry y A P Q ht hp q d
  rw [Layout.block_apply, hi, eP, eQ, hA] at h
  exact h.trans (Finset.sum_congr rfl fun e _ => congrArg (fun n => Cert.ScatterArray.part _ (rowsAt X c) (rowsAt Y c) n e d) hy)

/-- Either side's rows read, by device and half. -/
theorem read0 (S : (⟨2, ![16, 1024]⟩ : Shape).Idx → BitVec 32) (X Y : (⟨3, ![16, 640, 2048]⟩ : Shape).Idx → EReal) (c : Fin 4) (y h : Fin 2) (hc : c.val = y.val)
    (q : Fin 4096) (d : Fin 2048) :
    PairSums.read (PairSums.slots0 S) (PairSums.pages0 X) (PairSums.pages0 Y) (ix4 y h q d) = term S X Y c ⟨h.val * 4096 + q.val, by omega⟩ d := by
  refine (PairSums.read_apply _ _ _ y h q d).trans (side_term S X Y c y (by omega) _ _ _ (fun r a => ?_) (fun e k d => ?_) (fun e k d => ?_) ⟨h.val * 4096 + q.val, by omega⟩ d)
  · refine (PairSums.slots0_apply S r a).trans ((slotsAt_apply S c r a).trans ?_).symm
    exact congrArg (fun g => S (ix2 g a)) (Fin.ext (show c.val / 2 * 8 + r.val = 0 + r.val by omega))
  · refine (PairSums.pages0_apply X _ k d).trans ((rowsAt_apply X c e k d).trans ?_).symm
    exact congrArg (fun g => X (ix3 g k d)) (Fin.ext (show c.val * 4 + e.val = 0 * 8 + (y.val * 4 + e.val) by omega))
  · refine (PairSums.pages0_apply Y _ k d).trans ((rowsAt_apply Y c e k d).trans ?_).symm
    exact congrArg (fun g => Y (ix3 g k d)) (Fin.ext (show c.val * 4 + e.val = 0 * 8 + (y.val * 4 + e.val) by omega))
theorem read1 (S : (⟨2, ![16, 1024]⟩ : Shape).Idx → BitVec 32) (X Y : (⟨3, ![16, 640, 2048]⟩ : Shape).Idx → EReal) (c : Fin 4) (y h : Fin 2) (hc : c.val = 2 + y.val)
    (q : Fin 4096) (d : Fin 2048) :
    PairSums.read (PairSums.slots1 S) (PairSums.pages1 X) (PairSums.pages1 Y) (ix4 y h q d) = term S X Y c ⟨h.val * 4096 + q.val, by omega⟩ d := by
  refine (PairSums.read_apply _ _ _ y h q d).trans (side_term S X Y c y (by omega) _ _ _ (fun r a => ?_) (fun e k d => ?_) (fun e k d => ?_) ⟨h.val * 4096 + q.val, by omega⟩ d)
  · refine (PairSums.slots1_apply S r a).trans ((slotsAt_apply S c r a).trans ?_).symm
    exact congrArg (fun g => S (ix2 g a)) (Fin.ext (show c.val / 2 * 8 + r.val = 8 + r.val by omega))
  · refine (PairSums.pages1_apply X _ k d).trans ((rowsAt_apply X c e k d).trans ?_).symm
    exact congrArg (fun g => X (ix3 g k d)) (Fin.ext (show c.val * 4 + e.val = 1 * 8 + (y.val * 4 + e.val) by omega))
  · refine (PairSums.pages1_apply Y _ k d).trans ((rowsAt_apply Y c e k d).trans ?_).symm
    exact congrArg (fun g => Y (ix3 g k d)) (Fin.ext (show c.val * 4 + e.val = 1 * 8 + (y.val * 4 + e.val) by omega))

/-- The reference's row `q` of device `c`: the device's row `q` and the second half's row `q` of its peer. -/
theorem reference_entry (S : (⟨2, ![16, 1024]⟩ : Shape).Idx → BitVec 32) (X Y : (⟨3, ![16, 640, 2048]⟩ : Shape).Idx → EReal) (c : Fin 4) (q : Fin 4096) (d : Fin 2048) :
    PairSums.result S X Y (ix2 ⟨c.val * 4096 + q.val, by omega⟩ d)
      = term S X Y c ⟨(0 : Fin 2).val * 4096 + q.val, by show 0 * 4096 + q.val < 8192; omega⟩ d
        + term S X Y (Cert.EndExchange.peer c) ⟨(1 : Fin 2).val * 4096 + q.val, by show 1 * 4096 + q.val < 8192; omega⟩ d := by
  have hp := Cert.EndExchange.peer_val c
  unfold PairSums.result
  by_cases hc : c.val < 2
  · refine (PairSums.both_first _ _ c ⟨c.val, hc⟩ (show c.val = 0 * 2 + c.val by omega) q d).trans ?_
    rw [read0 S X Y c ⟨c.val, hc⟩ 0 rfl q d, read1 S X Y (Cert.EndExchange.peer c) ⟨c.val, hc⟩ 1 (show (Cert.EndExchange.peer c).val = 2 + c.val by omega) q d]
  · refine (PairSums.both_second _ _ c ⟨c.val - 2, by omega⟩ (show c.val = 1 * 2 + (c.val - 2) by omega) q d).trans ?_
    rw [read1 S X Y c ⟨c.val - 2, by omega⟩ 0 (show c.val = 2 + (c.val - 2) by omega) q d,
      read0 S X Y (Cert.EndExchange.peer c) ⟨c.val - 2, by omega⟩ 1 (show (Cert.EndExchange.peer c).val = c.val - 2 by omega) q d]

section Program

open Cert.LayerEnd Cert.LayerEnd.Gen Cert.RunEnd

/-- A device's scatter at an entry, its operands being its pieces of the whole arrays. -/
theorem rows_entry (m : (ℓ : Loc nD τ sig) → Buf (Elt Ideal) ℓ) (S : (⟨2, ![16, 1024]⟩ : Shape).Idx → BitVec 32) (X Y : (⟨3, ![16, 640, 2048]⟩ : Shape).Idx → EReal) (c : Dev nD)
    (h0 : m ((c.tc : Thread nD τ).loc main_arg0) = slotsAt S c) (h1 : m ((c.tc : Thread nD τ).loc main_arg1) = rowsAt X c)
    (h2 : m ((c.tc : Thread nD τ).loc main_arg2) = rowsAt Y c) (q : Fin 8192) (d : Fin 2048) :
    (rows m c : S8192x2048.Idx → EReal) (ix2 q d) = term S X Y c q d := by
  have e0 : Cert.EndArray.slotsOf (W0 m) c = slotsAt S c := h0
  have e1 : Cert.EndArray.ownOf (W0 m) c = rowsAt X c := h1
  have e2 : Cert.EndArray.recvOf (W0 m) c = rowsAt Y c := h2
  refine (Cert.EndArray.array (W0 m) (Swap.O₀ Cert.EndExchange.S) c (ix2 q d)).trans ?_
  unfold Cert.EndArray.total Cert.EndArray.partOf term
  rw [e0, e1, e2]

theorem sums_entry (m : (ℓ : Loc nD τ sig) → Buf (Elt Ideal) ℓ) (c : Dev nD) (q : Fin 4096) (d : Fin 2048) :
    (sums m c : S4096x2048.Idx → EReal) (ix2 q d)
      = (rows m c : S8192x2048.Idx → EReal) (ix2 ⟨(0 : Fin 2).val * 4096 + q.val, by show 0 * 4096 + q.val < 8192; omega⟩ d)
        + (rows m (Cert.EndExchange.peer c) : S8192x2048.Idx → EReal) (ix2 ⟨(1 : Fin 2).val * 4096 + q.val, by show 1 * 4096 + q.val < 8192; omega⟩ d) := by
  unfold sums
  refine congr (congrArg (fun (a b : EReal) => a + b) ?_) ?_
  · refine (extractStridedSlice_apply _ (rows m c : S8192x2048.Idx → EReal) slices_S8192x2048_S4096x2048_0_0 _ _ fun a => ?_)
    match a with
    | ⟨0, _⟩ => show 0 * 4096 + q.val = 0 + q.val; omega
    | ⟨1, _⟩ => exact (Nat.zero_add _).symm
  · refine (extractStridedSlice_apply _ (rows m (Cert.EndExchange.peer c) : S8192x2048.Idx → EReal) slices_S8192x2048_S4096x2048_4096_0 _ _ fun a => ?_)
    match a with
    | ⟨0, _⟩ => show 1 * 4096 + q.val = 4096 + q.val; omega
    | ⟨1, _⟩ => exact (Nat.zero_add _).symm

end Program

/-- Each device's result is its block of the reference's. -/
theorem values : Cert.algebraic_LayerEndIdeal_PairSumsIdeal := by
  intro m g m' g' _ hm
  refine ⟨_, (θ_run Cert.LayerEndIdeal.defs _ _).mono (fun r h c => ⟨?_, (h.1 c).2⟩) (run_twin m g),
    (θ_run Cert.PairSumsIdeal.defs _ _).mono (fun r h => h 0) (Cert.PairSumsIdeal.Value.run m' g')⟩
  refine (h.1 c).1.trans (funext fun i => ?_)
  rw [PairSums.res_eq, Layout.block_apply]
  obtain ⟨q, d, rfl⟩ : ∃ (q : Fin 4096) (d : Fin 2048), i = ix2 q d := ⟨i 0, i 1, eq_ix2 i⟩
  have hi : ∀ ht : Layout.Tiles ⟨2, ![4096, 2048]⟩ ⟨2, ![16384, 2048]⟩ 0 4, ht.idx c (ix2 q d) = ix2 ⟨c.val * 4096 + q.val, by have : c.val < 4 := c.isLt; omega⟩ d := fun ht => by
    funext a
    refine Fin.ext ?_
    match a with
    | ⟨0, _⟩ => exact Halves.idx_first ht c (ix2 q d)
    | ⟨1, _⟩ => exact Halves.idx_other ht c (ix2 q d) 0
  rw [hi]
  refine (sums_entry m c q d).trans (Eq.trans ?_ (reference_entry _ _ _ c q d).symm)
  refine congr (congrArg (fun (a b : EReal) => a + b) ?_) ?_
  · exact rows_entry m _ _ _ c (hm c).1 (hm c).2.1 (hm c).2.2 _ d
  · exact rows_entry m _ _ _ (Cert.EndExchange.peer c) (hm _).1 (hm _).2.1 (hm _).2.2 _ d

end Cert.ClaimsEnd

end
-- ==== Proof.lean ====
/-
# The proof of the claim

The facts the programs state, then the frames of each call's program, twin and reference, then for each call that the twin
is the program read over the extended reals and that its values are the reference's. Each part is proved in the module of
its call.
-/
module

public import proofs.«01_k».proof.Defs
public import proofs.«01_k».proof.Proof.Gen.ExchangeX
public import proofs.«01_k».proof.Proof.Gen.ExchangeX.Skeleton
public import proofs.«01_k».proof.Proof.Gen.ExchangeX.Launch
public import proofs.«01_k».proof.Proof.Gen.ExchangeX.Points
public import proofs.«01_k».proof.Proof.Gen.ExchangeX.Frame
public import proofs.«01_k».proof.Proof.Gen.ExchangeXIdeal
public import proofs.«01_k».proof.Proof.Gen.ExchangeXIdeal.Skeleton
public import proofs.«01_k».proof.Proof.Gen.ExchangeXIdeal.Launch
public import proofs.«01_k».proof.Proof.Gen.ExchangeXIdeal.Points
public import proofs.«01_k».proof.Proof.Gen.ExchangeXIdeal.Frame
public import proofs.«01_k».proof.Proof.Gen.SwapXIdeal
public import proofs.«01_k».proof.Proof.Gen.SwapXIdeal.Run
public import proofs.«01_k».proof.Proof.Gen.SwapYIdeal.Run
public import proofs.«01_k».proof.Proof.Gen.SwapBackIdeal.Run
public import proofs.«01_k».proof.Proof.Gen.ExchangeY
public import proofs.«01_k».proof.Proof.Gen.ExchangeY.Skeleton
public import proofs.«01_k».proof.Proof.Gen.ExchangeY.Launch
public import proofs.«01_k».proof.Proof.Gen.ExchangeY.Points
public import proofs.«01_k».proof.Proof.Gen.ExchangeY.Frame
public import proofs.«01_k».proof.Proof.Gen.ExchangeYIdeal
public import proofs.«01_k».proof.Proof.Gen.ExchangeYIdeal.Skeleton
public import proofs.«01_k».proof.Proof.Gen.ExchangeYIdeal.Launch
public import proofs.«01_k».proof.Proof.Gen.ExchangeYIdeal.Points
public import proofs.«01_k».proof.Proof.Gen.ExchangeYIdeal.Frame
public import proofs.«01_k».proof.Proof.Gen.SwapYIdeal
public import proofs.«01_k».proof.Proof.Gen.ExchangeBack
public import proofs.«01_k».proof.Proof.Gen.ExchangeBack.Skeleton
public import proofs.«01_k».proof.Proof.Gen.ExchangeBack.Launch
public import proofs.«01_k».proof.Proof.Gen.ExchangeBack.Points
public import proofs.«01_k».proof.Proof.Gen.ExchangeBack.Frame
public import proofs.«01_k».proof.Proof.Gen.ExchangeBackIdeal
public import proofs.«01_k».proof.Proof.Gen.ExchangeBackIdeal.Skeleton
public import proofs.«01_k».proof.Proof.Gen.ExchangeBackIdeal.Launch
public import proofs.«01_k».proof.Proof.Gen.ExchangeBackIdeal.Points
public import proofs.«01_k».proof.Proof.Gen.ExchangeBackIdeal.Frame
public import proofs.«01_k».proof.Proof.Gen.SwapBackIdeal
public import proofs.«01_k».proof.Proof.ClaimsX
public import proofs.«01_k».proof.Proof.ClaimsY
public import proofs.«01_k».proof.Proof.ClaimsBack
public import proofs.«01_k».proof.Proof.ClaimsExperts
public import proofs.«01_k».proof.Proof.ClaimsGather
public import proofs.«01_k».proof.Proof.ClaimsScatter
public import proofs.«01_k».proof.Proof.ClaimsEnd
public import proofs.«01_k».proof.Proof.Gen.LayerEnd
public import proofs.«01_k».proof.Proof.Gen.LayerEnd.Skeleton
public import proofs.«01_k».proof.Proof.Gen.LayerEnd.Launch
public import proofs.«01_k».proof.Proof.Gen.LayerEnd.Points
public import proofs.«01_k».proof.Proof.Gen.LayerEnd.Regions
public import proofs.«01_k».proof.Proof.Gen.LayerEndIdeal
public import proofs.«01_k».proof.Proof.Gen.PairSumsIdeal
public import proofs.«01_k».proof.Proof.Gen.PairSumsIdeal.Run
public import proofs.«01_k».proof.Proof.Gen.GatherIdeal.Value
public import proofs.«01_k».proof.Proof.Gen.ScatterIdeal.Value
public import proofs.«01_k».proof.Proof.Gen.Gather.Frame
public import proofs.«01_k».proof.Proof.Gen.Scatter.Frame
public import proofs.«01_k».proof.Proof.Gen.SlotSumsIdeal.Run
public import proofs.«01_k».proof.Proof.Gen.SlotReadsIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.PerceptronsIdeal
public import proofs.«01_k».proof.Proof.Gen.PerceptronsIdeal.Run
public import Idealize.ShloMosaic.Adequacy
public import Idealize.ShloMosaic.Init

@[expose] public section

noncomputable section

namespace Cert.Proof

open Idealize.ShloMosaic Idealize.SL.Sem Cert.ExchangeX

theorem claim : Cert.Claim := ⟨Cert.ExchangeX.Gen.facts, Cert.ExchangeXIdeal.Gen.facts, Cert.SwapXIdeal.Gen.facts, Cert.ExchangeY.Gen.facts, Cert.ExchangeYIdeal.Gen.facts, Cert.SwapYIdeal.Gen.facts, Cert.ExchangeBack.Gen.facts, Cert.ExchangeBackIdeal.Gen.facts, Cert.SwapBackIdeal.Gen.facts,
  Cert.Experts.Gen.facts, Cert.ExpertsIdeal.Gen.facts, Cert.PerceptronsIdeal.Gen.facts,
  Cert.Gather.Gen.facts, Cert.GatherIdeal.Gen.facts, Cert.SlotSumsIdeal.Gen.facts, Cert.Scatter.Gen.facts, Cert.ScatterIdeal.Gen.facts, Cert.SlotReadsIdeal.Gen.facts,
  Cert.LayerEnd.Gen.facts, Cert.LayerEndIdeal.Gen.facts, Cert.PairSumsIdeal.Gen.facts,
  Cert.ClaimsX.frame_program, Cert.ClaimsX.frame_twin, Cert.ClaimsX.frame_reference,
  Cert.ClaimsY.frame_program, Cert.ClaimsY.frame_twin, Cert.ClaimsY.frame_reference,
  Cert.ClaimsBack.frame_program, Cert.ClaimsBack.frame_twin, Cert.ClaimsBack.frame_reference,
  Cert.ClaimsExperts.frame_program, Cert.ClaimsExperts.frame_twin, Cert.ClaimsExperts.frame_reference,
  Cert.ClaimsGather.frame_program, Cert.ClaimsGather.frame_twin, Cert.ClaimsGather.frame_reference,
  Cert.ClaimsScatter.frame_program, Cert.ClaimsScatter.frame_twin, Cert.ClaimsScatter.frame_reference,
  Cert.ClaimsEnd.frame_program, Cert.ClaimsEnd.frame_twin, Cert.ClaimsEnd.frame_reference,
  trivial, Cert.ClaimsX.values, trivial, Cert.ClaimsY.values, trivial, Cert.ClaimsBack.values,
  trivial, Cert.ClaimsExperts.values, trivial, Cert.ClaimsGather.values, trivial, Cert.ClaimsScatter.values,
  trivial, Cert.ClaimsEnd.values⟩

end Cert.Proof

end
